-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v5_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v5_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_v61) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x2048x2560 : Shape := ⟨3, ![16, 2048, 2560]⟩
abbrev S16x2048 : Shape := ⟨2, ![16, 2048]⟩
abbrev S2560x2304 : Shape := ⟨2, ![2560, 2304]⟩
abbrev S2304 : Shape := ⟨1, ![2304]⟩
abbrev S16x2304x2560 : Shape := ⟨3, ![16, 2304, 2560]⟩
abbrev S16x2304 : Shape := ⟨2, ![16, 2304]⟩
abbrev S16x1x2048 : Shape := ⟨3, ![16, 1, 2048]⟩
abbrev S16x1x2304 : Shape := ⟨3, ![16, 1, 2304]⟩
abbrev S1x2304 : Shape := ⟨2, ![1, 2304]⟩
abbrev S16x2048x2304 : Shape := ⟨3, ![16, 2048, 2304]⟩
abbrev S1x2048x2560 : Shape := ⟨3, ![1, 2048, 2560]⟩
abbrev S1x1x2048 : Shape := ⟨3, ![1, 1, 2048]⟩
abbrev S2560x256 : Shape := ⟨2, ![2560, 256]⟩
abbrev S1x256 : Shape := ⟨2, ![1, 256]⟩
abbrev S1x256x2560 : Shape := ⟨3, ![1, 256, 2560]⟩
abbrev S1x1x256 : Shape := ⟨3, ![1, 1, 256]⟩
abbrev S1x2048x256 : Shape := ⟨3, ![1, 2048, 256]⟩
abbrev S2048x128 : Shape := ⟨2, ![2048, 128]⟩
abbrev S1x2048 : Shape := ⟨2, ![1, 2048]⟩
abbrev S128x2048 : Shape := ⟨2, ![128, 2048]⟩
abbrev S256x2560 : Shape := ⟨2, ![256, 2560]⟩
abbrev S256x256 : Shape := ⟨2, ![256, 256]⟩
abbrev S256x1 : Shape := ⟨2, ![256, 1]⟩
abbrev S1x256x256 : Shape := ⟨3, ![1, 256, 256]⟩
abbrev S256 : Shape := ⟨1, ![256]⟩
abbrev S1x256x2304 : Shape := ⟨3, ![1, 256, 2304]⟩
abbrev S1x1x2304 : Shape := ⟨3, ![1, 1, 2304]⟩
abbrev S256x2304 : Shape := ⟨2, ![256, 2304]⟩
abbrev S128x256 : Shape := ⟨2, ![128, 256]⟩
abbrev S256x128 : Shape := ⟨2, ![256, 128]⟩
abbrev S1x512x2304 : Shape := ⟨3, ![1, 512, 2304]⟩
abbrev S1x2304x1280 : Shape := ⟨3, ![1, 2304, 1280]⟩
abbrev S1280x2304 : Shape := ⟨2, ![1280, 2304]⟩
abbrev S1x512x1280 : Shape := ⟨3, ![1, 512, 1280]⟩
abbrev S512x2304 : Shape := ⟨2, ![512, 2304]⟩
abbrev S2304x1280 : Shape := ⟨2, ![2304, 1280]⟩
abbrev S512x1280 : Shape := ⟨2, ![512, 1280]⟩
abbrev S1x2048x768 : Shape := ⟨3, ![1, 2048, 768]⟩
abbrev S1x768x2560 : Shape := ⟨3, ![1, 768, 2560]⟩
abbrev S2048x768 : Shape := ⟨2, ![2048, 768]⟩
abbrev S2048x2560 : Shape := ⟨2, ![2048, 2560]⟩
abbrev S768x2560 : Shape := ⟨2, ![768, 2560]⟩
abbrev S1x2048x512 : Shape := ⟨3, ![1, 2048, 512]⟩
abbrev S1x2048x2304 : Shape := ⟨3, ![1, 2048, 2304]⟩
abbrev S2048x512 : Shape := ⟨2, ![2048, 512]⟩
abbrev S2048x1 : Shape := ⟨2, ![2048, 1]⟩
abbrev S2048x2304 : Shape := ⟨2, ![2048, 2304]⟩

abbrev nBuf : Space → Nat
  | .hbm => 26
  | .vmem => 80
  | .smem => 0
  | _ => 0

abbrev bufTy : (tb : Table) → Fin (tcTables nBuf tb) → BufTy
  | .hbm, ⟨0, _⟩ => ⟨S16x2048x2560, .fp8e4m3⟩
  | .hbm, ⟨1, _⟩ => ⟨S16x2048, .f32⟩
  | .hbm, ⟨2, _⟩ => ⟨S2560x2304, .fp8e4m3⟩
  | .hbm, ⟨3, _⟩ => ⟨S2304, .f32⟩
  | .hbm, ⟨4, _⟩ => ⟨S16x2304x2560, .fp8e4m3⟩
  | .hbm, ⟨5, _⟩ => ⟨S16x2304, .f32⟩
  | .hbm, ⟨6, _⟩ => ⟨S16x2048x2560, .fp8e5m2⟩
  | .hbm, ⟨7, _⟩ => ⟨S16x2048, .f32⟩
  | .hbm, ⟨8, _⟩ => ⟨S16x2304x2560, .bf16⟩
  | .hbm, ⟨9, _⟩ => ⟨S16x1x2048, .f32⟩
  | .hbm, ⟨10, _⟩ => ⟨S16x1x2048, .f32⟩
  | .hbm, ⟨11, _⟩ => ⟨S16x1x2304, .f32⟩
  | .hbm, ⟨12, _⟩ => ⟨S1x2304, .f32⟩
  | .hbm, ⟨13, _⟩ => ⟨S16x2048x2304, .f32⟩
  | .hbm, ⟨14, _⟩ => ⟨S16x2048x2304, .f32⟩
  | .hbm, ⟨15, _⟩ => ⟨S16x2048x2304, .f32⟩
  | .hbm, ⟨16, _⟩ => ⟨S16x1x2304, .f32⟩
  | .hbm, ⟨17, _⟩ => ⟨S16x1x2304, .f32⟩
  | .hbm, ⟨18, _⟩ => ⟨S16x1x2304, .f32⟩
  | .hbm, ⟨19, _⟩ => ⟨S16x2048x2304, .f32⟩
  | .hbm, ⟨20, _⟩ => ⟨S16x2048x2304, .bf16⟩
  | .hbm, ⟨21, _⟩ => ⟨S16x2048x2304, .bf16⟩
  | .hbm, ⟨22, _⟩ => ⟨S16x2048x2304, .bf16⟩
  | .hbm, ⟨23, _⟩ => ⟨S16x2048x2560, .bf16⟩
  | .hbm, ⟨24, _⟩ => ⟨S16x2304x2560, .bf16⟩
  | .hbm, ⟨25, _⟩ => ⟨S2560x2304, .bf16⟩
  | .local _ .vmem, ⟨0, _⟩ => ⟨S1x2048x2560, .fp8e4m3⟩
  | .local _ .vmem, ⟨1, _⟩ => ⟨S1x2048x2560, .fp8e4m3⟩
  | .local _ .vmem, ⟨2, _⟩ => ⟨S1x1x2048, .f32⟩
  | .local _ .vmem, ⟨3, _⟩ => ⟨S1x1x2048, .f32⟩
  | .local _ .vmem, ⟨4, _⟩ => ⟨S2560x256, .fp8e4m3⟩
  | .local _ .vmem, ⟨5, _⟩ => ⟨S2560x256, .fp8e4m3⟩
  | .local _ .vmem, ⟨6, _⟩ => ⟨S1x256, .f32⟩
  | .local _ .vmem, ⟨7, _⟩ => ⟨S1x256, .f32⟩
  | .local _ .vmem, ⟨8, _⟩ => ⟨S1x2048x2560, .fp8e5m2⟩
  | .local _ .vmem, ⟨9, _⟩ => ⟨S1x2048x2560, .fp8e5m2⟩
  | .local _ .vmem, ⟨10, _⟩ => ⟨S1x1x2048, .f32⟩
  | .local _ .vmem, ⟨11, _⟩ => ⟨S1x1x2048, .f32⟩
  | .local _ .vmem, ⟨12, _⟩ => ⟨S1x256x2560, .fp8e4m3⟩
  | .local _ .vmem, ⟨13, _⟩ => ⟨S1x256x2560, .fp8e4m3⟩
  | .local _ .vmem, ⟨14, _⟩ => ⟨S1x1x256, .f32⟩
  | .local _ .vmem, ⟨15, _⟩ => ⟨S1x1x256, .f32⟩
  | .local _ .vmem, ⟨16, _⟩ => ⟨S1x256x2560, .bf16⟩
  | .local _ .vmem, ⟨17, _⟩ => ⟨S1x256x2560, .bf16⟩
  | .local _ .vmem, ⟨18, _⟩ => ⟨S1x2048x256, .f32⟩
  | .local _ .vmem, ⟨19, _⟩ => ⟨S1x2048x256, .f32⟩
  | .local _ .vmem, ⟨20, _⟩ => ⟨S1x2048x256, .f32⟩
  | .local _ .vmem, ⟨21, _⟩ => ⟨S1x2048x256, .f32⟩
  | .local _ .vmem, ⟨22, _⟩ => ⟨S1x2048x256, .f32⟩
  | .local _ .vmem, ⟨23, _⟩ => ⟨S1x2048x256, .f32⟩
  | .local _ .vmem, ⟨24, _⟩ => ⟨S1x1x256, .f32⟩
  | .local _ .vmem, ⟨25, _⟩ => ⟨S1x1x256, .f32⟩
  | .local _ .vmem, ⟨26, _⟩ => ⟨S1x1x256, .f32⟩
  | .local _ .vmem, ⟨27, _⟩ => ⟨S1x1x256, .f32⟩
  | .local _ .vmem, ⟨28, _⟩ => ⟨S1x1x256, .f32⟩
  | .local _ .vmem, ⟨29, _⟩ => ⟨S1x1x256, .f32⟩
  | .local _ .vmem, ⟨30, _⟩ => ⟨S2048x128, .f32⟩
  | .local _ .vmem, ⟨31, _⟩ => ⟨S2048x128, .f32⟩
  | .local _ .vmem, ⟨32, _⟩ => ⟨S1x256x2304, .f32⟩
  | .local _ .vmem, ⟨33, _⟩ => ⟨S1x256x2304, .f32⟩
  | .local _ .vmem, ⟨34, _⟩ => ⟨S1x256x2304, .f32⟩
  | .local _ .vmem, ⟨35, _⟩ => ⟨S1x256x2304, .f32⟩
  | .local _ .vmem, ⟨36, _⟩ => ⟨S1x256x2304, .f32⟩
  | .local _ .vmem, ⟨37, _⟩ => ⟨S1x256x2304, .f32⟩
  | .local _ .vmem, ⟨38, _⟩ => ⟨S1x1x256, .f32⟩
  | .local _ .vmem, ⟨39, _⟩ => ⟨S1x1x256, .f32⟩
  | .local _ .vmem, ⟨40, _⟩ => ⟨S1x1x2304, .f32⟩
  | .local _ .vmem, ⟨41, _⟩ => ⟨S1x1x2304, .f32⟩
  | .local _ .vmem, ⟨42, _⟩ => ⟨S1x1x2304, .f32⟩
  | .local _ .vmem, ⟨43, _⟩ => ⟨S1x1x2304, .f32⟩
  | .local _ .vmem, ⟨44, _⟩ => ⟨S1x1x2304, .f32⟩
  | .local _ .vmem, ⟨45, _⟩ => ⟨S1x1x2304, .f32⟩
  | .local _ .vmem, ⟨46, _⟩ => ⟨S1x256x2304, .f32⟩
  | .local _ .vmem, ⟨47, _⟩ => ⟨S1x256x2304, .f32⟩
  | .local _ .vmem, ⟨48, _⟩ => ⟨S1x256x2304, .bf16⟩
  | .local _ .vmem, ⟨49, _⟩ => ⟨S1x256x2304, .bf16⟩
  | .local _ .vmem, ⟨50, _⟩ => ⟨S1x256x2304, .bf16⟩
  | .local _ .vmem, ⟨51, _⟩ => ⟨S1x256x2304, .bf16⟩
  | .local _ .vmem, ⟨52, _⟩ => ⟨S1x256x2304, .bf16⟩
  | .local _ .vmem, ⟨53, _⟩ => ⟨S1x256x2304, .bf16⟩
  | .local _ .vmem, ⟨54, _⟩ => ⟨S1x512x2304, .bf16⟩
  | .local _ .vmem, ⟨55, _⟩ => ⟨S1x512x2304, .bf16⟩
  | .local _ .vmem, ⟨56, _⟩ => ⟨S1x512x2304, .bf16⟩
  | .local _ .vmem, ⟨57, _⟩ => ⟨S1x512x2304, .bf16⟩
  | .local _ .vmem, ⟨58, _⟩ => ⟨S1x2304x1280, .bf16⟩
  | .local _ .vmem, ⟨59, _⟩ => ⟨S1x2304x1280, .bf16⟩
  | .local _ .vmem, ⟨60, _⟩ => ⟨S1280x2304, .fp8e4m3⟩
  | .local _ .vmem, ⟨61, _⟩ => ⟨S1280x2304, .fp8e4m3⟩
  | .local _ .vmem, ⟨62, _⟩ => ⟨S1x2304, .f32⟩
  | .local _ .vmem, ⟨63, _⟩ => ⟨S1x512x1280, .bf16⟩
  | .local _ .vmem, ⟨64, _⟩ => ⟨S1x512x1280, .bf16⟩
  | .local _ .vmem, ⟨65, _⟩ => ⟨S1x2048x768, .bf16⟩
  | .local _ .vmem, ⟨66, _⟩ => ⟨S1x2048x768, .bf16⟩
  | .local _ .vmem, ⟨67, _⟩ => ⟨S1x2048x2560, .fp8e5m2⟩
  | .local _ .vmem, ⟨68, _⟩ => ⟨S1x2048x2560, .fp8e5m2⟩
  | .local _ .vmem, ⟨69, _⟩ => ⟨S1x768x2560, .bf16⟩
  | .local _ .vmem, ⟨70, _⟩ => ⟨S1x768x2560, .bf16⟩
  | .local _ .vmem, ⟨71, _⟩ => ⟨S1x2048x512, .fp8e4m3⟩
  | .local _ .vmem, ⟨72, _⟩ => ⟨S1x2048x512, .fp8e4m3⟩
  | .local _ .vmem, ⟨73, _⟩ => ⟨S1x1x2048, .f32⟩
  | .local _ .vmem, ⟨74, _⟩ => ⟨S1x1x2048, .f32⟩
  | .local _ .vmem, ⟨75, _⟩ => ⟨S1x2048x2304, .bf16⟩
  | .local _ .vmem, ⟨76, _⟩ => ⟨S1x2048x2304, .bf16⟩
  | .local _ .vmem, ⟨77, _⟩ => ⟨S512x2304, .bf16⟩
  | .local _ .vmem, ⟨78, _⟩ => ⟨S512x2304, .bf16⟩
  | .local _ .vmem, ⟨79, _⟩ => ⟨S512x2304, .f32⟩
  | _, _ => ⟨S16x2048x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 77 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  ofTc nBuf bufTy 0 77 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev main_v4_5 : Ref sig .tc := ⟨.hbm, 18, rfl⟩
abbrev main_v5_0 : Ref sig .tc := ⟨.hbm, 19, rfl⟩
abbrev main_v5_1 : Ref sig .tc := ⟨.hbm, 20, rfl⟩
abbrev main_v5_2 : Ref sig .tc := ⟨.hbm, 21, rfl⟩
abbrev main_v5_3 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc1_stg0_0 : Ref sig .tc := ⟨.vmem, 32, rfl⟩
abbrev cc1_stg0_1 : Ref sig .tc := ⟨.vmem, 33, rfl⟩
abbrev cc1_stg1_0 : Ref sig .tc := ⟨.vmem, 34, rfl⟩
abbrev cc1_stg1_1 : Ref sig .tc := ⟨.vmem, 35, rfl⟩
abbrev cc1_stg2_0 : Ref sig .tc := ⟨.vmem, 36, rfl⟩
abbrev cc1_stg2_1 : Ref sig .tc := ⟨.vmem, 37, rfl⟩
abbrev cc1_stg3_0 : Ref sig .tc := ⟨.vmem, 38, rfl⟩
abbrev cc1_stg3_1 : Ref sig .tc := ⟨.vmem, 39, rfl⟩
abbrev cc1_stg4_0 : Ref sig .tc := ⟨.vmem, 40, rfl⟩
abbrev cc1_stg4_1 : Ref sig .tc := ⟨.vmem, 41, rfl⟩
abbrev cc1_stg5_0 : Ref sig .tc := ⟨.vmem, 42, rfl⟩
abbrev cc1_stg5_1 : Ref sig .tc := ⟨.vmem, 43, rfl⟩
abbrev cc1_stg6_0 : Ref sig .tc := ⟨.vmem, 44, rfl⟩
abbrev cc1_stg6_1 : Ref sig .tc := ⟨.vmem, 45, rfl⟩
abbrev cc1_stg7_0 : Ref sig .tc := ⟨.vmem, 46, rfl⟩
abbrev cc1_stg7_1 : Ref sig .tc := ⟨.vmem, 47, rfl⟩
abbrev cc1_stg8_0 : Ref sig .tc := ⟨.vmem, 48, rfl⟩
abbrev cc1_stg8_1 : Ref sig .tc := ⟨.vmem, 49, rfl⟩
abbrev cc1_stg9_0 : Ref sig .tc := ⟨.vmem, 50, rfl⟩
abbrev cc1_stg9_1 : Ref sig .tc := ⟨.vmem, 51, rfl⟩
abbrev cc1_stg10_0 : Ref sig .tc := ⟨.vmem, 52, rfl⟩
abbrev cc1_stg10_1 : Ref sig .tc := ⟨.vmem, 53, rfl⟩
abbrev cc2_stg0_0 : Ref sig .tc := ⟨.vmem, 54, rfl⟩
abbrev cc2_stg0_1 : Ref sig .tc := ⟨.vmem, 55, rfl⟩
abbrev cc2_stg1_0 : Ref sig .tc := ⟨.vmem, 56, rfl⟩
abbrev cc2_stg1_1 : Ref sig .tc := ⟨.vmem, 57, rfl⟩
abbrev cc2_stg2_0 : Ref sig .tc := ⟨.vmem, 58, rfl⟩
abbrev cc2_stg2_1 : Ref sig .tc := ⟨.vmem, 59, rfl⟩
abbrev cc2_stg3_0 : Ref sig .tc := ⟨.vmem, 60, rfl⟩
abbrev cc2_stg3_1 : Ref sig .tc := ⟨.vmem, 61, rfl⟩
abbrev cc2_stg4_0 : Ref sig .tc := ⟨.vmem, 62, rfl⟩
abbrev cc2_stg5_0 : Ref sig .tc := ⟨.vmem, 63, rfl⟩
abbrev cc2_stg5_1 : Ref sig .tc := ⟨.vmem, 64, rfl⟩
abbrev cc3_stg0_0 : Ref sig .tc := ⟨.vmem, 65, rfl⟩
abbrev cc3_stg0_1 : Ref sig .tc := ⟨.vmem, 66, rfl⟩
abbrev cc3_stg1_0 : Ref sig .tc := ⟨.vmem, 67, rfl⟩
abbrev cc3_stg1_1 : Ref sig .tc := ⟨.vmem, 68, rfl⟩
abbrev cc3_stg2_0 : Ref sig .tc := ⟨.vmem, 69, rfl⟩
abbrev cc3_stg2_1 : Ref sig .tc := ⟨.vmem, 70, rfl⟩
abbrev cc4_stg0_0 : Ref sig .tc := ⟨.vmem, 71, rfl⟩
abbrev cc4_stg0_1 : Ref sig .tc := ⟨.vmem, 72, rfl⟩
abbrev cc4_stg1_0 : Ref sig .tc := ⟨.vmem, 73, rfl⟩
abbrev cc4_stg1_1 : Ref sig .tc := ⟨.vmem, 74, rfl⟩
abbrev cc4_stg2_0 : Ref sig .tc := ⟨.vmem, 75, rfl⟩
abbrev cc4_stg2_1 : Ref sig .tc := ⟨.vmem, 76, rfl⟩
abbrev cc4_stg3_0 : Ref sig .tc := ⟨.vmem, 77, rfl⟩
abbrev cc4_stg3_1 : Ref sig .tc := ⟨.vmem, 78, rfl⟩
abbrev cc4_scratch0 : Ref sig .tc := ⟨.vmem, 79, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc1_sem0_0 : DmaSem sig := 30
abbrev cc1_sem0_1 : DmaSem sig := 31
abbrev cc1_sem1_0 : DmaSem sig := 32
abbrev cc1_sem1_1 : DmaSem sig := 33
abbrev cc1_sem2_0 : DmaSem sig := 34
abbrev cc1_sem2_1 : DmaSem sig := 35
abbrev cc1_sem3_0 : DmaSem sig := 36
abbrev cc1_sem3_1 : DmaSem sig := 37
abbrev cc1_sem4_0 : DmaSem sig := 38
abbrev cc1_sem4_1 : DmaSem sig := 39
abbrev cc1_sem5_0 : DmaSem sig := 40
abbrev cc1_sem5_1 : DmaSem sig := 41
abbrev cc1_sem6_0 : DmaSem sig := 42
abbrev cc1_sem6_1 : DmaSem sig := 43
abbrev cc1_sem7_0 : DmaSem sig := 44
abbrev cc1_sem7_1 : DmaSem sig := 45
abbrev cc1_sem8_0 : DmaSem sig := 46
abbrev cc1_sem8_1 : DmaSem sig := 47
abbrev cc1_sem9_0 : DmaSem sig := 48
abbrev cc1_sem9_1 : DmaSem sig := 49
abbrev cc1_sem10_0 : DmaSem sig := 50
abbrev cc1_sem10_1 : DmaSem sig := 51
abbrev cc2_sem0_0 : DmaSem sig := 52
abbrev cc2_sem0_1 : DmaSem sig := 53
abbrev cc2_sem1_0 : DmaSem sig := 54
abbrev cc2_sem1_1 : DmaSem sig := 55
abbrev cc2_sem2_0 : DmaSem sig := 56
abbrev cc2_sem2_1 : DmaSem sig := 57
abbrev cc2_sem3_0 : DmaSem sig := 58
abbrev cc2_sem3_1 : DmaSem sig := 59
abbrev cc2_sem4_0 : DmaSem sig := 60
abbrev cc2_sem5_0 : DmaSem sig := 61
abbrev cc2_sem5_1 : DmaSem sig := 62
abbrev cc3_sem0_0 : DmaSem sig := 63
abbrev cc3_sem0_1 : DmaSem sig := 64
abbrev cc3_sem1_0 : DmaSem sig := 65
abbrev cc3_sem1_1 : DmaSem sig := 66
abbrev cc3_sem2_0 : DmaSem sig := 67
abbrev cc3_sem2_1 : DmaSem sig := 68
abbrev cc4_sem0_0 : DmaSem sig := 69
abbrev cc4_sem0_1 : DmaSem sig := 70
abbrev cc4_sem1_0 : DmaSem sig := 71
abbrev cc4_sem1_1 : DmaSem sig := 72
abbrev cc4_sem2_0 : DmaSem sig := 73
abbrev cc4_sem2_1 : DmaSem sig := 74
abbrev cc4_sem3_0 : DmaSem sig := 75
abbrev cc4_sem3_1 : DmaSem sig := 76

abbrev nD : Nat := 1
abbrev τ : Topo := Topo.v7x

variable {F : FTy → Type} [FloatOps F]

abbrev grid0 : Pipeline.Grid := ⟨2, ![16, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x2560 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2560x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x2560 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x2560 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2560 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2048x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev grid1 : Pipeline.Grid := ⟨2, ![16, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x2304 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x2304 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x2304 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x2304 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1x2304 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x1x2304 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x256x2304 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x256x2304 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x256x2304 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x256x2304 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev grid2 : Pipeline.Grid := ⟨3, ![16, 2, 4], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage2_0 : Fin 2 → Memref sig .tc .vmem S1x512x2304 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x512x2304 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x2304x1280 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1280x2304 .fp8e4m3 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, false]

abbrev stage2_4 : Fin 1 → Memref sig .tc .vmem S1x2304 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false, false]

abbrev stage2_5 : Fin 2 → Memref sig .tc .vmem S1x512x1280 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, true]

abbrev grid3 : Pipeline.Grid := ⟨2, ![16, 3], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x2048x768 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2048x2560 .fp8e5m2 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x768x2560 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![5, 16], ![false, false]⟩

def k4_cond2 (i : grid4.Coords) : BitVec 1 :=
  let arg1 : BitVec 32 := BitVec.ofNat 32 (i 1).val
  let c15_i32 : BitVec 32 := 15#32
  let v23 : BitVec 1 := Scalar.cmpi .eq arg1 c15_i32
  let v24 : BitVec 32 := Scalar.extui v23
  let c0_i32_13 : BitVec 32 := 0#32
  let v25 : BitVec 1 := Scalar.cmpi .ne v24 c0_i32_13
  v25

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1x2048x512 .fp8e4m3 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x1x2048 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1x2048x2304 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S512x2304 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]
-- ==== ReferenceIdeal.lean ====
abbrev S16x2048x2560 : Shape := ⟨3, ![16, 2048, 2560]⟩
abbrev S16x2048 : Shape := ⟨2, ![16, 2048]⟩
abbrev S2560x2304 : Shape := ⟨2, ![2560, 2304]⟩
abbrev S2304 : Shape := ⟨1, ![2304]⟩
abbrev S16x2304x2560 : Shape := ⟨3, ![16, 2304, 2560]⟩
abbrev S16x2304 : Shape := ⟨2, ![16, 2304]⟩
abbrev S16x2048x2304 : Shape := ⟨3, ![16, 2048, 2304]⟩
abbrev S16x2048x1 : Shape := ⟨3, ![16, 2048, 1]⟩
abbrev S1x1x2304 : Shape := ⟨3, ![1, 1, 2304]⟩
abbrev S_ : Shape := ⟨0, ![]⟩
abbrev S16x1x2304 : Shape := ⟨3, ![16, 1, 2304]⟩
abbrev S1x2304 : Shape := ⟨2, ![1, 2304]⟩

abbrev nBuf : Space → Nat
  | .hbm => 96
  | .vmem => 8
  | .smem => 0
  | _ => 0

abbrev bufTy : (tb : Table) → Fin (tcTables nBuf tb) → BufTy
  | .hbm, ⟨0, _⟩ => ⟨S16x2048x2560, .fp8e4m3⟩
  | .hbm, ⟨1, _⟩ => ⟨S16x2048, .f32⟩
  | .hbm, ⟨2, _⟩ => ⟨S2560x2304, .fp8e4m3⟩
  | .hbm, ⟨3, _⟩ => ⟨S2304, .f32⟩
  | .hbm, ⟨4, _⟩ => ⟨S16x2304x2560, .fp8e4m3⟩
  | .hbm, ⟨5, _⟩ => ⟨S16x2304, .f32⟩
  | .hbm, ⟨6, _⟩ => ⟨S16x2048x2560, .fp8e5m2⟩
  | .hbm, ⟨7, _⟩ => ⟨S16x2048, .f32⟩
  | .hbm, ⟨8, _⟩ => ⟨S16x2304x2560, .bf16⟩
  | .hbm, ⟨9, _⟩ => ⟨S16x2048x2560, .bf16⟩
  | .hbm, ⟨10, _⟩ => ⟨S2560x2304, .bf16⟩
  | .hbm, ⟨11, _⟩ => ⟨S16x2304x2560, .bf16⟩
  | .hbm, ⟨12, _⟩ => ⟨S16x2048x2560, .bf16⟩
  | .hbm, ⟨13, _⟩ => ⟨S16x2048x2304, .f32⟩
  | .hbm, ⟨14, _⟩ => ⟨S16x2048x1, .f32⟩
  | .hbm, ⟨15, _⟩ => ⟨S16x2048x2304, .f32⟩
  | .hbm, ⟨16, _⟩ => ⟨S16x2048x2304, .f32⟩
  | .hbm, ⟨17, _⟩ => ⟨S1x1x2304, .f32⟩
  | .hbm, ⟨18, _⟩ => ⟨S16x2048x2304, .f32⟩
  | .hbm, ⟨19, _⟩ => ⟨S16x2048x2304, .f32⟩
  | .hbm, ⟨20, _⟩ => ⟨S_, .f32⟩
  | .hbm, ⟨21, _⟩ => ⟨S16x2304, .f32⟩
  | .hbm, ⟨22, _⟩ => ⟨S16x1x2304, .f32⟩
  | .hbm, ⟨23, _⟩ => ⟨S16x2048x2304, .f32⟩
  | .hbm, ⟨24, _⟩ => ⟨S16x2048x2304, .f32⟩
  | .hbm, ⟨25, _⟩ => ⟨S16x2048x2304, .f32⟩
  | .hbm, ⟨26, _⟩ => ⟨S_, .f32⟩
  | .hbm, ⟨27, _⟩ => ⟨S16x2304, .f32⟩
  | .hbm, ⟨28, _⟩ => ⟨S16x1x2304, .f32⟩
  | .hbm, ⟨29, _⟩ => ⟨S_, .f32⟩
  | .hbm, ⟨30, _⟩ => ⟨S16x1x2304, .f32⟩
  | .hbm, ⟨31, _⟩ => ⟨S16x1x2304, .f32⟩
  | .hbm, ⟨32, _⟩ => ⟨S16x2048x2304, .f32⟩
  | .hbm, ⟨33, _⟩ => ⟨S16x2048x2304, .f32⟩
  | .hbm, ⟨34, _⟩ => ⟨S_, .f32⟩
  | .hbm, ⟨35, _⟩ => ⟨S16x2048, .f32⟩
  | .hbm, ⟨36, _⟩ => ⟨S16x2048x1, .f32⟩
  | .hbm, ⟨37, _⟩ => ⟨S16x2048x2304, .f32⟩
  | .hbm, ⟨38, _⟩ => ⟨S16x2048x2304, .f32⟩
  | .hbm, ⟨39, _⟩ => ⟨S16x2048x2304, .f32⟩
  | .hbm, ⟨40, _⟩ => ⟨S_, .f32⟩
  | .hbm, ⟨41, _⟩ => ⟨S16x2048, .f32⟩
  | .hbm, ⟨42, _⟩ => ⟨S16x2048x1, .f32⟩
  | .hbm, ⟨43, _⟩ => ⟨S_, .f32⟩
  | .hbm, ⟨44, _⟩ => ⟨S16x2048x1, .f32⟩
  | .hbm, ⟨45, _⟩ => ⟨S16x2048x1, .f32⟩
  | .hbm, ⟨46, _⟩ => ⟨S16x2048x2304, .f32⟩
  | .hbm, ⟨47, _⟩ => ⟨S16x2048x2304, .f32⟩
  | .hbm, ⟨48, _⟩ => ⟨S16x2048x2304, .f32⟩
  | .hbm, ⟨49, _⟩ => ⟨S16x2048x1, .f32⟩
  | .hbm, ⟨50, _⟩ => ⟨S16x2048x2304, .f32⟩
  | .hbm, ⟨51, _⟩ => ⟨S16x2048x2304, .f32⟩
  | .hbm, ⟨52, _⟩ => ⟨S16x1x2304, .f32⟩
  | .hbm, ⟨53, _⟩ => ⟨S16x2048x2304, .f32⟩
  | .hbm, ⟨54, _⟩ => ⟨S16x2048x2304, .f32⟩
  | .hbm, ⟨55, _⟩ => ⟨S16x2048x2304, .f32⟩
  | .hbm, ⟨56, _⟩ => ⟨S_, .f32⟩
  | .hbm, ⟨57, _⟩ => ⟨S16x2048, .f32⟩
  | .hbm, ⟨58, _⟩ => ⟨S16x2048x1, .f32⟩
  | .hbm, ⟨59, _⟩ => ⟨S16x2048x2304, .f32⟩
  | .hbm, ⟨60, _⟩ => ⟨S16x2048x2304, .f32⟩
  | .hbm, ⟨61, _⟩ => ⟨S16x2048x2304, .f32⟩
  | .hbm, ⟨62, _⟩ => ⟨S16x2048x1, .f32⟩
  | .hbm, ⟨63, _⟩ => ⟨S16x2048x2304, .f32⟩
  | .hbm, ⟨64, _⟩ => ⟨S16x2048x2304, .f32⟩
  | .hbm, ⟨65, _⟩ => ⟨S16x2048x2304, .bf16⟩
  | .hbm, ⟨66, _⟩ => ⟨S16x2304x2560, .f32⟩
  | .hbm, ⟨67, _⟩ => ⟨S16x2304x2560, .bf16⟩
  | .hbm, ⟨68, _⟩ => ⟨S16x2048x2304, .f32⟩
  | .hbm, ⟨69, _⟩ => ⟨S16x2048x1, .f32⟩
  | .hbm, ⟨70, _⟩ => ⟨S16x2048x2304, .f32⟩
  | .hbm, ⟨71, _⟩ => ⟨S16x2048x2304, .f32⟩
  | .hbm, ⟨72, _⟩ => ⟨S16x2048x2304, .f32⟩
  | .hbm, ⟨73, _⟩ => ⟨S_, .f32⟩
  | .hbm, ⟨74, _⟩ => ⟨S16x2304, .f32⟩
  | .hbm, ⟨75, _⟩ => ⟨S16x1x2304, .f32⟩
  | .hbm, ⟨76, _⟩ => ⟨S16x2048x2304, .f32⟩
  | .hbm, ⟨77, _⟩ => ⟨S16x2048x2304, .f32⟩
  | .hbm, ⟨78, _⟩ => ⟨S16x2048x2304, .f32⟩
  | .hbm, ⟨79, _⟩ => ⟨S16x2048x2304, .bf16⟩
  | .hbm, ⟨80, _⟩ => ⟨S16x2048x2560, .f32⟩
  | .hbm, ⟨81, _⟩ => ⟨S16x2048x2304, .f32⟩
  | .hbm, ⟨82, _⟩ => ⟨S16x2048x2304, .bf16⟩
  | .hbm, ⟨83, _⟩ => ⟨S2304, .bf16⟩
  | .hbm, ⟨84, _⟩ => ⟨S1x2304, .bf16⟩
  | .hbm, ⟨85, _⟩ => ⟨S2560x2304, .bf16⟩
  | .hbm, ⟨86, _⟩ => ⟨S2560x2304, .bf16⟩
  | .hbm, ⟨87, _⟩ => ⟨S16x2048x2560, .f32⟩
  | .hbm, ⟨88, _⟩ => ⟨S16x2048, .bf16⟩
  | .hbm, ⟨89, _⟩ => ⟨S16x2048x1, .bf16⟩
  | .hbm, ⟨90, _⟩ => ⟨S16x2048x2560, .bf16⟩
  | .hbm, ⟨91, _⟩ => ⟨S16x2048x2560, .bf16⟩
  | .hbm, ⟨92, _⟩ => ⟨S2560x2304, .f32⟩
  | .hbm, ⟨93, _⟩ => ⟨S2560x2304, .bf16⟩
  | .hbm, ⟨94, _⟩ => ⟨S16x2048x2560, .f32⟩
  | .hbm, ⟨95, _⟩ => ⟨S16x2048x2560, .bf16⟩
  | .local _ .vmem, ⟨0, _⟩ => ⟨S16x2048x2560, .fp8e4m3⟩
  | .local _ .vmem, ⟨1, _⟩ => ⟨S2560x2304, .fp8e4m3⟩
  | .local _ .vmem, ⟨2, _⟩ => ⟨S16x2304x2560, .fp8e4m3⟩
  | .local _ .vmem, ⟨3, _⟩ => ⟨S16x2048x2560, .fp8e5m2⟩
  | .local _ .vmem, ⟨4, _⟩ => ⟨S16x2048x2560, .bf16⟩
  | .local _ .vmem, ⟨5, _⟩ => ⟨S2560x2304, .bf16⟩
  | .local _ .vmem, ⟨6, _⟩ => ⟨S16x2304x2560, .bf16⟩
  | .local _ .vmem, ⟨7, _⟩ => ⟨S16x2048x2560, .bf16⟩
  | _, _ => ⟨S16x2048x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_6 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S16x2048x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2560x2304 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x2304x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x2048x2560 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x2048x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2560x2304 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x2304x2560 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x2048x2560 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.K.Region0.lean ====
/- Kernel: the first call (`scores`): what a grid point leaves in the outputs and the two scratch buffers, and the body obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Whole

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! # REGION 0 of @main: custom_call 0, `cc0_scores` (pipeline 0), at the entry contents `V` -/

/-! ## The windows' blocks -/

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 9 = 0 :=
  (fun t => by
    have ht : t.val < 144 := Nat.lt_of_lt_of_eq t.isLt N_0
    have e0 : (grid0.coords t 0).val = t.val / 9 % 16 := Pipeline.Grid.coords_val t 0 (by decide) rfl
    have e1 : (grid0.coords t 1).val = t.val / 1 % 9 := Pipeline.Grid.coords_val t 1 (by decide) rfl
    simp only [cond0_0, e0, e1]
    word_cmp
   : ∀ t : Fin grid0.N, cond0_0 (grid0.coords t) ↔ t.val % 9 = 0)

/-! ## The kernel body on any staging memrefs: a subtype the run finds -/

abbrev VO0_9 : View sig .tc .vmem S1x2048x256 .f32 := (Memref.whole cc0_stg9_0 : Memref sig .tc .vmem S1x2048x256 .f32).view
abbrev VO0_10 : View sig .tc .vmem S1x2048x256 .f32 := (Memref.whole cc0_stg10_0 : Memref sig .tc .vmem S1x2048x256 .f32).view
abbrev VO0_11 : View sig .tc .vmem S1x2048x256 .f32 := (Memref.whole cc0_stg11_0 : Memref sig .tc .vmem S1x2048x256 .f32).view
abbrev VO0_12 : View sig .tc .vmem S1x1x256 .f32 := (Memref.whole cc0_stg12_0 : Memref sig .tc .vmem S1x1x256 .f32).view
abbrev VO0_13 : View sig .tc .vmem S1x1x256 .f32 := (Memref.whole cc0_stg13_0 : Memref sig .tc .vmem S1x1x256 .f32).view
abbrev VO0_14 : View sig .tc .vmem S1x1x256 .f32 := (Memref.whole cc0_stg14_0 : Memref sig .tc .vmem S1x1x256 .f32).view
abbrev ms0_0 (t : Fin cfg0.N) : Memref sig .tc .vmem S1x2048x2560 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2560x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x2560 .fp8e5m2 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x2560 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256x2560 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2048x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2048x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x2048x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1x256 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1x256 .f32 := win0_14.stage (cfg0.slots t 14)
abbrev hs0_14 (t : Fin cfg0.N) : (ms0_14 t).IsWhole := hstage0_14 ((cfg0.slots t 14).cast nbuf0_14)
abbrev scM0_0 : Memref sig .tc .vmem S2048x128 .f32 := Memref.whole cc0_scratch0
abbrev scM0_1 : Memref sig .tc .vmem S2048x128 .f32 := Memref.whole cc0_scratch1
abbrev VS0_0 : View sig .tc .vmem S2048x128 .f32 := scM0_0.view
abbrev VS0_1 : View sig .tc .vmem S2048x128 .f32 := scM0_1.view

theorem scopedRest0_flat (c : Dev nD) :
    (Pipeline.scopedRest spec0 c : sProp 𝕄)
      = iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ Pipeline.scopedRestBut spec0 c [cc0_scratch0, cc0_scratch1]) := by
  have assoc : ∀ P Q R : sProp 𝕄, iprop((P ∗ Q) ∗ R) = iprop(P ∗ Q ∗ R) :=
    fun _ _ _ => Idealize.SL.BI.Entails.antisymm Idealize.SL.BI.sep_assoc Idealize.SL.BI.sep_assoc'
  rw [scopedRest0_split, assoc]

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Pipeline.scopedRestBut spec0 c [cc0_scratch0, cc0_scratch1]) ∗ (∃ r, prngReg c r)) := by
  unfold Pipeline.ΦA; rw [scopedRest0_flat]; simp only [scM0_0, scM0_1, owns_whole]; try rfl

section S1
variable (c : Dev nD) (i : grid0.Coords) (arg2 : Memref sig .tc .vmem S1x2048x2560 .fp8e4m3) (harg2 : arg2.IsWhole) (arg3 : Memref sig .tc .vmem S1x1x2048 .f32) (harg3 : arg3.IsWhole) (arg4 : Memref sig .tc .vmem S2560x256 .fp8e4m3) (harg4 : arg4.IsWhole) (arg5 : Memref sig .tc .vmem S1x256 .f32) (harg5 : arg5.IsWhole) (arg6 : Memref sig .tc .vmem S1x2048x2560 .fp8e5m2) (harg6 : arg6.IsWhole) (arg7 : Memref sig .tc .vmem S1x1x2048 .f32) (harg7 : arg7.IsWhole) (arg8 : Memref sig .tc .vmem S1x256x2560 .fp8e4m3) (harg8 : arg8.IsWhole) (arg9 : Memref sig .tc .vmem S1x1x256 .f32) (harg9 : arg9.IsWhole) (arg10 : Memref sig .tc .vmem S1x256x2560 .bf16) (harg10 : arg10.IsWhole) (arg11 : Memref sig .tc .vmem S1x2048x256 .f32) (harg11 : arg11.IsWhole) (arg12 : Memref sig .tc .vmem S1x2048x256 .f32) (harg12 : arg12.IsWhole) (arg13 : Memref sig .tc .vmem S1x2048x256 .f32) (harg13 : arg13.IsWhole) (arg14 : Memref sig .tc .vmem S1x1x256 .f32) (harg14 : arg14.IsWhole) (arg15 : Memref sig .tc .vmem S1x1x256 .f32) (harg15 : arg15.IsWhole) (arg16 : Memref sig .tc .vmem S1x1x256 .f32) (harg16 : arg16.IsWhole) (arg17 : Memref sig .tc .vmem S2048x128 .f32) (harg17 : arg17.IsWhole) (arg18 : Memref sig .tc .vmem S2048x128 .f32) (harg18 : arg18.IsWhole) (hc0 : cond0_0 i)
    (x0 : Vec F S1x2048x2560 .fp8e4m3) (x1 : Vec F S1x1x2048 .f32) (x2 : Vec F S2560x256 .fp8e4m3) (x3 : Vec F S1x256 .f32) (x4 : Vec F S1x2048x2560 .fp8e5m2) (x5 : Vec F S1x1x2048 .f32) (x6 : Vec F S1x256x2560 .fp8e4m3) (x7 : Vec F S1x1x256 .f32) (x8 : Vec F S1x256x2560 .bf16)

set_option maxHeartbeats 1000000 in
noncomputable def kernelRun0_A :
    Σ' (L9 : List (View.Piece (Elt F) S1x2048x256 .f32)), Σ' (L10 : List (View.Piece (Elt F) S1x2048x256 .f32)), Σ' (L11 : List (View.Piece (Elt F) S1x2048x256 .f32)), Σ' (L12 : List (View.Piece (Elt F) S1x1x256 .f32)), Σ' (L13 : List (View.Piece (Elt F) S1x1x256 .f32)), Σ' (L14 : List (View.Piece (Elt F) S1x1x256 .f32)), Σ' (LS0 : List (View.Piece (Elt F) S2048x128 .f32)), { LS1 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f LS0) ∗ (∃ f, arg18.view.loc (c : Thread nD τ) ↦[arg18.view.set]{fullShare} arg18.view.writes (Elt F) f LS1)) -∗ K ⟨⟩))
          ⊢ wp frame (wpE (defs₀ (F := F)) Variants.none c none) E (cc0_scores i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, ?_, fun E K => ?run⟩
  case run =>
    simp only [cc0_scores_eq_skeleton]; unfold cc0_scores_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]; · iexists _; iexact HS0
    iexists _; iexact HS1

theorem cover0_A_9 (y : S1x2048x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).1, y ∈ pc.1.set :=
  View.cover_of_tiledL (s := S1x2048x256) _ S1x256x256.size (by sl_kernel_rfl) y

def out0_A_9 : Vec F S1x2048x256 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).1)

theorem cover0_A_10 (y : S1x2048x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).2.1, y ∈ pc.1.set :=
  View.cover_of_tiledL (s := S1x2048x256) _ S1x256x256.size (by sl_kernel_rfl) y

def out0_A_10 : Vec F S1x2048x256 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).2.1)

theorem cover0_A_11 (y : S1x2048x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).2.2.1, y ∈ pc.1.set :=
  View.cover_of_tiledL (s := S1x2048x256) _ S1x256x256.size (by sl_kernel_rfl) y

def out0_A_11 : Vec F S1x2048x256 .f32 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).2.2.1)

theorem cover0_A_12 (y : S1x1x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).2.2.2.1, y ∈ pc.1.set :=
  View.cover_of_tiledL _ S1x1x256.size (by sl_kernel_rfl) y

def out0_A_12 : Vec F S1x1x256 .f32 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).2.2.2.1)

theorem cover0_A_13 (y : S1x1x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).2.2.2.2.1, y ∈ pc.1.set :=
  View.cover_of_tiledL _ S1x1x256.size (by sl_kernel_rfl) y

def out0_A_13 : Vec F S1x1x256 .f32 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).2.2.2.2.1)

theorem cover0_A_14 (y : S1x1x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).2.2.2.2.2.1, y ∈ pc.1.set :=
  View.cover_of_tiledL _ S1x1x256.size (by sl_kernel_rfl) y

def out0_A_14 : Vec F S1x1x256 .f32 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).2.2.2.2.2.1)

theorem scover0_A_0 (y : S2048x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).2.2.2.2.2.2.1, y ∈ pc.1.set :=
  View.cover_of_tiledL _ S2048x128.size (by sl_kernel_rfl) y

def sout0_A_0 : Vec F S2048x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).2.2.2.2.2.2.1)

theorem scover0_A_1 (y : S2048x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).2.2.2.2.2.2.2.1, y ∈ pc.1.set :=
  View.cover_of_tiledL _ S2048x128.size (by sl_kernel_rfl) y

def sout0_A_1 : Vec F S2048x128 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).2.2.2.2.2.2.2.1)

end S1

section S2
variable (c : Dev nD) (i : grid0.Coords) (arg2 : Memref sig .tc .vmem S1x2048x2560 .fp8e4m3) (harg2 : arg2.IsWhole) (arg3 : Memref sig .tc .vmem S1x1x2048 .f32) (harg3 : arg3.IsWhole) (arg4 : Memref sig .tc .vmem S2560x256 .fp8e4m3) (harg4 : arg4.IsWhole) (arg5 : Memref sig .tc .vmem S1x256 .f32) (harg5 : arg5.IsWhole) (arg6 : Memref sig .tc .vmem S1x2048x2560 .fp8e5m2) (harg6 : arg6.IsWhole) (arg7 : Memref sig .tc .vmem S1x1x2048 .f32) (harg7 : arg7.IsWhole) (arg8 : Memref sig .tc .vmem S1x256x2560 .fp8e4m3) (harg8 : arg8.IsWhole) (arg9 : Memref sig .tc .vmem S1x1x256 .f32) (harg9 : arg9.IsWhole) (arg10 : Memref sig .tc .vmem S1x256x2560 .bf16) (harg10 : arg10.IsWhole) (arg11 : Memref sig .tc .vmem S1x2048x256 .f32) (harg11 : arg11.IsWhole) (arg12 : Memref sig .tc .vmem S1x2048x256 .f32) (harg12 : arg12.IsWhole) (arg13 : Memref sig .tc .vmem S1x2048x256 .f32) (harg13 : arg13.IsWhole) (arg14 : Memref sig .tc .vmem S1x1x256 .f32) (harg14 : arg14.IsWhole) (arg15 : Memref sig .tc .vmem S1x1x256 .f32) (harg15 : arg15.IsWhole) (arg16 : Memref sig .tc .vmem S1x1x256 .f32) (harg16 : arg16.IsWhole) (arg17 : Memref sig .tc .vmem S2048x128 .f32) (harg17 : arg17.IsWhole) (arg18 : Memref sig .tc .vmem S2048x128 .f32) (harg18 : arg18.IsWhole) (hc0 : ¬cond0_0 i)
    (x0 : Vec F S1x2048x2560 .fp8e4m3) (x1 : Vec F S1x1x2048 .f32) (x2 : Vec F S2560x256 .fp8e4m3) (x3 : Vec F S1x256 .f32) (x4 : Vec F S1x2048x2560 .fp8e5m2) (x5 : Vec F S1x1x2048 .f32) (x6 : Vec F S1x256x2560 .fp8e4m3) (x7 : Vec F S1x1x256 .f32) (x8 : Vec F S1x256x2560 .bf16) (xs0 : Vec F S2048x128 .f32) (xs1 : Vec F S2048x128 .f32)

set_option maxHeartbeats 1000000 in
noncomputable def kernelRun0_B :
    Σ' (L9 : List (View.Piece (Elt F) S1x2048x256 .f32)), Σ' (L10 : List (View.Piece (Elt F) S1x2048x256 .f32)), Σ' (L11 : List (View.Piece (Elt F) S1x2048x256 .f32)), Σ' (L12 : List (View.Piece (Elt F) S1x1x256 .f32)), Σ' (L13 : List (View.Piece (Elt F) S1x1x256 .f32)), Σ' (L14 : List (View.Piece (Elt F) S1x1x256 .f32)), Σ' (LS0 : List (View.Piece (Elt F) S2048x128 .f32)), { LS1 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0 ∗ owns (c : Thread nD τ) arg18 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ owns (c : Thread nD τ) arg17 fullShare xs0 ∗ owns (c : Thread nD τ) arg18 fullShare xs1) -∗ K ⟨⟩))
          ⊢ wp frame (wpE (defs₀ (F := F)) Variants.none c none) E (cc0_scores i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, [], [], fun E K => ?run⟩
  case run =>
    simp only [cc0_scores_eq_skeleton]; unfold cc0_scores_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg17.eq_unread hfs0; obtain rfl := harg18.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]
    · iexists _; isplitr; · ipureintro; exact harg17.read_unread _
      iexact HS0
    iexists _; isplitr; · ipureintro; exact harg18.read_unread _
    iexact HS1

theorem cover0_B_9 (y : S1x2048x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1).1, y ∈ pc.1.set :=
  View.cover_of_tiledL (s := S1x2048x256) _ S1x256x256.size (by sl_kernel_rfl) y

def out0_B_9 : Vec F S1x2048x256 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1).1)

theorem cover0_B_10 (y : S1x2048x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1).2.1, y ∈ pc.1.set :=
  View.cover_of_tiledL (s := S1x2048x256) _ S1x256x256.size (by sl_kernel_rfl) y

def out0_B_10 : Vec F S1x2048x256 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1).2.1)

theorem cover0_B_11 (y : S1x2048x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1).2.2.1, y ∈ pc.1.set :=
  View.cover_of_tiledL (s := S1x2048x256) _ S1x256x256.size (by sl_kernel_rfl) y

def out0_B_11 : Vec F S1x2048x256 .f32 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1).2.2.1)

theorem cover0_B_12 (y : S1x1x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1).2.2.2.1, y ∈ pc.1.set :=
  View.cover_of_tiledL _ S1x1x256.size (by sl_kernel_rfl) y

def out0_B_12 : Vec F S1x1x256 .f32 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1).2.2.2.1)

theorem cover0_B_13 (y : S1x1x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1).2.2.2.2.1, y ∈ pc.1.set :=
  View.cover_of_tiledL _ S1x1x256.size (by sl_kernel_rfl) y

def out0_B_13 : Vec F S1x1x256 .f32 :=
  VO0_13.read (Elt F) (VO0_13.writes (Elt F) VO0_13.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1).2.2.2.2.1)

theorem cover0_B_14 (y : S1x1x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1).2.2.2.2.2.1, y ∈ pc.1.set :=
  View.cover_of_tiledL _ S1x1x256.size (by sl_kernel_rfl) y

def out0_B_14 : Vec F S1x1x256 .f32 :=
  VO0_14.read (Elt F) (VO0_14.writes (Elt F) VO0_14.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1).2.2.2.2.2.1)

end S2

/-! ## What the outputs hold after each point -/

/-- What the first point of a batch leaves: the outputs and the two scratch columns. -/
def outA0 (c : Dev nD) (t : Fin cfg0.N) (h0 : t.val % 9 = 0) : Vec F S1x2048x256 .f32 × Vec F S1x2048x256 .f32 × Vec F S1x2048x256 .f32 × Vec F S1x1x256 .f32 × Vec F S1x1x256 .f32 × Vec F S1x1x256 .f32 × Vec F S2048x128 .f32 × Vec F S2048x128 .f32 :=
  (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t))

/-- What a later point leaves, the scratch columns before it holding `s0` and `s1`. -/
def outB0 (c : Dev nD) (t : Fin cfg0.N) (h0 : ¬t.val % 9 = 0) (s0 s1 : Vec F S2048x128 .f32) : Vec F S1x2048x256 .f32 × Vec F S1x2048x256 .f32 × Vec F S1x2048x256 .f32 × Vec F S1x1x256 .f32 × Vec F S1x1x256 .f32 × Vec F S1x1x256 .f32 × Vec F S2048x128 .f32 × Vec F S2048x128 .f32 :=
  (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) s0 s1, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) s0 s1, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) s0 s1, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) s0 s1, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) s0 s1, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) s0 s1, s0, s1)

def outsAt0 (c : Dev nD) : (n : ℕ) → n < cfg0.N → Vec F S1x2048x256 .f32 × Vec F S1x2048x256 .f32 × Vec F S1x2048x256 .f32 × Vec F S1x1x256 .f32 × Vec F S1x1x256 .f32 × Vec F S1x1x256 .f32 × Vec F S2048x128 .f32 × Vec F S2048x128 .f32
  | 0, hn => outA0 V c ⟨0, hn⟩ (Nat.zero_mod _)
  | n + 1, hn =>
    if h0 : (n + 1) % 9 = 0 then outA0 V c ⟨n + 1, hn⟩ h0
    else outB0 V c ⟨n + 1, hn⟩ h0 (outsAt0 c n (Nat.lt_of_succ_lt hn)).2.2.2.2.2.2.1 (outsAt0 c n (Nat.lt_of_succ_lt hn)).2.2.2.2.2.2.2

theorem outsAt0_A (c : Dev nD) (t : Fin cfg0.N) (h0 : t.val % 9 = 0) :
    outsAt0 V c t.val t.isLt = outA0 V c t h0 := by
  obtain ⟨n, hn⟩ := t
  cases n with
  | zero => exact rfl
  | succ n => exact (dif_pos h0).trans rfl

theorem outsAt0_B (c : Dev nD) (t : Fin cfg0.N) (h0 : ¬t.val % 9 = 0) :
    outsAt0 V c t.val t.isLt = outB0 V c t h0 (outsAt0 V c (t.val - 1) (Nat.lt_of_le_of_lt (Nat.sub_le _ _) t.isLt)).2.2.2.2.2.2.1 (outsAt0 V c (t.val - 1) (Nat.lt_of_le_of_lt (Nat.sub_le _ _) t.isLt)).2.2.2.2.2.2.2 := by
  obtain ⟨n, hn⟩ := t
  cases n with
  | zero => exact (by exfalso; (try dsimp only at h0); exact absurd (Nat.zero_mod _) h0)
  | succ n => exact (dif_neg h0).trans rfl

def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.2.2.2.1) ∗ owns (c : Thread nD τ) scM0_1 fullShare ((outsAt0 V c n hn).2.2.2.2.2.2.2) ∗ Pipeline.scopedRestBut spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2.2.2.2.2.1) ∗ owns (c : Thread nD τ) scM0_1 fullShare ((outsAt0 V c n hn).2.2.2.2.2.2.2) ∗ Pipeline.scopedRestBut spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.2.2.2.2.1) ∗ owns (c : Thread nD τ) scM0_1 fullShare ((outsAt0 V c (n - 1) (by omega)).2.2.2.2.2.2.2) ∗ Pipeline.scopedRestBut spec0 c [cc0_scratch0, cc0_scratch1]) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => (outsAt0 V c t.val t.isLt).1
    | ⟨10, _⟩ => (outsAt0 V c t.val t.isLt).2.1
    | ⟨11, _⟩ => (outsAt0 V c t.val t.isLt).2.2.1
    | ⟨12, _⟩ => (outsAt0 V c t.val t.isLt).2.2.2.1
    | ⟨13, _⟩ => (outsAt0 V c t.val t.isLt).2.2.2.2.1
    | ⟨14, _⟩ => (outsAt0 V c t.val t.isLt).2.2.2.2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; exact Pipeline.Dat.Φ_castSucc (PhiS0 V c) t

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = (outsAt0 V c t.val t.isLt).1 := by dsimp only [dat0]
theorem after0_10 (c : Dev nD) (t : Fin cfg0.N) : (dat0 V c).after 10 t = (outsAt0 V c t.val t.isLt).2.1 := by dsimp only [dat0]
theorem after0_11 (c : Dev nD) (t : Fin cfg0.N) : (dat0 V c).after 11 t = (outsAt0 V c t.val t.isLt).2.2.1 := by dsimp only [dat0]
theorem after0_12 (c : Dev nD) (t : Fin cfg0.N) : (dat0 V c).after 12 t = (outsAt0 V c t.val t.isLt).2.2.2.1 := by dsimp only [dat0]
theorem after0_13 (c : Dev nD) (t : Fin cfg0.N) : (dat0 V c).after 13 t = (outsAt0 V c t.val t.isLt).2.2.2.2.1 := by dsimp only [dat0]
theorem after0_14 (c : Dev nD) (t : Fin cfg0.N) : (dat0 V c).after 14 t = (outsAt0 V c t.val t.isLt).2.2.2.2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d))
    ∗ (∃ d, owns (c : Thread nD τ) (ms0_13 t) fullShare ((dat0 V c).before 13 t d))
    ∗ (∃ d, owns (c : Thread nD τ) (ms0_14 t) fullShare ((dat0 V c).before 14 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t)
    ∗ owns (c : Thread nD τ) (ms0_11 t) fullShare ((dat0 V c).after 11 t)
    ∗ owns (c : Thread nD τ) (ms0_12 t) fullShare ((dat0 V c).after 12 t)
    ∗ owns (c : Thread nD τ) (ms0_13 t) fullShare ((dat0 V c).after 13 t)
    ∗ owns (c : Thread nD τ) (ms0_14 t) fullShare ((dat0 V c).after 14 t))

set_option maxHeartbeats 12800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).owesAt () t.succ = (dat0 V c).owesAt () t.castSucc from rfl,
    after0_0, after0_1, after0_2, after0_3, after0_4, after0_5, after0_6, after0_7, after0_8, after0_9, after0_10, after0_11, after0_12, after0_13, after0_14]
  rw [show (dat0 V c).Φ t.succ = PhiS0 V c (t.val + 1) t.isLt from rfl, PhiS0_succ]
  have hN : t.val < 144 := lt_of_lt_of_eq t.isLt (show cfg0.N = 144 from N_0)
  by_cases h0 : t.val % 9 = 0
  · by_cases hz : t.val = 0
    · rw [PhiS0_castSucc V c t, PhiS0_zero V c _ _ hz, PhiA0_eq]
      rw [outsAt0_A V c t h0, outA0]
      unfold out0_A_9 out0_A_10 out0_A_11 out0_A_12 out0_A_13 out0_A_14 sout0_A_0 sout0_A_1; (try dsimp only)
      iintro ⟨⟨⟨HS0, HS1, HR2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun0_A c (grid0.coords t) _ _ _ _ _ _ _ _ _ _ _ _ _ _ _ _ _ _ _ _ _ _ _ _ _ _ _ _ _ _ _ _ _ _ ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t)).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      isplitl [HS0]; · iexact HS0
      isplitl [HS1]; · iexact HS1
      iintro ⟨H0, H1, H2, H3, H4, H5, H6, H7, H8, ⟨%e9, H9⟩, ⟨%e10, H10⟩, ⟨%e11, H11⟩, ⟨%e12, H12⟩, ⟨%e13, H13⟩, ⟨%e14, H14⟩, ⟨%es0, HS0⟩, ⟨%es1, HS1⟩⟩
      isplitl [HS0 HS1 HR2 Hg]
      · isplitl [HS0 HS1 HR2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _)
          iexact HR2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _)
      unfold owns; iexists _; isplitr
      swap; · iexact H14
      ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _)
    · rw [PhiS0_castSucc V c t, PhiS0_pos V c _ _ hz]
      rw [outsAt0_A V c t h0, outA0]
      unfold out0_A_9 out0_A_10 out0_A_11 out0_A_12 out0_A_13 out0_A_14 sout0_A_0 sout0_A_1; (try dsimp only)
      iintro ⟨⟨⟨HS0, HS1, HR2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun0_A c (grid0.coords t) _ _ _ _ _ _ _ _ _ _ _ _ _ _ _ _ _ _ _ _ _ _ _ _ _ _ _ _ _ _ _ _ _ _ ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t)).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      isplitl [HS0]; · iexists _; iexact HS0
      isplitl [HS1]; · iexists _; iexact HS1
      iintro ⟨H0, H1, H2, H3, H4, H5, H6, H7, H8, ⟨%e9, H9⟩, ⟨%e10, H10⟩, ⟨%e11, H11⟩, ⟨%e12, H12⟩, ⟨%e13, H13⟩, ⟨%e14, H14⟩, ⟨%es0, HS0⟩, ⟨%es1, HS1⟩⟩
      isplitl [HS0 HS1 HR2 Hg]
      · isplitl [HS0 HS1 HR2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _)
          iexact HR2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _)
      unfold owns; iexists _; isplitr
      swap; · iexact H14
      ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _)
  · by_cases hz : t.val = 0
    · exfalso; have hN : t.val < 144 := lt_of_lt_of_eq t.isLt (show cfg0.N = 144 from N_0); omega
    · rw [PhiS0_castSucc V c t, PhiS0_pos V c _ _ hz]
      rw [outsAt0_B V c t h0, outB0]
      unfold out0_B_9 out0_B_10 out0_B_11 out0_B_12 out0_B_13 out0_B_14; (try dsimp only)
      iintro ⟨⟨⟨HS0, HS1, HR2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun0_B c (grid0.coords t) _ _ _ _ _ _ _ _ _ _ _ _ _ _ _ _ _ _ _ _ _ _ _ _ _ _ _ _ _ _ _ _ _ _ (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) _ _).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      isplitl [HS0]; · iexact HS0
      isplitl [HS1]; · iexact HS1
      iintro ⟨H0, H1, H2, H3, H4, H5, H6, H7, H8, ⟨%e9, H9⟩, ⟨%e10, H10⟩, ⟨%e11, H11⟩, ⟨%e12, H12⟩, ⟨%e13, H13⟩, ⟨%e14, H14⟩, HS0, HS1⟩
      isplitl [HS0 HS1 HR2 Hg]
      · isplitl [HS0 HS1 HR2]
        · isplitl [HS0]
          · iexact HS0
          isplitl [HS1]
          · iexact HS1
          iexact HR2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _)
      unfold owns; iexists _; isplitr
      swap; · iexact H14
      ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _)

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HR2⟩, Hg⟩
  isplitl [HS0 HS1 HR2]
  · isplitl [HS0]
    · iexists _; iexact HS0
    isplitl [HS1]
    · iexists _; iexact HS1
    iexact HR2
  iexact Hg

theorem hout0 (c : Dev nD) : (dat0 V c).Φ (Fin.last cfg0.N) ⊢ Pipeline.ΦA spec0 c :=
  Phi_out0 V c _ (by rw [Fin.val_last]; have : cfg0.N = 144 := N_0; omega)

end Regions

end Cert.Kernel.Whole

end
-- ==== Proof.K.Region1.lean ====
/- Kernel: the second call (`grads`): what a grid point leaves in the outputs, and the body obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Whole

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! # REGION 1 of @main: custom_call 1, `cc1_grads` (pipeline 1), at the entry contents `V` -/

/-! ## The windows' blocks -/

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x256x2304 := Rect.unit (s := S1x256x2304) ![0, 0, 0] S1x256x2304.size inb_S1x256x2304_S1x256x2304_0_0_0
abbrev r1_1 : Rect S1x1x2304 := Rect.unit (s := S1x1x2304) ![0, 0, 0] S1x1x2304.size inb_S1x1x2304_S1x1x2304_0_0_0
abbrev r1_2 : Rect S1x1x256 := Rect.unit (s := S1x1x256) ![0, 0, 0] S1x1x256.size inb_S1x1x256_S1x1x256_0_0_0

/-! ## What the body leaves in each output window's buffer -/

/-! ### Values of the body that several stores write -/

def k1_pay11 (x0 : Vec F S1x256x2304 .f32) (x1 : Vec F S1x256x2304 .f32) (x2 : Vec F S1x256x2304 .f32) (x3 : Vec F S1x1x256 .f32) (x4 : Vec F S1x1x2304 .f32) (x5 : Vec F S1x1x2304 .f32) (x6 : Vec F S1x1x2304 .f32) : FVec F S256x2304 .f32 :=
  k1_pay8 (View.ld x0 r1_0) (View.ld x4 r1_1) (View.ld x5 r1_1) -- `v26`
def k1_pay12 (x0 : Vec F S1x256x2304 .f32) (x1 : Vec F S1x256x2304 .f32) (x2 : Vec F S1x256x2304 .f32) (x3 : Vec F S1x1x256 .f32) (x4 : Vec F S1x1x2304 .f32) (x5 : Vec F S1x1x2304 .f32) (x6 : Vec F S1x1x2304 .f32) : FVec F S256x2304 .f32 :=
  k1_pay9 (View.ld x0 r1_0) (View.ld x1 r1_0) -- `v29`
def k1_pay13 (x0 : Vec F S1x256x2304 .f32) (x1 : Vec F S1x256x2304 .f32) (x2 : Vec F S1x256x2304 .f32) (x3 : Vec F S1x1x256 .f32) (x4 : Vec F S1x1x2304 .f32) (x5 : Vec F S1x1x2304 .f32) (x6 : Vec F S1x1x2304 .f32) : FVec F S256x2304 .f32 :=
  k1_pay10 (View.ld x2 r1_0) (View.ld x6 r1_1) -- `v35`

def out1_7 (x0 : Vec F S1x256x2304 .f32) (x1 : Vec F S1x256x2304 .f32) (x2 : Vec F S1x256x2304 .f32) (x3 : Vec F S1x1x256 .f32) (x4 : Vec F S1x1x2304 .f32) (x5 : Vec F S1x1x2304 .f32) (x6 : Vec F S1x1x2304 .f32) : Vec F S1x256x2304 .f32 :=
  View.canon [⟨r1_0, k1_pay2 (k1_pay11 x0 x1 x2 x3 x4 x5 x6) (k1_pay12 x0 x1 x2 x3 x4 x5 x6) (k1_pay13 x0 x1 x2 x3 x4 x5 x6)⟩]

theorem cover1_7 (p0 : Vec F S1x256x2304 .f32) (y : S1x256x2304.Idx) :
    ∃ pc ∈ ([⟨r1_0, p0⟩] : List (View.Piece (Elt F) S1x256x2304 .f32)), y ∈ pc.1.set :=
  View.cover_of_tiled [⟨r1_0, p0⟩] S1x256x2304.size (by rfl) y

def out1_8 (x0 : Vec F S1x256x2304 .f32) (x1 : Vec F S1x256x2304 .f32) (x2 : Vec F S1x256x2304 .f32) (x3 : Vec F S1x1x256 .f32) (x4 : Vec F S1x1x2304 .f32) (x5 : Vec F S1x1x2304 .f32) (x6 : Vec F S1x1x2304 .f32) : Vec F S1x256x2304 .bf16 :=
  View.canon [⟨r1_0, k1_pay3 (k1_pay11 x0 x1 x2 x3 x4 x5 x6) (k1_pay12 x0 x1 x2 x3 x4 x5 x6) (k1_pay13 x0 x1 x2 x3 x4 x5 x6)⟩]

theorem cover1_8 (p0 : Vec F S1x256x2304 .bf16) (y : S1x256x2304.Idx) :
    ∃ pc ∈ ([⟨r1_0, p0⟩] : List (View.Piece (Elt F) S1x256x2304 .bf16)), y ∈ pc.1.set :=
  View.cover_of_tiled [⟨r1_0, p0⟩] S1x256x2304.size (by rfl) y

def out1_9 (x0 : Vec F S1x256x2304 .f32) (x1 : Vec F S1x256x2304 .f32) (x2 : Vec F S1x256x2304 .f32) (x3 : Vec F S1x1x256 .f32) (x4 : Vec F S1x1x2304 .f32) (x5 : Vec F S1x1x2304 .f32) (x6 : Vec F S1x1x2304 .f32) : Vec F S1x256x2304 .bf16 :=
  View.canon [⟨r1_0, k1_pay4 (k1_pay11 x0 x1 x2 x3 x4 x5 x6)⟩]

theorem cover1_9 (p0 : Vec F S1x256x2304 .bf16) (y : S1x256x2304.Idx) :
    ∃ pc ∈ ([⟨r1_0, p0⟩] : List (View.Piece (Elt F) S1x256x2304 .bf16)), y ∈ pc.1.set :=
  View.cover_of_tiled [⟨r1_0, p0⟩] S1x256x2304.size (by rfl) y

def out1_10 (x0 : Vec F S1x256x2304 .f32) (x1 : Vec F S1x256x2304 .f32) (x2 : Vec F S1x256x2304 .f32) (x3 : Vec F S1x1x256 .f32) (x4 : Vec F S1x1x2304 .f32) (x5 : Vec F S1x1x2304 .f32) (x6 : Vec F S1x1x2304 .f32) : Vec F S1x256x2304 .bf16 :=
  View.canon [⟨r1_0, k1_pay5 (k1_pay7 (View.ld x0 r1_0)) (View.ld x3 r1_2)⟩]

theorem cover1_10 (p0 : Vec F S1x256x2304 .bf16) (y : S1x256x2304.Idx) :
    ∃ pc ∈ ([⟨r1_0, p0⟩] : List (View.Piece (Elt F) S1x256x2304 .bf16)), y ∈ pc.1.set :=
  View.cover_of_tiled [⟨r1_0, p0⟩] S1x256x2304.size (by rfl) y

/-! ## The body's triple -/

set_option maxHeartbeats 1000000 in
theorem sound_kernel1 (c : Dev nD) (E : Set ℕ) (i : grid1.Coords) (arg2 : Memref sig .tc .vmem S1x256x2304 .f32) (harg2 : arg2.IsWhole) (arg3 : Memref sig .tc .vmem S1x256x2304 .f32) (harg3 : arg3.IsWhole) (arg4 : Memref sig .tc .vmem S1x256x2304 .f32) (harg4 : arg4.IsWhole) (arg5 : Memref sig .tc .vmem S1x1x256 .f32) (harg5 : arg5.IsWhole) (arg6 : Memref sig .tc .vmem S1x1x2304 .f32) (harg6 : arg6.IsWhole) (arg7 : Memref sig .tc .vmem S1x1x2304 .f32) (harg7 : arg7.IsWhole) (arg8 : Memref sig .tc .vmem S1x1x2304 .f32) (harg8 : arg8.IsWhole) (arg9 : Memref sig .tc .vmem S1x256x2304 .f32) (harg9 : arg9.IsWhole) (arg10 : Memref sig .tc .vmem S1x256x2304 .bf16) (harg10 : arg10.IsWhole) (arg11 : Memref sig .tc .vmem S1x256x2304 .bf16) (harg11 : arg11.IsWhole) (arg12 : Memref sig .tc .vmem S1x256x2304 .bf16) (harg12 : arg12.IsWhole)
    (x0 : Vec F S1x256x2304 .f32) (x1 : Vec F S1x256x2304 .f32) (x2 : Vec F S1x256x2304 .f32) (x3 : Vec F S1x1x256 .f32) (x4 : Vec F S1x1x2304 .f32) (x5 : Vec F S1x1x2304 .f32) (x6 : Vec F S1x1x2304 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out1_7 x0 x1 x2 x3 x4 x5 x6) ∗ owns (c : Thread nD τ) arg10 fullShare (out1_8 x0 x1 x2 x3 x4 x5 x6) ∗ owns (c : Thread nD τ) arg11 fullShare (out1_9 x0 x1 x2 x3 x4 x5 x6) ∗ owns (c : Thread nD τ) arg12 fullShare (out1_10 x0 x1 x2 x3 x4 x5 x6)) -∗ K ⟨⟩))
      ⊢ wp frame (wpE (defs₀ (F := F)) Variants.none c none) E (cc1_grads i arg2 harg2 arg3 harg3 arg4 harg4 arg5 harg5 arg6 harg6 arg7 harg7 arg8 harg8 arg9 harg9 arg10 harg10 arg11 harg11 arg12 harg12) K := by
  simp only [cc1_grads_eq_skeleton]; unfold cc1_grads_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover1_7 _)).trans ?_
    rfl
  isplitl [H8]
  · iexists _; isplitr
    swap; · iexact H8
    ipureintro
    refine (View.read_writes_eq_canon _ _ _ (cover1_8 _)).trans ?_
    rfl
  isplitl [H9]
  · iexists _; isplitr
    swap; · iexact H9
    ipureintro
    refine (View.read_writes_eq_canon _ _ _ (cover1_9 _)).trans ?_
    rfl
  iexists _; isplitr
  swap; · iexact H10
  ipureintro
  refine (View.read_writes_eq_canon _ _ _ (cover1_10 _)).trans ?_
  rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
    | ⟨9, _⟩ => out1_9 (iblk1 V c 0 t) (iblk1 V c 1 t) (iblk1 V c 2 t) (iblk1 V c 3 t) (iblk1 V c 4 t) (iblk1 V c 5 t) (iblk1 V c 6 t)
    | ⟨10, _⟩ => out1_10 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ (grid1.coords t) _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.Kernel.Whole

end
-- ==== Proof.K.Region2.lean ====
/- Kernel: the third call (`dx`): what a grid point leaves in the output, and the body obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Whole

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! # REGION 2 of @main: custom_call 2, `cc2_dx` (pipeline 2), at the entry contents `V` -/

/-! ## The windows' blocks -/

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S1280x2304 := Rect.unit (s := S1280x2304) ![0, 0] S1280x2304.size inb_S1280x2304_S1280x2304_0_0
abbrev r2_1 : Rect S1x2304 := Rect.unit (s := S1x2304) ![0, 0] S1x2304.size inb_S1x2304_S1x2304_0_0
abbrev r2_2 : Rect S1x512x2304 := Rect.unit (s := S1x512x2304) ![0, 0, 0] S1x512x2304.size inb_S1x512x2304_S1x512x2304_0_0_0
abbrev r2_3 : Rect S1x2304x1280 := Rect.unit (s := S1x2304x1280) ![0, 0, 0] S1x2304x1280.size inb_S1x2304x1280_S1x2304x1280_0_0_0
abbrev r2_4 : Rect S1x512x1280 := Rect.unit (s := S1x512x1280) ![0, 0, 0] S1x512x1280.size inb_S1x512x1280_S1x512x1280_0_0_0

/-! ## What the body leaves in each output window's buffer -/

def out2_5 (x0 : Vec F S1x512x2304 .bf16) (x1 : Vec F S1x512x2304 .bf16) (x2 : Vec F S1x2304x1280 .bf16) (x3 : Vec F S1280x2304 .fp8e4m3) (x4 : Vec F S1x2304 .f32) : Vec F S1x512x1280 .bf16 :=
  View.canon [⟨r2_4, k2_pay1 (View.ld x3 r2_0) (View.ld x4 r2_1) (View.ld x0 r2_2) (View.ld x2 r2_3) (View.ld x1 r2_2)⟩]

theorem cover2_5 (p0 : Vec F S1x512x1280 .bf16) (y : S1x512x1280.Idx) :
    ∃ pc ∈ ([⟨r2_4, p0⟩] : List (View.Piece (Elt F) S1x512x1280 .bf16)), y ∈ pc.1.set :=
  View.cover_of_tiled [⟨r2_4, p0⟩] S1x512x1280.size (by rfl) y

/-! ## The body's triple -/

set_option maxHeartbeats 1000000 in
theorem sound_kernel2 (c : Dev nD) (E : Set ℕ) (i : grid2.Coords) (arg3 : Memref sig .tc .vmem S1x512x2304 .bf16) (harg3 : arg3.IsWhole) (arg4 : Memref sig .tc .vmem S1x512x2304 .bf16) (harg4 : arg4.IsWhole) (arg5 : Memref sig .tc .vmem S1x2304x1280 .bf16) (harg5 : arg5.IsWhole) (arg6 : Memref sig .tc .vmem S1280x2304 .fp8e4m3) (harg6 : arg6.IsWhole) (arg7 : Memref sig .tc .vmem S1x2304 .f32) (harg7 : arg7.IsWhole) (arg8 : Memref sig .tc .vmem S1x512x1280 .bf16) (harg8 : arg8.IsWhole)
    (x0 : Vec F S1x512x2304 .bf16) (x1 : Vec F S1x512x2304 .bf16) (x2 : Vec F S1x2304x1280 .bf16) (x3 : Vec F S1280x2304 .fp8e4m3) (x4 : Vec F S1x2304 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (out2_5 x0 x1 x2 x3 x4)) -∗ K ⟨⟩))
      ⊢ wp frame (wpE (defs₀ (F := F)) Variants.none c none) E (cc2_dx i arg3 harg3 arg4 harg4 arg5 harg5 arg6 harg6 arg7 harg7 arg8 harg8) K := by
  simp only [cc2_dx_eq_skeleton]; unfold cc2_dx_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.Kernel.Whole

end
-- ==== Proof.K.Region3.lean ====
/- Kernel: the fourth call (`dslot`): what a grid point leaves in the output, and the body obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Whole

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! # REGION 3 of @main: custom_call 3, `cc3_dslot` (pipeline 3), at the entry contents `V` -/

/-! ## The windows' blocks -/

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S1x2048x768 := Rect.unit (s := S1x2048x768) ![0, 0, 0] S1x2048x768.size inb_S1x2048x768_S1x2048x768_0_0_0
abbrev r3_1 : Rect S1x2048x2560 := Rect.unit (s := S1x2048x2560) ![0, 0, 0] S1x2048x2560.size inb_S1x2048x2560_S1x2048x2560_0_0_0
abbrev r3_2 : Rect S1x768x2560 := Rect.unit (s := S1x768x2560) ![0, 0, 0] S1x768x2560.size inb_S1x768x2560_S1x768x2560_0_0_0

/-! ## What the body leaves in each output window's buffer -/

def out3_2 (x0 : Vec F S1x2048x768 .bf16) (x1 : Vec F S1x2048x2560 .fp8e5m2) : Vec F S1x768x2560 .bf16 :=
  View.canon [⟨r3_2, k3_pay1 (View.ld x0 r3_0) (View.ld x1 r3_1)⟩]

theorem cover3_2 (p0 : Vec F S1x768x2560 .bf16) (y : S1x768x2560.Idx) :
    ∃ pc ∈ ([⟨r3_2, p0⟩] : List (View.Piece (Elt F) S1x768x2560 .bf16)), y ∈ pc.1.set :=
  View.cover_of_tiled [⟨r3_2, p0⟩] S1x768x2560.size (by rfl) y

/-! ## The body's triple -/

set_option maxHeartbeats 1000000 in
theorem sound_kernel3 (c : Dev nD) (E : Set ℕ) (i : grid3.Coords) (arg2 : Memref sig .tc .vmem S1x2048x768 .bf16) (harg2 : arg2.IsWhole) (arg3 : Memref sig .tc .vmem S1x2048x2560 .fp8e5m2) (harg3 : arg3.IsWhole) (arg4 : Memref sig .tc .vmem S1x768x2560 .bf16) (harg4 : arg4.IsWhole)
    (x0 : Vec F S1x2048x768 .bf16) (x1 : Vec F S1x2048x2560 .fp8e5m2) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out3_2 x0 x1)) -∗ K ⟨⟩))
      ⊢ wp frame (wpE (defs₀ (F := F)) Variants.none c none) E (cc3_dslot i arg2 harg2 arg3 harg3 arg4 harg4) K := by
  simp only [cc3_dslot_eq_skeleton]; unfold cc3_dslot_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row3 (t : Fin cfg3.N) :
    defs₀ (F := F) .tc cfg3.body (cfg3.bodyArgs t (cfg3.slots t)) = bodyAt3 t := by
  unfold defs₀; rw [Defs.onTc_tc]

theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.Kernel.Whole

end
-- ==== Proof.K.Region4.lean ====
/- Kernel: the fifth call (`dphi`): the accumulator carried over the batches, and the body obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Whole

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! # REGION 4 of @main: custom_call 4, `cc4_dphi` (pipeline 4), at the entry contents `V` -/

/-! ## The windows' blocks -/

noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 16 = 0 :=
  (fun t => by
    have ht : t.val < 80 := Nat.lt_of_lt_of_eq t.isLt N_4
    have e0 : (grid4.coords t 0).val = t.val / 16 % 5 := Pipeline.Grid.coords_val t 0 (by decide) rfl
    have e1 : (grid4.coords t 1).val = t.val / 1 % 16 := Pipeline.Grid.coords_val t 1 (by decide) rfl
    simp only [cond4_0, e0, e1]
    word_cmp
   : ∀ t : Fin grid4.N, cond4_0 (grid4.coords t) ↔ t.val % 16 = 0)

abbrev cond4_1 (i : grid4.Coords) : Prop := k4_cond2 i = 1#1
theorem hcond4_1 : ∀ t : Fin cfg4.N, cond4_1 (grid4.coords t) ↔ t.val % 16 = 15 :=
  (fun t => by
    have ht : t.val < 80 := Nat.lt_of_lt_of_eq t.isLt N_4
    have e0 : (grid4.coords t 0).val = t.val / 16 % 5 := Pipeline.Grid.coords_val t 0 (by decide) rfl
    have e1 : (grid4.coords t 1).val = t.val / 1 % 16 := Pipeline.Grid.coords_val t 1 (by decide) rfl
    simp only [cond4_1, k4_cond2, e0, e1]
    word_cmp
   : ∀ t : Fin grid4.N, cond4_1 (grid4.coords t) ↔ t.val % 16 = 15)

/-! ## Where the windows are idle (the printed configuration's table `Cfg.idle`) -/

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
theorem idleAt4_3_A : ∀ t : Fin cfg4.N, cond4_0 (grid4.coords t) → ¬cond4_1 (grid4.coords t) → cfg4.idle 3 (grid4.coords t) = true := by decide +kernel
theorem noFlush4_3_A : ∀ t : Fin cfg4.N, cond4_0 (grid4.coords t) → ¬cond4_1 (grid4.coords t) → (cfg4.win 3).flush t = false := by decide +kernel
theorem idleAt4_3_B : ∀ t : Fin cfg4.N, ¬cond4_0 (grid4.coords t) → ¬cond4_1 (grid4.coords t) → cfg4.idle 3 (grid4.coords t) = true := by decide +kernel
theorem noFlush4_3_B : ∀ t : Fin cfg4.N, ¬cond4_0 (grid4.coords t) → ¬cond4_1 (grid4.coords t) → (cfg4.win 3).flush t = false := by decide +kernel
theorem liveAt4_3_C : ∀ t : Fin cfg4.N, ¬cond4_0 (grid4.coords t) → cond4_1 (grid4.coords t) → cfg4.idle 3 (grid4.coords t) = false := by decide +kernel

/-! ## The kernel body on any staging memrefs: a subtype the run finds -/

abbrev VO4_3 : View sig .tc .vmem S512x2304 .bf16 := (Memref.whole cc4_stg3_0 : Memref sig .tc .vmem S512x2304 .bf16).view
abbrev ms4_0 (t : Fin cfg4.N) : Memref sig .tc .vmem S1x2048x512 .fp8e4m3 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x1x2048 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x2048x2304 .bf16 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S512x2304 .bf16 := win4_3.stage (cfg4.slots t 3)
abbrev hs4_3 (t : Fin cfg4.N) : (ms4_3 t).IsWhole := hstage4_3 ((cfg4.slots t 3).cast nbuf4_3)
abbrev scM4_0 : Memref sig .tc .vmem S512x2304 .f32 := Memref.whole cc4_scratch0
abbrev VS4_0 : View sig .tc .vmem S512x2304 .f32 := scM4_0.view

theorem scopedRest4_flat (c : Dev nD) :
    (Pipeline.scopedRest spec4 c : sProp 𝕄)
      = iprop((∃ f : Buf (Elt F) ((c : Thread nD τ).loc cc4_scratch0), ((c : Thread nD τ).loc cc4_scratch0) ↦{fullShare} f) ∗ Pipeline.scopedRestBut spec4 c [cc4_scratch0]) := by
  rw [scopedRest4_split]

theorem PhiA4_eq (c : Dev nD) :
    (Pipeline.ΦA spec4 c : sProp 𝕄)
      = iprop(iprop((∃ d, owns (c : Thread nD τ) scM4_0 fullShare d) ∗ Pipeline.scopedRestBut spec4 c [cc4_scratch0]) ∗ (∃ r, prngReg c r)) := by
  unfold Pipeline.ΦA; rw [scopedRest4_flat]; simp only [scM4_0, owns_whole]; try rfl

section S1
variable (c : Dev nD) (i : grid4.Coords) (arg2 : Memref sig .tc .vmem S1x2048x512 .fp8e4m3) (harg2 : arg2.IsWhole) (arg3 : Memref sig .tc .vmem S1x1x2048 .f32) (harg3 : arg3.IsWhole) (arg4 : Memref sig .tc .vmem S1x2048x2304 .bf16) (harg4 : arg4.IsWhole) (arg5 : Memref sig .tc .vmem S512x2304 .bf16) (harg5 : arg5.IsWhole) (arg6 : Memref sig .tc .vmem S512x2304 .f32) (harg6 : arg6.IsWhole) (hc0 : cond4_0 i) (hc1 : ¬cond4_1 i)
    (x0 : Vec F S1x2048x512 .fp8e4m3) (x1 : Vec F S1x1x2048 .f32) (x2 : Vec F S1x2048x2304 .bf16)

set_option maxHeartbeats 1000000 in
noncomputable def kernelRun4_A :
    Σ' (L3 : List (View.Piece (Elt F) S512x2304 .bf16)), { LS0 : List (View.Piece (Elt F) S512x2304 .f32) //
      ∀ (xi3 : Vec F S512x2304 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc4_dphi i arg2 harg2 arg3 harg3 arg4 harg4 arg5 harg5 arg6 harg6) K } := by
  refine ⟨[], ?_, fun xi3 E K => ?run⟩
  case run =>
    simp only [cc4_dphi_eq_skeleton]; unfold cc4_dphi_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

def out4_A_3 : Vec F S512x2304 .bf16 :=
  VO4_3.read (Elt F) (VO4_3.writes (Elt F) VO4_3.junk (kernelRun4_A c i arg2 harg2 arg3 harg3 arg4 harg4 arg5 harg5 arg6 harg6 hc0 hc1 x0 x1 x2).1)

theorem scover4_A_0 (y : S512x2304.Idx) :
    ∃ pc ∈ (kernelRun4_A c i arg2 harg2 arg3 harg3 arg4 harg4 arg5 harg5 arg6 harg6 hc0 hc1 x0 x1 x2).2.1, y ∈ pc.1.set :=
  View.cover_of_tiledL (kernelRun4_A c i arg2 harg2 arg3 harg3 arg4 harg4 arg5 harg5 arg6 harg6 hc0 hc1 x0 x1 x2).2.1 S512x2304.size (by sl_kernel_rfl) y

def sout4_A_0 : Vec F S512x2304 .f32 :=
  VS4_0.read (Elt F) (VS4_0.writes (Elt F) VS4_0.junk (kernelRun4_A c i arg2 harg2 arg3 harg3 arg4 harg4 arg5 harg5 arg6 harg6 hc0 hc1 x0 x1 x2).2.1)

end S1

section S2
variable (c : Dev nD) (i : grid4.Coords) (arg2 : Memref sig .tc .vmem S1x2048x512 .fp8e4m3) (harg2 : arg2.IsWhole) (arg3 : Memref sig .tc .vmem S1x1x2048 .f32) (harg3 : arg3.IsWhole) (arg4 : Memref sig .tc .vmem S1x2048x2304 .bf16) (harg4 : arg4.IsWhole) (arg5 : Memref sig .tc .vmem S512x2304 .bf16) (harg5 : arg5.IsWhole) (arg6 : Memref sig .tc .vmem S512x2304 .f32) (harg6 : arg6.IsWhole) (hc0 : ¬cond4_0 i) (hc1 : ¬cond4_1 i)
    (x0 : Vec F S1x2048x512 .fp8e4m3) (x1 : Vec F S1x1x2048 .f32) (x2 : Vec F S1x2048x2304 .bf16) (xs0 : Vec F S512x2304 .f32)

set_option maxHeartbeats 1000000 in
noncomputable def kernelRun4_B :
    Σ' (L3 : List (View.Piece (Elt F) S512x2304 .bf16)), { LS0 : List (View.Piece (Elt F) S512x2304 .f32) //
      ∀ (xi3 : Vec F S512x2304 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc4_dphi i arg2 harg2 arg3 harg3 arg4 harg4 arg5 harg5 arg6 harg6) K } := by
  refine ⟨[], ?_, fun xi3 E K => ?run⟩
  case run =>
    simp only [cc4_dphi_eq_skeleton]; unfold cc4_dphi_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

def out4_B_3 : Vec F S512x2304 .bf16 :=
  VO4_3.read (Elt F) (VO4_3.writes (Elt F) VO4_3.junk (kernelRun4_B c i arg2 harg2 arg3 harg3 arg4 harg4 arg5 harg5 arg6 harg6 hc0 hc1 x0 x1 x2 xs0).1)

theorem scover4_B_0 (y : S512x2304.Idx) :
    ∃ pc ∈ (kernelRun4_B c i arg2 harg2 arg3 harg3 arg4 harg4 arg5 harg5 arg6 harg6 hc0 hc1 x0 x1 x2 xs0).2.1, y ∈ pc.1.set :=
  View.cover_of_tiledL (kernelRun4_B c i arg2 harg2 arg3 harg3 arg4 harg4 arg5 harg5 arg6 harg6 hc0 hc1 x0 x1 x2 xs0).2.1 S512x2304.size (by sl_kernel_rfl) y

def sout4_B_0 : Vec F S512x2304 .f32 :=
  VS4_0.read (Elt F) (VS4_0.writes (Elt F) VS4_0.junk (kernelRun4_B c i arg2 harg2 arg3 harg3 arg4 harg4 arg5 harg5 arg6 harg6 hc0 hc1 x0 x1 x2 xs0).2.1)

end S2

section S3
variable (c : Dev nD) (i : grid4.Coords) (arg2 : Memref sig .tc .vmem S1x2048x512 .fp8e4m3) (harg2 : arg2.IsWhole) (arg3 : Memref sig .tc .vmem S1x1x2048 .f32) (harg3 : arg3.IsWhole) (arg4 : Memref sig .tc .vmem S1x2048x2304 .bf16) (harg4 : arg4.IsWhole) (arg5 : Memref sig .tc .vmem S512x2304 .bf16) (harg5 : arg5.IsWhole) (arg6 : Memref sig .tc .vmem S512x2304 .f32) (harg6 : arg6.IsWhole) (hc0 : ¬cond4_0 i) (hc1 : cond4_1 i)
    (x0 : Vec F S1x2048x512 .fp8e4m3) (x1 : Vec F S1x1x2048 .f32) (x2 : Vec F S1x2048x2304 .bf16) (xs0 : Vec F S512x2304 .f32)

set_option maxHeartbeats 1000000 in
noncomputable def kernelRun4_C :
    Σ' (L3 : List (View.Piece (Elt F) S512x2304 .bf16)), { LS0 : List (View.Piece (Elt F) S512x2304 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc4_dphi i arg2 harg2 arg3 harg3 arg4 harg4 arg5 harg5 arg6 harg6) K } := by
  refine ⟨?_, ?_, fun E K => ?run⟩
  case run =>
    simp only [cc4_dphi_eq_skeleton]; unfold cc4_dphi_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

theorem cover4_C_3 (y : S512x2304.Idx) :
    ∃ pc ∈ (kernelRun4_C c i arg2 harg2 arg3 harg3 arg4 harg4 arg5 harg5 arg6 harg6 hc0 hc1 x0 x1 x2 xs0).1, y ∈ pc.1.set :=
  View.cover_of_tiledL (kernelRun4_C c i arg2 harg2 arg3 harg3 arg4 harg4 arg5 harg5 arg6 harg6 hc0 hc1 x0 x1 x2 xs0).1 S512x2304.size (by sl_kernel_rfl) y

def out4_C_3 : Vec F S512x2304 .bf16 :=
  VO4_3.read (Elt F) (VO4_3.writes (Elt F) VO4_3.junk (kernelRun4_C c i arg2 harg2 arg3 harg3 arg4 harg4 arg5 harg5 arg6 harg6 hc0 hc1 x0 x1 x2 xs0).1)

theorem scover4_C_0 (y : S512x2304.Idx) :
    ∃ pc ∈ (kernelRun4_C c i arg2 harg2 arg3 harg3 arg4 harg4 arg5 harg5 arg6 harg6 hc0 hc1 x0 x1 x2 xs0).2.1, y ∈ pc.1.set :=
  View.cover_of_tiledL (kernelRun4_C c i arg2 harg2 arg3 harg3 arg4 harg4 arg5 harg5 arg6 harg6 hc0 hc1 x0 x1 x2 xs0).2.1 S512x2304.size (by sl_kernel_rfl) y

def sout4_C_0 : Vec F S512x2304 .f32 :=
  VS4_0.read (Elt F) (VS4_0.writes (Elt F) VS4_0.junk (kernelRun4_C c i arg2 harg2 arg3 harg3 arg4 harg4 arg5 harg5 arg6 harg6 hc0 hc1 x0 x1 x2 xs0).2.1)

end S3

/-! ## What the outputs hold after each point -/

def outsAt4 (c : Dev nD) : (n : ℕ) → n < cfg4.N → Vec F S512x2304 .bf16 × Vec F S512x2304 .f32
  | 0, hn => (out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩))
  | n + 1, hn =>
    if h0 : (n + 1) % 16 = 0 then
      if h1 : (n + 1) % 16 = 15 then
        False.elim (by have hN : n + 1 < 80 := lt_of_lt_of_eq hn (show cfg4.N = 80 from N_4); omega)
      else
        (out4_A_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩))
    else
      if h1 : (n + 1) % 16 = 15 then
        (out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2)
      else
        (out4_B_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2)

theorem outsAt4_A (c : Dev nD) (t : Fin cfg4.N) (h0 : t.val % 16 = 0) (h1 : ¬t.val % 16 = 15) :
    outsAt4 V c t.val t.isLt = (out4_A_3 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t), sout4_A_0 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t)) := by
  obtain ⟨n, hn⟩ := t
  cases n with
  | zero => exact rfl
  | succ n => exact (dif_pos h0).trans ((dif_neg h1).trans rfl)

theorem outsAt4_B (c : Dev nD) (t : Fin cfg4.N) (h0 : ¬t.val % 16 = 0) (h1 : ¬t.val % 16 = 15) :
    outsAt4 V c t.val t.isLt = (out4_B_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 16 = 0) (h1 : t.val % 16 = 15) :
    outsAt4 V c t.val t.isLt = (out4_C_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ Pipeline.scopedRestBut spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2) ∗ Pipeline.scopedRestBut spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ Pipeline.scopedRestBut spec4 c [cc4_scratch0]) ∗ (∃ r, prngReg c r)) := by
  cases n with
  | zero => exact absurd rfl hz
  | succ n => rfl

/-! ## The pipeline's proof data -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; exact Pipeline.Dat.Φ_castSucc (PhiS4 V c) t

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  have hN : t.val < 80 := lt_of_lt_of_eq t.isLt (show cfg4.N = 80 from N_4)
  by_cases h0 : t.val % 16 = 0
  · by_cases h1 : t.val % 16 = 15
    · exfalso; omega
    · rw [show (dat4 V c).leavesExact 0 t = owns (c : Thread nD τ) (ms4_0 t) fullShare ((dat4 V c).after 0 t) from by
      unfold Dat.leavesExact; rw [liveAt4_0 t], after4_0]
      rw [show (dat4 V c).leavesExact 1 t = owns (c : Thread nD τ) (ms4_1 t) fullShare ((dat4 V c).after 1 t) from by
      unfold Dat.leavesExact; rw [liveAt4_1 t], after4_1]
      rw [show (dat4 V c).leavesExact 2 t = owns (c : Thread nD τ) (ms4_2 t) fullShare ((dat4 V c).after 2 t) from by
      unfold Dat.leavesExact; rw [liveAt4_2 t], after4_2]
      rw [Dat.leavesExact_idle (dat4 V c) 3 t (idleAt4_3_A t ((hcond4_0 t).mpr h0) (fun h => h1 ((hcond4_1 t).mp h))) (noFlush4_3_A t ((hcond4_0 t).mpr h0) (fun h => h1 ((hcond4_1 t).mp h)))]
      by_cases hz : t.val = 0
      · rw [PhiS4_castSucc V c t, PhiS4_zero V c _ _ hz, PhiA4_eq]
        rw [outsAt4_A V c t h0 h1]
        unfold sout4_A_0; (try dsimp only)
        iintro ⟨⟨⟨HS0, HR1⟩, Hg⟩, Ho, ⟨%d0, H0⟩, ⟨%d1, H1⟩, ⟨%d2, H2⟩, ⟨%d3, H3⟩⟩
        iapply ((kernelRun4_A c (grid4.coords t) _ _ _ _ _ _ _ _ _ _ ((hcond4_0 t).mpr h0) (fun h => h1 ((hcond4_1 t).mp h)) (iblk4 V c 0 t) (iblk4 V c 1 t) (iblk4 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR1 Hg]
        · isplitl [HS0 HR1]
          · isplitl [HS0]
            · unfold owns; iexists _; isplitr
              swap; · iexact HS0
              ipureintro; exact View.read_writes_of_cover _ _ _ _ _ (scover4_A_0 c _ _ _ _ _ _ _ _ _ _ _ _ _ _ _ _)
            iexact HR1
          iexact Hg
        isplitl [Ho]; · iexact Ho
        isplitl [H0]; · iexact H0
        isplitl [H1]; · iexact H1
        isplitl [H2]; · iexact H2
        iexists _; iexact H3
      · rw [PhiS4_castSucc V c t, PhiS4_pos V c _ _ hz]
        rw [outsAt4_A V c t h0 h1]
        unfold sout4_A_0; (try dsimp only)
        iintro ⟨⟨⟨HS0, HR1⟩, Hg⟩, Ho, ⟨%d0, H0⟩, ⟨%d1, H1⟩, ⟨%d2, H2⟩, ⟨%d3, H3⟩⟩
        iapply ((kernelRun4_A c (grid4.coords t) _ _ _ _ _ _ _ _ _ _ ((hcond4_0 t).mpr h0) (fun h => h1 ((hcond4_1 t).mp h)) (iblk4 V c 0 t) (iblk4 V c 1 t) (iblk4 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR1 Hg]
        · isplitl [HS0 HR1]
          · isplitl [HS0]
            · unfold owns; iexists _; isplitr
              swap; · iexact HS0
              ipureintro; exact View.read_writes_of_cover _ _ _ _ _ (scover4_A_0 c _ _ _ _ _ _ _ _ _ _ _ _ _ _ _ _)
            iexact HR1
          iexact Hg
        isplitl [Ho]; · iexact Ho
        isplitl [H0]; · iexact H0
        isplitl [H1]; · iexact H1
        isplitl [H2]; · iexact H2
        iexists _; iexact H3
  · by_cases h1 : t.val % 16 = 15
    · rw [show (dat4 V c).leavesExact 0 t = owns (c : Thread nD τ) (ms4_0 t) fullShare ((dat4 V c).after 0 t) from by
      unfold Dat.leavesExact; rw [liveAt4_0 t], after4_0]
      rw [show (dat4 V c).leavesExact 1 t = owns (c : Thread nD τ) (ms4_1 t) fullShare ((dat4 V c).after 1 t) from by
      unfold Dat.leavesExact; rw [liveAt4_1 t], after4_1]
      rw [show (dat4 V c).leavesExact 2 t = owns (c : Thread nD τ) (ms4_2 t) fullShare ((dat4 V c).after 2 t) from by
      unfold Dat.leavesExact; rw [liveAt4_2 t], after4_2]
      rw [show (dat4 V c).leavesExact 3 t = owns (c : Thread nD τ) (ms4_3 t) fullShare ((dat4 V c).after 3 t) from by
      unfold Dat.leavesExact; rw [liveAt4_3_C t (fun h => h0 ((hcond4_0 t).mp h)) ((hcond4_1 t).mpr h1)], after4_3]
      by_cases hz : t.val = 0
      · exfalso; have hN : t.val < 80 := lt_of_lt_of_eq t.isLt (show cfg4.N = 80 from N_4); omega
      · rw [PhiS4_castSucc V c t, PhiS4_pos V c _ _ hz]
        rw [outsAt4_C V c t h0 h1]
        unfold out4_C_3 sout4_C_0; (try dsimp only)
        iintro ⟨⟨⟨HS0, HR1⟩, Hg⟩, Ho, ⟨%d0, H0⟩, ⟨%d1, H1⟩, ⟨%d2, H2⟩, ⟨%d3, H3⟩⟩
        iapply ((kernelRun4_C c (grid4.coords t) _ _ _ _ _ _ _ _ _ _ (fun h => h0 ((hcond4_0 t).mp h)) ((hcond4_1 t).mpr h1) (iblk4 V c 0 t) (iblk4 V c 1 t) (iblk4 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR1 Hg]
        · isplitl [HS0 HR1]
          · isplitl [HS0]
            · unfold owns; iexists _; isplitr
              swap; · iexact HS0
              ipureintro; exact View.read_writes_of_cover _ _ _ _ _ (scover4_C_0 c _ _ _ _ _ _ _ _ _ _ _ _ _ _ _ _ _)
            iexact HR1
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover4_C_3 c _ _ _ _ _ _ _ _ _ _ _ _ _ _ _ _ _)
    · rw [show (dat4 V c).leavesExact 0 t = owns (c : Thread nD τ) (ms4_0 t) fullShare ((dat4 V c).after 0 t) from by
      unfold Dat.leavesExact; rw [liveAt4_0 t], after4_0]
      rw [show (dat4 V c).leavesExact 1 t = owns (c : Thread nD τ) (ms4_1 t) fullShare ((dat4 V c).after 1 t) from by
      unfold Dat.leavesExact; rw [liveAt4_1 t], after4_1]
      rw [show (dat4 V c).leavesExact 2 t = owns (c : Thread nD τ) (ms4_2 t) fullShare ((dat4 V c).after 2 t) from by
      unfold Dat.leavesExact; rw [liveAt4_2 t], after4_2]
      rw [Dat.leavesExact_idle (dat4 V c) 3 t (idleAt4_3_B t (fun h => h0 ((hcond4_0 t).mp h)) (fun h => h1 ((hcond4_1 t).mp h))) (noFlush4_3_B t (fun h => h0 ((hcond4_0 t).mp h)) (fun h => h1 ((hcond4_1 t).mp h)))]
      by_cases hz : t.val = 0
      · exfalso; have hN : t.val < 80 := lt_of_lt_of_eq t.isLt (show cfg4.N = 80 from N_4); omega
      · rw [PhiS4_castSucc V c t, PhiS4_pos V c _ _ hz]
        rw [outsAt4_B V c t h0 h1]
        unfold sout4_B_0; (try dsimp only)
        iintro ⟨⟨⟨HS0, HR1⟩, Hg⟩, Ho, ⟨%d0, H0⟩, ⟨%d1, H1⟩, ⟨%d2, H2⟩, ⟨%d3, H3⟩⟩
        iapply ((kernelRun4_B c (grid4.coords t) _ _ _ _ _ _ _ _ _ _ (fun h => h0 ((hcond4_0 t).mp h)) (fun h => h1 ((hcond4_1 t).mp h)) (iblk4 V c 0 t) (iblk4 V c 1 t) (iblk4 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR1 Hg]
        · isplitl [HS0 HR1]
          · isplitl [HS0]
            · unfold owns; iexists _; isplitr
              swap; · iexact HS0
              ipureintro; exact View.read_writes_of_cover _ _ _ _ _ (scover4_B_0 c _ _ _ _ _ _ _ _ _ _ _ _ _ _ _ _ _)
            iexact HR1
          iexact Hg
        isplitl [Ho]; · iexact Ho
        isplitl [H0]; · iexact H0
        isplitl [H1]; · iexact H1
        isplitl [H2]; · iexact H2
        iexists _; iexact H3

theorem defs₀_row4 (t : Fin cfg4.N) :
    defs₀ (F := F) .tc cfg4.body (cfg4.bodyArgs t (cfg4.slots t)) = bodyAt4 t := by
  unfold defs₀; rw [Defs.onTc_tc]

theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, HR1⟩, Hg⟩
  isplitl [HS0 HR1]
  · isplitl [HS0]
    · iexists _; iexact HS0
    iexact HR1
  iexact Hg

theorem hout4 (c : Dev nD) : (dat4 V c).Φ (Fin.last cfg4.N) ⊢ Pipeline.ΦA spec4 c :=
  Phi_out4 V c _ (by rw [Fin.val_last]; have : cfg4.N = 80 := N_4; omega)

end Regions

end Cert.Kernel.Whole

end
-- ==== Proof.K.Hosts0.lean ====
/- Kernel: the host reshapes before the first call. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Whole

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

abbrev argRefs : List (Ref sig .tc) := [main_arg0, main_arg1, main_arg2, main_arg3, main_arg4, main_arg5, main_arg6, main_arg7, main_arg8]

/-! ## The host stretches: none allocates a buffer, and each lists the references its operations write, in order,
    so that a reference absent from the list keeps its contents across the stretch (Lib/StableHlo/Run.lean
    `after_of_writes_sub`) -/

theorem hostOps0_fresh : (hostOps0 : List (HloOp τ sig (Elt F))).Forall fun op => op.fresh = ∅ := by
  simp only [List.Forall]; repeat' constructor
abbrev hostOps0_W : List (Ref sig .tc) := [main_v0, main_v1, main_v2, main_v3]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

end Cert.Kernel.Whole

end
-- ==== Proof.K.Fold0.lean ====
/- Kernel: the buffer contents at the boundaries between the calls. -/
module

public import proofs.«01_k».proof.Proof.K.Region0
public import proofs.«01_k».proof.Proof.K.Region1
public import proofs.«01_k».proof.Proof.K.Region2
public import proofs.«01_k».proof.Proof.K.Region3
public import proofs.«01_k».proof.Proof.K.Region4
public import proofs.«01_k».proof.Proof.K.Hosts0

@[expose] public section

set_option maxRecDepth 16384

noncomputable section

namespace Cert.Kernel.Whole

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
theorem W5_of (c : Dev nD) (r : Ref sig .tc) (h : ∀ w : Fin cfg3.W, Pipeline.arrRef spec3 w = r → (cfg3.win w).isOut = false) :
    W5 m ρ c (Proc.devRef .tc r) = W4 m ρ c (Proc.devRef .tc r) := by
  by_cases hw : ∃ w : Fin cfg3.W, Pipeline.arrRef spec3 w = r
  · obtain ⟨w, rfl⟩ := hw
    exact (W5_arr m ρ c w).trans (((dat3 (V4 m ρ) c).arrAt_in w (h w rfl) _).trans (A_eq3 (V4 m ρ) c w))
  · exact W5_of_ne m ρ c r fun w e => hw ⟨w, e⟩
theorem argsIn3 : ∀ a ∈ argRefs, ∀ w : Fin cfg3.W, Pipeline.arrRef spec3 w = a → (cfg3.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn3 a ha)).trans (W4_args m ρ c a ha)
abbrev V5 : (c : Dev nD) → (b : Ref sig .tc) → Buf (Elt F) ((c : Thread nD τ).loc b) := fun c b => W5 m ρ c b
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

def W6 (c : Dev nD) : Valuation τ sig (Elt F) :=
  Pipeline.withArrays spec4 c (W5 m ρ c) fun w => (dat4 (V5 m ρ) c).arrAt w cfg4.N
theorem W6_arr (c : Dev nD) (w : Fin cfg4.W) :
    W6 m ρ c (Proc.devRef .tc (Pipeline.arrRef spec4 w)) = (dat4 (V5 m ρ) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
theorem W6_of (c : Dev nD) (r : Ref sig .tc) (h : ∀ w : Fin cfg4.W, Pipeline.arrRef spec4 w = r → (cfg4.win w).isOut = false) :
    W6 m ρ c (Proc.devRef .tc r) = W5 m ρ c (Proc.devRef .tc r) := by
  by_cases hw : ∃ w : Fin cfg4.W, Pipeline.arrRef spec4 w = r
  · obtain ⟨w, rfl⟩ := hw
    exact (W6_arr m ρ c w).trans (((dat4 (V5 m ρ) c).arrAt_in w (h w rfl) _).trans (A_eq4 (V5 m ρ) c w))
  · exact W6_of_ne m ρ c r fun w e => hw ⟨w, e⟩
theorem argsIn4 : ∀ a ∈ argRefs, ∀ w : Fin cfg4.W, Pipeline.arrRef spec4 w = a → (cfg4.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn4 a ha)).trans (W5_args m ρ c a ha)
abbrev V6 : (c : Dev nD) → (b : Ref sig .tc) → Buf (Elt F) ((c : Thread nD τ).loc b) := fun c b => W6 m ρ c b
theorem hF4 (c : Dev nD) (w : Fin cfg4.W) : (dat4 (V5 m ρ) c).arrAt w cfg4.N = V6 m ρ c (Pipeline.arrRef spec4 w) :=
  (W6_arr m ρ c w).symm
theorem hrest4 (c : Dev nD) : ∀ b, b ∉ Finset.univ.image (Pipeline.arrRef spec4) → V6 m ρ c b = V5 m ρ c b :=
  fun b hb => W6_of_ne m ρ c b fun w e => hb (Finset.mem_image.mpr ⟨w, Finset.mem_univ _, e⟩)

/-! ### The arguments end as launched: no host stretch writes one and no region may change one (a region reads it
    through an input window or bypasses it) -/

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)
theorem W6_main_arg2 (c : Dev nD) : W6 m ρ c (Proc.devRef .tc main_arg2) = m ((c : Thread nD τ).loc main_arg2) :=
  W6_args m ρ c main_arg2 (by decide)
theorem W6_main_arg3 (c : Dev nD) : W6 m ρ c (Proc.devRef .tc main_arg3) = m ((c : Thread nD τ).loc main_arg3) :=
  W6_args m ρ c main_arg3 (by decide)
theorem W6_main_arg4 (c : Dev nD) : W6 m ρ c (Proc.devRef .tc main_arg4) = m ((c : Thread nD τ).loc main_arg4) :=
  W6_args m ρ c main_arg4 (by decide)
theorem W6_main_arg5 (c : Dev nD) : W6 m ρ c (Proc.devRef .tc main_arg5) = m ((c : Thread nD τ).loc main_arg5) :=
  W6_args m ρ c main_arg5 (by decide)
theorem W6_main_arg6 (c : Dev nD) : W6 m ρ c (Proc.devRef .tc main_arg6) = m ((c : Thread nD τ).loc main_arg6) :=
  W6_args m ρ c main_arg6 (by decide)
theorem W6_main_arg7 (c : Dev nD) : W6 m ρ c (Proc.devRef .tc main_arg7) = m ((c : Thread nD τ).loc main_arg7) :=
  W6_args m ρ c main_arg7 (by decide)
theorem W6_main_arg8 (c : Dev nD) : W6 m ρ c (Proc.devRef .tc main_arg8) = m ((c : Thread nD τ).loc main_arg8) :=
  W6_args m ρ c main_arg8 (by decide)
end Cert.Kernel.Whole

end
-- ==== Proof.K.State.lean ====
/- Kernel: the proof data of the five calls and the state between them. -/
module

public import proofs.«01_k».proof.Proof.K.Fold0

@[expose] public section

set_option maxRecDepth 16384

noncomputable section

namespace Cert.Kernel.Whole

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

abbrev adm : (p : Fin 5) → (pcfgs (F := F) p).Adm := fun p => (cfgs p).toPCfg_adm
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
  | ⟨4, _⟩ => fun c => dat4 (V5 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

end Cert.Kernel.Whole

end
-- ==== Proof.K.Record0.lean ====
/- Kernel: call 0 (from 0) as one segment of the program. -/
module

public import proofs.«01_k».proof.Proof.K.State

@[expose] public section

set_option maxRecDepth 16384

noncomputable section

namespace Cert.Kernel.Whole

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c); unfold Pipeline.ΦA
    iintro ⟨Hp, -, Hr⟩
    isplitl [Hr]; · iexact Hr
    iexact Hp
  hout c := by
    rw [Pipeline.ownSems0_none]; refine BIBase.Entails.trans (hout0 (V1 m ρ) c) ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Whole

end
-- ==== Proof.K.Record1.lean ====
/- Kernel: call 1 (from 0) as one segment of the program. -/
module

public import proofs.«01_k».proof.Proof.K.State

@[expose] public section

set_option maxRecDepth 16384

noncomputable section

namespace Cert.Kernel.Whole

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Whole

end
-- ==== Proof.K.Record2.lean ====
/- Kernel: call 2 (from 0) as one segment of the program. -/
module

public import proofs.«01_k».proof.Proof.K.State

@[expose] public section

set_option maxRecDepth 16384

noncomputable section

namespace Cert.Kernel.Whole

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Whole

end
-- ==== Proof.K.Record3.lean ====
/- Kernel: call 3 (from 0) as one segment of the program. -/
module

public import proofs.«01_k».proof.Proof.K.State

@[expose] public section

set_option maxRecDepth 16384

noncomputable section

namespace Cert.Kernel.Whole

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) (A_eq3 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Whole

end
-- ==== Proof.K.Record4.lean ====
/- Kernel: call 4 (from 0) as one segment of the program. -/
module

public import proofs.«01_k».proof.Proof.K.State

@[expose] public section

set_option maxRecDepth 16384

noncomputable section

namespace Cert.Kernel.Whole

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V5 m ρ) c).loose
  hwaits := Pipeline.hwaits_of_owed_zero _ _ _ _ L lv 4 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V5 m ρ c) (A_eq4 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (V5 m ρ) c); unfold Pipeline.ΦA
    iintro ⟨Hp, -, Hr⟩
    isplitl [Hr]; · iexact Hr
    iexact Hp
  hout c := by
    rw [Pipeline.ownSems0_none]; refine BIBase.Entails.trans (hout4 (V5 m ρ) c) ?_; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V5 m ρ c) (V6 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Whole

end
-- ==== Proof.K.Main.lean ====
/- Kernel: the whole program: its run through the five calls. -/
module

public import proofs.«01_k».proof.Proof.K.Record0
public import proofs.«01_k».proof.Proof.K.Record1
public import proofs.«01_k».proof.Proof.K.Record2
public import proofs.«01_k».proof.Proof.K.Record3
public import proofs.«01_k».proof.Proof.K.Record4

@[expose] public section

set_option maxRecDepth 16384

noncomputable section

namespace Cert.Kernel.Whole

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .region (reg3 m ρ),
    .region (reg4 m ρ) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- The kernel runs to its end: every array holds its value of the last stage, and the semaphores are at zero. -/
theorem state : θ_run defs (onTc (τ := τ) (main (F := F))) ⟨m, fun _ => 0, ρ⟩ (fun r =>
    (∀ c : Dev nD, ∀ b ∈ Pipeline.ucRefs τ sig, r.2.mem (((c : Thread nD τ)).1, b) = W6 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

/-- The arguments come out as they went in. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c =>

      ⟨(h.1 c _ (mem_uc main_arg0 (by decide))).trans (W6_main_arg0 m ρ c),
       (h.1 c _ (mem_uc main_arg1 (by decide))).trans (W6_main_arg1 m ρ c),
       (h.1 c _ (mem_uc main_arg2 (by decide))).trans (W6_main_arg2 m ρ c),
       (h.1 c _ (mem_uc main_arg3 (by decide))).trans (W6_main_arg3 m ρ c),
       (h.1 c _ (mem_uc main_arg4 (by decide))).trans (W6_main_arg4 m ρ c),
       (h.1 c _ (mem_uc main_arg5 (by decide))).trans (W6_main_arg5 m ρ c),
       (h.1 c _ (mem_uc main_arg6 (by decide))).trans (W6_main_arg6 m ρ c),
       (h.1 c _ (mem_uc main_arg7 (by decide))).trans (W6_main_arg7 m ρ c),
       (h.1 c _ (mem_uc main_arg8 (by decide))).trans (W6_main_arg8 m ρ c)⟩, h.2⟩) (state m ρ)

end Cert.Kernel.Whole

end
-- ==== Proof.KI.Region0.lean ====
/- KernelIdeal: the first call (`scores`): what a grid point leaves in the outputs and the two scratch buffers, and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! # REGION 0 of @main: custom_call 0, `cc0_scores` (pipeline 0), at the entry contents `V` -/

/-! ## The windows' blocks -/

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 9 = 0 :=
  (fun t => by
    have ht : t.val < 144 := Nat.lt_of_lt_of_eq t.isLt N_0
    have e0 : (grid0.coords t 0).val = t.val / 9 % 16 := Pipeline.Grid.coords_val t 0 (by decide) rfl
    have e1 : (grid0.coords t 1).val = t.val / 1 % 9 := Pipeline.Grid.coords_val t 1 (by decide) rfl
    simp only [cond0_0, e0, e1]
    word_cmp
   : ∀ t : Fin grid0.N, cond0_0 (grid0.coords t) ↔ t.val % 9 = 0)

/-! ## The kernel body on any staging memrefs: a subtype the run finds -/

abbrev VO0_9 : View sig .tc .vmem S1x2048x256 .f32 := (Memref.whole cc0_stg9_0 : Memref sig .tc .vmem S1x2048x256 .f32).view
abbrev VO0_10 : View sig .tc .vmem S1x2048x256 .f32 := (Memref.whole cc0_stg10_0 : Memref sig .tc .vmem S1x2048x256 .f32).view
abbrev VO0_11 : View sig .tc .vmem S1x2048x256 .f32 := (Memref.whole cc0_stg11_0 : Memref sig .tc .vmem S1x2048x256 .f32).view
abbrev VO0_12 : View sig .tc .vmem S1x1x256 .f32 := (Memref.whole cc0_stg12_0 : Memref sig .tc .vmem S1x1x256 .f32).view
abbrev VO0_13 : View sig .tc .vmem S1x1x256 .f32 := (Memref.whole cc0_stg13_0 : Memref sig .tc .vmem S1x1x256 .f32).view
abbrev VO0_14 : View sig .tc .vmem S1x1x256 .f32 := (Memref.whole cc0_stg14_0 : Memref sig .tc .vmem S1x1x256 .f32).view
abbrev ms0_0 (t : Fin cfg0.N) : Memref sig .tc .vmem S1x2048x2560 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2560x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x2560 .fp8e5m2 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x2560 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256x2560 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2048x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2048x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x2048x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1x256 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1x256 .f32 := win0_14.stage (cfg0.slots t 14)
abbrev hs0_14 (t : Fin cfg0.N) : (ms0_14 t).IsWhole := hstage0_14 ((cfg0.slots t 14).cast nbuf0_14)
abbrev scM0_0 : Memref sig .tc .vmem S2048x128 .f32 := Memref.whole cc0_scratch0
abbrev scM0_1 : Memref sig .tc .vmem S2048x128 .f32 := Memref.whole cc0_scratch1
abbrev VS0_0 : View sig .tc .vmem S2048x128 .f32 := scM0_0.view
abbrev VS0_1 : View sig .tc .vmem S2048x128 .f32 := scM0_1.view

theorem scopedRest0_flat (c : Dev nD) :
    (Pipeline.scopedRest spec0 c : sProp 𝕄)
      = iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ Pipeline.scopedRestBut spec0 c [cc0_scratch0, cc0_scratch1]) := by
  have assoc : ∀ P Q R : sProp 𝕄, iprop((P ∗ Q) ∗ R) = iprop(P ∗ Q ∗ R) :=
    fun _ _ _ => Idealize.SL.BI.Entails.antisymm Idealize.SL.BI.sep_assoc Idealize.SL.BI.sep_assoc'
  rw [scopedRest0_split, assoc]

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Pipeline.scopedRestBut spec0 c [cc0_scratch0, cc0_scratch1]) ∗ (∃ r, prngReg c r)) := by
  unfold Pipeline.ΦA; rw [scopedRest0_flat]; simp only [scM0_0, scM0_1, owns_whole]; try rfl

section S1
variable (c : Dev nD) (i : grid0.Coords) (arg2 : Memref sig .tc .vmem S1x2048x2560 .fp8e4m3) (harg2 : arg2.IsWhole) (arg3 : Memref sig .tc .vmem S1x1x2048 .f32) (harg3 : arg3.IsWhole) (arg4 : Memref sig .tc .vmem S2560x256 .fp8e4m3) (harg4 : arg4.IsWhole) (arg5 : Memref sig .tc .vmem S1x256 .f32) (harg5 : arg5.IsWhole) (arg6 : Memref sig .tc .vmem S1x2048x2560 .fp8e5m2) (harg6 : arg6.IsWhole) (arg7 : Memref sig .tc .vmem S1x1x2048 .f32) (harg7 : arg7.IsWhole) (arg8 : Memref sig .tc .vmem S1x256x2560 .fp8e4m3) (harg8 : arg8.IsWhole) (arg9 : Memref sig .tc .vmem S1x1x256 .f32) (harg9 : arg9.IsWhole) (arg10 : Memref sig .tc .vmem S1x256x2560 .bf16) (harg10 : arg10.IsWhole) (arg11 : Memref sig .tc .vmem S1x2048x256 .f32) (harg11 : arg11.IsWhole) (arg12 : Memref sig .tc .vmem S1x2048x256 .f32) (harg12 : arg12.IsWhole) (arg13 : Memref sig .tc .vmem S1x2048x256 .f32) (harg13 : arg13.IsWhole) (arg14 : Memref sig .tc .vmem S1x1x256 .f32) (harg14 : arg14.IsWhole) (arg15 : Memref sig .tc .vmem S1x1x256 .f32) (harg15 : arg15.IsWhole) (arg16 : Memref sig .tc .vmem S1x1x256 .f32) (harg16 : arg16.IsWhole) (arg17 : Memref sig .tc .vmem S2048x128 .f32) (harg17 : arg17.IsWhole) (arg18 : Memref sig .tc .vmem S2048x128 .f32) (harg18 : arg18.IsWhole) (hc0 : cond0_0 i)
    (x0 : Vec F S1x2048x2560 .fp8e4m3) (x1 : Vec F S1x1x2048 .f32) (x2 : Vec F S2560x256 .fp8e4m3) (x3 : Vec F S1x256 .f32) (x4 : Vec F S1x2048x2560 .fp8e5m2) (x5 : Vec F S1x1x2048 .f32) (x6 : Vec F S1x256x2560 .fp8e4m3) (x7 : Vec F S1x1x256 .f32) (x8 : Vec F S1x256x2560 .bf16)

set_option maxHeartbeats 1000000 in
noncomputable def kernelRun0_A :
    Σ' (L9 : List (View.Piece (Elt F) S1x2048x256 .f32)), Σ' (L10 : List (View.Piece (Elt F) S1x2048x256 .f32)), Σ' (L11 : List (View.Piece (Elt F) S1x2048x256 .f32)), Σ' (L12 : List (View.Piece (Elt F) S1x1x256 .f32)), Σ' (L13 : List (View.Piece (Elt F) S1x1x256 .f32)), Σ' (L14 : List (View.Piece (Elt F) S1x1x256 .f32)), Σ' (LS0 : List (View.Piece (Elt F) S2048x128 .f32)), { LS1 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f LS0) ∗ (∃ f, arg18.view.loc (c : Thread nD τ) ↦[arg18.view.set]{fullShare} arg18.view.writes (Elt F) f LS1)) -∗ K ⟨⟩))
          ⊢ wp frame (wpE (defs₀ (F := F)) Variants.none c none) E (cc0_scores i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, ?_, fun E K => ?run⟩
  case run =>
    simp only [cc0_scores_eq_skeleton]; unfold cc0_scores_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]; · iexists _; iexact HS0
    iexists _; iexact HS1

theorem cover0_A_9 (y : S1x2048x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).1, y ∈ pc.1.set :=
  View.cover_of_tiledL (s := S1x2048x256) _ S1x256x256.size (by sl_kernel_rfl) y

def out0_A_9 : Vec F S1x2048x256 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).1)

theorem cover0_A_10 (y : S1x2048x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).2.1, y ∈ pc.1.set :=
  View.cover_of_tiledL (s := S1x2048x256) _ S1x256x256.size (by sl_kernel_rfl) y

def out0_A_10 : Vec F S1x2048x256 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).2.1)

theorem cover0_A_11 (y : S1x2048x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).2.2.1, y ∈ pc.1.set :=
  View.cover_of_tiledL (s := S1x2048x256) _ S1x256x256.size (by sl_kernel_rfl) y

def out0_A_11 : Vec F S1x2048x256 .f32 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).2.2.1)

theorem cover0_A_12 (y : S1x1x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).2.2.2.1, y ∈ pc.1.set :=
  View.cover_of_tiledL _ S1x1x256.size (by sl_kernel_rfl) y

def out0_A_12 : Vec F S1x1x256 .f32 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).2.2.2.1)

theorem cover0_A_13 (y : S1x1x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).2.2.2.2.1, y ∈ pc.1.set :=
  View.cover_of_tiledL _ S1x1x256.size (by sl_kernel_rfl) y

def out0_A_13 : Vec F S1x1x256 .f32 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).2.2.2.2.1)

theorem cover0_A_14 (y : S1x1x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).2.2.2.2.2.1, y ∈ pc.1.set :=
  View.cover_of_tiledL _ S1x1x256.size (by sl_kernel_rfl) y

def out0_A_14 : Vec F S1x1x256 .f32 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).2.2.2.2.2.1)

theorem scover0_A_0 (y : S2048x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).2.2.2.2.2.2.1, y ∈ pc.1.set :=
  View.cover_of_tiledL _ S2048x128.size (by sl_kernel_rfl) y

def sout0_A_0 : Vec F S2048x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).2.2.2.2.2.2.1)

theorem scover0_A_1 (y : S2048x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).2.2.2.2.2.2.2.1, y ∈ pc.1.set :=
  View.cover_of_tiledL _ S2048x128.size (by sl_kernel_rfl) y

def sout0_A_1 : Vec F S2048x128 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).2.2.2.2.2.2.2.1)

end S1

section S2
variable (c : Dev nD) (i : grid0.Coords) (arg2 : Memref sig .tc .vmem S1x2048x2560 .fp8e4m3) (harg2 : arg2.IsWhole) (arg3 : Memref sig .tc .vmem S1x1x2048 .f32) (harg3 : arg3.IsWhole) (arg4 : Memref sig .tc .vmem S2560x256 .fp8e4m3) (harg4 : arg4.IsWhole) (arg5 : Memref sig .tc .vmem S1x256 .f32) (harg5 : arg5.IsWhole) (arg6 : Memref sig .tc .vmem S1x2048x2560 .fp8e5m2) (harg6 : arg6.IsWhole) (arg7 : Memref sig .tc .vmem S1x1x2048 .f32) (harg7 : arg7.IsWhole) (arg8 : Memref sig .tc .vmem S1x256x2560 .fp8e4m3) (harg8 : arg8.IsWhole) (arg9 : Memref sig .tc .vmem S1x1x256 .f32) (harg9 : arg9.IsWhole) (arg10 : Memref sig .tc .vmem S1x256x2560 .bf16) (harg10 : arg10.IsWhole) (arg11 : Memref sig .tc .vmem S1x2048x256 .f32) (harg11 : arg11.IsWhole) (arg12 : Memref sig .tc .vmem S1x2048x256 .f32) (harg12 : arg12.IsWhole) (arg13 : Memref sig .tc .vmem S1x2048x256 .f32) (harg13 : arg13.IsWhole) (arg14 : Memref sig .tc .vmem S1x1x256 .f32) (harg14 : arg14.IsWhole) (arg15 : Memref sig .tc .vmem S1x1x256 .f32) (harg15 : arg15.IsWhole) (arg16 : Memref sig .tc .vmem S1x1x256 .f32) (harg16 : arg16.IsWhole) (arg17 : Memref sig .tc .vmem S2048x128 .f32) (harg17 : arg17.IsWhole) (arg18 : Memref sig .tc .vmem S2048x128 .f32) (harg18 : arg18.IsWhole) (hc0 : ¬cond0_0 i)
    (x0 : Vec F S1x2048x2560 .fp8e4m3) (x1 : Vec F S1x1x2048 .f32) (x2 : Vec F S2560x256 .fp8e4m3) (x3 : Vec F S1x256 .f32) (x4 : Vec F S1x2048x2560 .fp8e5m2) (x5 : Vec F S1x1x2048 .f32) (x6 : Vec F S1x256x2560 .fp8e4m3) (x7 : Vec F S1x1x256 .f32) (x8 : Vec F S1x256x2560 .bf16) (xs0 : Vec F S2048x128 .f32) (xs1 : Vec F S2048x128 .f32)

set_option maxHeartbeats 1000000 in
noncomputable def kernelRun0_B :
    Σ' (L9 : List (View.Piece (Elt F) S1x2048x256 .f32)), Σ' (L10 : List (View.Piece (Elt F) S1x2048x256 .f32)), Σ' (L11 : List (View.Piece (Elt F) S1x2048x256 .f32)), Σ' (L12 : List (View.Piece (Elt F) S1x1x256 .f32)), Σ' (L13 : List (View.Piece (Elt F) S1x1x256 .f32)), Σ' (L14 : List (View.Piece (Elt F) S1x1x256 .f32)), Σ' (LS0 : List (View.Piece (Elt F) S2048x128 .f32)), { LS1 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0 ∗ owns (c : Thread nD τ) arg18 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ owns (c : Thread nD τ) arg17 fullShare xs0 ∗ owns (c : Thread nD τ) arg18 fullShare xs1) -∗ K ⟨⟩))
          ⊢ wp frame (wpE (defs₀ (F := F)) Variants.none c none) E (cc0_scores i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, [], [], fun E K => ?run⟩
  case run =>
    simp only [cc0_scores_eq_skeleton]; unfold cc0_scores_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg17.eq_unread hfs0; obtain rfl := harg18.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]
    · iexists _; isplitr; · ipureintro; exact harg17.read_unread _
      iexact HS0
    iexists _; isplitr; · ipureintro; exact harg18.read_unread _
    iexact HS1

theorem cover0_B_9 (y : S1x2048x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1).1, y ∈ pc.1.set :=
  View.cover_of_tiledL (s := S1x2048x256) _ S1x256x256.size (by sl_kernel_rfl) y

def out0_B_9 : Vec F S1x2048x256 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1).1)

theorem cover0_B_10 (y : S1x2048x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1).2.1, y ∈ pc.1.set :=
  View.cover_of_tiledL (s := S1x2048x256) _ S1x256x256.size (by sl_kernel_rfl) y

def out0_B_10 : Vec F S1x2048x256 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1).2.1)

theorem cover0_B_11 (y : S1x2048x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1).2.2.1, y ∈ pc.1.set :=
  View.cover_of_tiledL (s := S1x2048x256) _ S1x256x256.size (by sl_kernel_rfl) y

def out0_B_11 : Vec F S1x2048x256 .f32 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1).2.2.1)

theorem cover0_B_12 (y : S1x1x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1).2.2.2.1, y ∈ pc.1.set :=
  View.cover_of_tiledL _ S1x1x256.size (by sl_kernel_rfl) y

def out0_B_12 : Vec F S1x1x256 .f32 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1).2.2.2.1)

theorem cover0_B_13 (y : S1x1x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1).2.2.2.2.1, y ∈ pc.1.set :=
  View.cover_of_tiledL _ S1x1x256.size (by sl_kernel_rfl) y

def out0_B_13 : Vec F S1x1x256 .f32 :=
  VO0_13.read (Elt F) (VO0_13.writes (Elt F) VO0_13.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1).2.2.2.2.1)

theorem cover0_B_14 (y : S1x1x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1).2.2.2.2.2.1, y ∈ pc.1.set :=
  View.cover_of_tiledL _ S1x1x256.size (by sl_kernel_rfl) y

def out0_B_14 : Vec F S1x1x256 .f32 :=
  VO0_14.read (Elt F) (VO0_14.writes (Elt F) VO0_14.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1).2.2.2.2.2.1)

end S2

/-! ## What the outputs hold after each point -/

/-- What the first point of a batch leaves: the outputs and the two scratch columns. -/
def outA0 (c : Dev nD) (t : Fin cfg0.N) (h0 : t.val % 9 = 0) : Vec F S1x2048x256 .f32 × Vec F S1x2048x256 .f32 × Vec F S1x2048x256 .f32 × Vec F S1x1x256 .f32 × Vec F S1x1x256 .f32 × Vec F S1x1x256 .f32 × Vec F S2048x128 .f32 × Vec F S2048x128 .f32 :=
  (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t))

/-- What a later point leaves, the scratch columns before it holding `s0` and `s1`. -/
def outB0 (c : Dev nD) (t : Fin cfg0.N) (h0 : ¬t.val % 9 = 0) (s0 s1 : Vec F S2048x128 .f32) : Vec F S1x2048x256 .f32 × Vec F S1x2048x256 .f32 × Vec F S1x2048x256 .f32 × Vec F S1x1x256 .f32 × Vec F S1x1x256 .f32 × Vec F S1x1x256 .f32 × Vec F S2048x128 .f32 × Vec F S2048x128 .f32 :=
  (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) s0 s1, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) s0 s1, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) s0 s1, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) s0 s1, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) s0 s1, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) s0 s1, s0, s1)

def outsAt0 (c : Dev nD) : (n : ℕ) → n < cfg0.N → Vec F S1x2048x256 .f32 × Vec F S1x2048x256 .f32 × Vec F S1x2048x256 .f32 × Vec F S1x1x256 .f32 × Vec F S1x1x256 .f32 × Vec F S1x1x256 .f32 × Vec F S2048x128 .f32 × Vec F S2048x128 .f32
  | 0, hn => outA0 V c ⟨0, hn⟩ (Nat.zero_mod _)
  | n + 1, hn =>
    if h0 : (n + 1) % 9 = 0 then outA0 V c ⟨n + 1, hn⟩ h0
    else outB0 V c ⟨n + 1, hn⟩ h0 (outsAt0 c n (Nat.lt_of_succ_lt hn)).2.2.2.2.2.2.1 (outsAt0 c n (Nat.lt_of_succ_lt hn)).2.2.2.2.2.2.2

theorem outsAt0_A (c : Dev nD) (t : Fin cfg0.N) (h0 : t.val % 9 = 0) :
    outsAt0 V c t.val t.isLt = outA0 V c t h0 := by
  obtain ⟨n, hn⟩ := t
  cases n with
  | zero => exact rfl
  | succ n => exact (dif_pos h0).trans rfl

theorem outsAt0_B (c : Dev nD) (t : Fin cfg0.N) (h0 : ¬t.val % 9 = 0) :
    outsAt0 V c t.val t.isLt = outB0 V c t h0 (outsAt0 V c (t.val - 1) (Nat.lt_of_le_of_lt (Nat.sub_le _ _) t.isLt)).2.2.2.2.2.2.1 (outsAt0 V c (t.val - 1) (Nat.lt_of_le_of_lt (Nat.sub_le _ _) t.isLt)).2.2.2.2.2.2.2 := by
  obtain ⟨n, hn⟩ := t
  cases n with
  | zero => exact (by exfalso; (try dsimp only at h0); exact absurd (Nat.zero_mod _) h0)
  | succ n => exact (dif_neg h0).trans rfl

def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.2.2.2.1) ∗ owns (c : Thread nD τ) scM0_1 fullShare ((outsAt0 V c n hn).2.2.2.2.2.2.2) ∗ Pipeline.scopedRestBut spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2.2.2.2.2.1) ∗ owns (c : Thread nD τ) scM0_1 fullShare ((outsAt0 V c n hn).2.2.2.2.2.2.2) ∗ Pipeline.scopedRestBut spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.2.2.2.2.1) ∗ owns (c : Thread nD τ) scM0_1 fullShare ((outsAt0 V c (n - 1) (by omega)).2.2.2.2.2.2.2) ∗ Pipeline.scopedRestBut spec0 c [cc0_scratch0, cc0_scratch1]) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => (outsAt0 V c t.val t.isLt).1
    | ⟨10, _⟩ => (outsAt0 V c t.val t.isLt).2.1
    | ⟨11, _⟩ => (outsAt0 V c t.val t.isLt).2.2.1
    | ⟨12, _⟩ => (outsAt0 V c t.val t.isLt).2.2.2.1
    | ⟨13, _⟩ => (outsAt0 V c t.val t.isLt).2.2.2.2.1
    | ⟨14, _⟩ => (outsAt0 V c t.val t.isLt).2.2.2.2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; exact Pipeline.Dat.Φ_castSucc (PhiS0 V c) t

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = (outsAt0 V c t.val t.isLt).1 := by dsimp only [dat0]
theorem after0_10 (c : Dev nD) (t : Fin cfg0.N) : (dat0 V c).after 10 t = (outsAt0 V c t.val t.isLt).2.1 := by dsimp only [dat0]
theorem after0_11 (c : Dev nD) (t : Fin cfg0.N) : (dat0 V c).after 11 t = (outsAt0 V c t.val t.isLt).2.2.1 := by dsimp only [dat0]
theorem after0_12 (c : Dev nD) (t : Fin cfg0.N) : (dat0 V c).after 12 t = (outsAt0 V c t.val t.isLt).2.2.2.1 := by dsimp only [dat0]
theorem after0_13 (c : Dev nD) (t : Fin cfg0.N) : (dat0 V c).after 13 t = (outsAt0 V c t.val t.isLt).2.2.2.2.1 := by dsimp only [dat0]
theorem after0_14 (c : Dev nD) (t : Fin cfg0.N) : (dat0 V c).after 14 t = (outsAt0 V c t.val t.isLt).2.2.2.2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d))
    ∗ (∃ d, owns (c : Thread nD τ) (ms0_13 t) fullShare ((dat0 V c).before 13 t d))
    ∗ (∃ d, owns (c : Thread nD τ) (ms0_14 t) fullShare ((dat0 V c).before 14 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t)
    ∗ owns (c : Thread nD τ) (ms0_11 t) fullShare ((dat0 V c).after 11 t)
    ∗ owns (c : Thread nD τ) (ms0_12 t) fullShare ((dat0 V c).after 12 t)
    ∗ owns (c : Thread nD τ) (ms0_13 t) fullShare ((dat0 V c).after 13 t)
    ∗ owns (c : Thread nD τ) (ms0_14 t) fullShare ((dat0 V c).after 14 t))

set_option maxHeartbeats 12800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).owesAt () t.succ = (dat0 V c).owesAt () t.castSucc from rfl,
    after0_0, after0_1, after0_2, after0_3, after0_4, after0_5, after0_6, after0_7, after0_8, after0_9, after0_10, after0_11, after0_12, after0_13, after0_14]
  rw [show (dat0 V c).Φ t.succ = PhiS0 V c (t.val + 1) t.isLt from rfl, PhiS0_succ]
  have hN : t.val < 144 := lt_of_lt_of_eq t.isLt (show cfg0.N = 144 from N_0)
  by_cases h0 : t.val % 9 = 0
  · by_cases hz : t.val = 0
    · rw [PhiS0_castSucc V c t, PhiS0_zero V c _ _ hz, PhiA0_eq]
      rw [outsAt0_A V c t h0, outA0]
      unfold out0_A_9 out0_A_10 out0_A_11 out0_A_12 out0_A_13 out0_A_14 sout0_A_0 sout0_A_1; (try dsimp only)
      iintro ⟨⟨⟨HS0, HS1, HR2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun0_A c (grid0.coords t) _ _ _ _ _ _ _ _ _ _ _ _ _ _ _ _ _ _ _ _ _ _ _ _ _ _ _ _ _ _ _ _ _ _ ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t)).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      isplitl [HS0]; · iexact HS0
      isplitl [HS1]; · iexact HS1
      iintro ⟨H0, H1, H2, H3, H4, H5, H6, H7, H8, ⟨%e9, H9⟩, ⟨%e10, H10⟩, ⟨%e11, H11⟩, ⟨%e12, H12⟩, ⟨%e13, H13⟩, ⟨%e14, H14⟩, ⟨%es0, HS0⟩, ⟨%es1, HS1⟩⟩
      isplitl [HS0 HS1 HR2 Hg]
      · isplitl [HS0 HS1 HR2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _)
          iexact HR2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _)
      unfold owns; iexists _; isplitr
      swap; · iexact H14
      ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _)
    · rw [PhiS0_castSucc V c t, PhiS0_pos V c _ _ hz]
      rw [outsAt0_A V c t h0, outA0]
      unfold out0_A_9 out0_A_10 out0_A_11 out0_A_12 out0_A_13 out0_A_14 sout0_A_0 sout0_A_1; (try dsimp only)
      iintro ⟨⟨⟨HS0, HS1, HR2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun0_A c (grid0.coords t) _ _ _ _ _ _ _ _ _ _ _ _ _ _ _ _ _ _ _ _ _ _ _ _ _ _ _ _ _ _ _ _ _ _ ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t)).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      isplitl [HS0]; · iexists _; iexact HS0
      isplitl [HS1]; · iexists _; iexact HS1
      iintro ⟨H0, H1, H2, H3, H4, H5, H6, H7, H8, ⟨%e9, H9⟩, ⟨%e10, H10⟩, ⟨%e11, H11⟩, ⟨%e12, H12⟩, ⟨%e13, H13⟩, ⟨%e14, H14⟩, ⟨%es0, HS0⟩, ⟨%es1, HS1⟩⟩
      isplitl [HS0 HS1 HR2 Hg]
      · isplitl [HS0 HS1 HR2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _)
          iexact HR2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _)
      unfold owns; iexists _; isplitr
      swap; · iexact H14
      ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _)
  · by_cases hz : t.val = 0
    · exfalso; have hN : t.val < 144 := lt_of_lt_of_eq t.isLt (show cfg0.N = 144 from N_0); omega
    · rw [PhiS0_castSucc V c t, PhiS0_pos V c _ _ hz]
      rw [outsAt0_B V c t h0, outB0]
      unfold out0_B_9 out0_B_10 out0_B_11 out0_B_12 out0_B_13 out0_B_14; (try dsimp only)
      iintro ⟨⟨⟨HS0, HS1, HR2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun0_B c (grid0.coords t) _ _ _ _ _ _ _ _ _ _ _ _ _ _ _ _ _ _ _ _ _ _ _ _ _ _ _ _ _ _ _ _ _ _ (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) _ _).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      isplitl [HS0]; · iexact HS0
      isplitl [HS1]; · iexact HS1
      iintro ⟨H0, H1, H2, H3, H4, H5, H6, H7, H8, ⟨%e9, H9⟩, ⟨%e10, H10⟩, ⟨%e11, H11⟩, ⟨%e12, H12⟩, ⟨%e13, H13⟩, ⟨%e14, H14⟩, HS0, HS1⟩
      isplitl [HS0 HS1 HR2 Hg]
      · isplitl [HS0 HS1 HR2]
        · isplitl [HS0]
          · iexact HS0
          isplitl [HS1]
          · iexact HS1
          iexact HR2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _)
      unfold owns; iexists _; isplitr
      swap; · iexact H14
      ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _)

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HR2⟩, Hg⟩
  isplitl [HS0 HS1 HR2]
  · isplitl [HS0]
    · iexists _; iexact HS0
    isplitl [HS1]
    · iexists _; iexact HS1
    iexact HR2
  iexact Hg

theorem hout0 (c : Dev nD) : (dat0 V c).Φ (Fin.last cfg0.N) ⊢ Pipeline.ΦA spec0 c :=
  Phi_out0 V c _ (by rw [Fin.val_last]; have : cfg0.N = 144 := N_0; omega)

end Regions

end Cert.KernelIdeal.Whole

end
-- ==== Proof.KI.Region1.lean ====
/- KernelIdeal: the second call (`grads`): what a grid point leaves in the outputs, and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! # REGION 1 of @main: custom_call 1, `cc1_grads` (pipeline 1), at the entry contents `V` -/

/-! ## The windows' blocks -/

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x256x2304 := Rect.unit (s := S1x256x2304) ![0, 0, 0] S1x256x2304.size inb_S1x256x2304_S1x256x2304_0_0_0
abbrev r1_1 : Rect S1x1x2304 := Rect.unit (s := S1x1x2304) ![0, 0, 0] S1x1x2304.size inb_S1x1x2304_S1x1x2304_0_0_0
abbrev r1_2 : Rect S1x1x256 := Rect.unit (s := S1x1x256) ![0, 0, 0] S1x1x256.size inb_S1x1x256_S1x1x256_0_0_0

/-! ## What the body leaves in each output window's buffer -/

/-! ### Values of the body that several stores write -/

def k1_pay11 (x0 : Vec F S1x256x2304 .f32) (x1 : Vec F S1x256x2304 .f32) (x2 : Vec F S1x256x2304 .f32) (x3 : Vec F S1x1x256 .f32) (x4 : Vec F S1x1x2304 .f32) (x5 : Vec F S1x1x2304 .f32) (x6 : Vec F S1x1x2304 .f32) : FVec F S256x2304 .f32 :=
  k1_pay8 (View.ld x0 r1_0) (View.ld x4 r1_1) (View.ld x5 r1_1) -- `v26`
def k1_pay12 (x0 : Vec F S1x256x2304 .f32) (x1 : Vec F S1x256x2304 .f32) (x2 : Vec F S1x256x2304 .f32) (x3 : Vec F S1x1x256 .f32) (x4 : Vec F S1x1x2304 .f32) (x5 : Vec F S1x1x2304 .f32) (x6 : Vec F S1x1x2304 .f32) : FVec F S256x2304 .f32 :=
  k1_pay9 (View.ld x0 r1_0) (View.ld x1 r1_0) -- `v29`
def k1_pay13 (x0 : Vec F S1x256x2304 .f32) (x1 : Vec F S1x256x2304 .f32) (x2 : Vec F S1x256x2304 .f32) (x3 : Vec F S1x1x256 .f32) (x4 : Vec F S1x1x2304 .f32) (x5 : Vec F S1x1x2304 .f32) (x6 : Vec F S1x1x2304 .f32) : FVec F S256x2304 .f32 :=
  k1_pay10 (View.ld x2 r1_0) (View.ld x6 r1_1) -- `v35`

def out1_7 (x0 : Vec F S1x256x2304 .f32) (x1 : Vec F S1x256x2304 .f32) (x2 : Vec F S1x256x2304 .f32) (x3 : Vec F S1x1x256 .f32) (x4 : Vec F S1x1x2304 .f32) (x5 : Vec F S1x1x2304 .f32) (x6 : Vec F S1x1x2304 .f32) : Vec F S1x256x2304 .f32 :=
  View.canon [⟨r1_0, k1_pay2 (k1_pay11 x0 x1 x2 x3 x4 x5 x6) (k1_pay12 x0 x1 x2 x3 x4 x5 x6) (k1_pay13 x0 x1 x2 x3 x4 x5 x6)⟩]

theorem cover1_7 (p0 : Vec F S1x256x2304 .f32) (y : S1x256x2304.Idx) :
    ∃ pc ∈ ([⟨r1_0, p0⟩] : List (View.Piece (Elt F) S1x256x2304 .f32)), y ∈ pc.1.set :=
  View.cover_of_tiled [⟨r1_0, p0⟩] S1x256x2304.size (by rfl) y

def out1_8 (x0 : Vec F S1x256x2304 .f32) (x1 : Vec F S1x256x2304 .f32) (x2 : Vec F S1x256x2304 .f32) (x3 : Vec F S1x1x256 .f32) (x4 : Vec F S1x1x2304 .f32) (x5 : Vec F S1x1x2304 .f32) (x6 : Vec F S1x1x2304 .f32) : Vec F S1x256x2304 .bf16 :=
  View.canon [⟨r1_0, k1_pay3 (k1_pay11 x0 x1 x2 x3 x4 x5 x6) (k1_pay12 x0 x1 x2 x3 x4 x5 x6) (k1_pay13 x0 x1 x2 x3 x4 x5 x6)⟩]

theorem cover1_8 (p0 : Vec F S1x256x2304 .bf16) (y : S1x256x2304.Idx) :
    ∃ pc ∈ ([⟨r1_0, p0⟩] : List (View.Piece (Elt F) S1x256x2304 .bf16)), y ∈ pc.1.set :=
  View.cover_of_tiled [⟨r1_0, p0⟩] S1x256x2304.size (by rfl) y

def out1_9 (x0 : Vec F S1x256x2304 .f32) (x1 : Vec F S1x256x2304 .f32) (x2 : Vec F S1x256x2304 .f32) (x3 : Vec F S1x1x256 .f32) (x4 : Vec F S1x1x2304 .f32) (x5 : Vec F S1x1x2304 .f32) (x6 : Vec F S1x1x2304 .f32) : Vec F S1x256x2304 .bf16 :=
  View.canon [⟨r1_0, k1_pay4 (k1_pay11 x0 x1 x2 x3 x4 x5 x6)⟩]

theorem cover1_9 (p0 : Vec F S1x256x2304 .bf16) (y : S1x256x2304.Idx) :
    ∃ pc ∈ ([⟨r1_0, p0⟩] : List (View.Piece (Elt F) S1x256x2304 .bf16)), y ∈ pc.1.set :=
  View.cover_of_tiled [⟨r1_0, p0⟩] S1x256x2304.size (by rfl) y

def out1_10 (x0 : Vec F S1x256x2304 .f32) (x1 : Vec F S1x256x2304 .f32) (x2 : Vec F S1x256x2304 .f32) (x3 : Vec F S1x1x256 .f32) (x4 : Vec F S1x1x2304 .f32) (x5 : Vec F S1x1x2304 .f32) (x6 : Vec F S1x1x2304 .f32) : Vec F S1x256x2304 .bf16 :=
  View.canon [⟨r1_0, k1_pay5 (k1_pay7 (View.ld x0 r1_0)) (View.ld x3 r1_2)⟩]

theorem cover1_10 (p0 : Vec F S1x256x2304 .bf16) (y : S1x256x2304.Idx) :
    ∃ pc ∈ ([⟨r1_0, p0⟩] : List (View.Piece (Elt F) S1x256x2304 .bf16)), y ∈ pc.1.set :=
  View.cover_of_tiled [⟨r1_0, p0⟩] S1x256x2304.size (by rfl) y

/-! ## The body's triple -/

set_option maxHeartbeats 1000000 in
theorem sound_kernel1 (c : Dev nD) (E : Set ℕ) (i : grid1.Coords) (arg2 : Memref sig .tc .vmem S1x256x2304 .f32) (harg2 : arg2.IsWhole) (arg3 : Memref sig .tc .vmem S1x256x2304 .f32) (harg3 : arg3.IsWhole) (arg4 : Memref sig .tc .vmem S1x256x2304 .f32) (harg4 : arg4.IsWhole) (arg5 : Memref sig .tc .vmem S1x1x256 .f32) (harg5 : arg5.IsWhole) (arg6 : Memref sig .tc .vmem S1x1x2304 .f32) (harg6 : arg6.IsWhole) (arg7 : Memref sig .tc .vmem S1x1x2304 .f32) (harg7 : arg7.IsWhole) (arg8 : Memref sig .tc .vmem S1x1x2304 .f32) (harg8 : arg8.IsWhole) (arg9 : Memref sig .tc .vmem S1x256x2304 .f32) (harg9 : arg9.IsWhole) (arg10 : Memref sig .tc .vmem S1x256x2304 .bf16) (harg10 : arg10.IsWhole) (arg11 : Memref sig .tc .vmem S1x256x2304 .bf16) (harg11 : arg11.IsWhole) (arg12 : Memref sig .tc .vmem S1x256x2304 .bf16) (harg12 : arg12.IsWhole)
    (x0 : Vec F S1x256x2304 .f32) (x1 : Vec F S1x256x2304 .f32) (x2 : Vec F S1x256x2304 .f32) (x3 : Vec F S1x1x256 .f32) (x4 : Vec F S1x1x2304 .f32) (x5 : Vec F S1x1x2304 .f32) (x6 : Vec F S1x1x2304 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out1_7 x0 x1 x2 x3 x4 x5 x6) ∗ owns (c : Thread nD τ) arg10 fullShare (out1_8 x0 x1 x2 x3 x4 x5 x6) ∗ owns (c : Thread nD τ) arg11 fullShare (out1_9 x0 x1 x2 x3 x4 x5 x6) ∗ owns (c : Thread nD τ) arg12 fullShare (out1_10 x0 x1 x2 x3 x4 x5 x6)) -∗ K ⟨⟩))
      ⊢ wp frame (wpE (defs₀ (F := F)) Variants.none c none) E (cc1_grads i arg2 harg2 arg3 harg3 arg4 harg4 arg5 harg5 arg6 harg6 arg7 harg7 arg8 harg8 arg9 harg9 arg10 harg10 arg11 harg11 arg12 harg12) K := by
  simp only [cc1_grads_eq_skeleton]; unfold cc1_grads_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover1_7 _)).trans ?_
    rfl
  isplitl [H8]
  · iexists _; isplitr
    swap; · iexact H8
    ipureintro
    refine (View.read_writes_eq_canon _ _ _ (cover1_8 _)).trans ?_
    rfl
  isplitl [H9]
  · iexists _; isplitr
    swap; · iexact H9
    ipureintro
    refine (View.read_writes_eq_canon _ _ _ (cover1_9 _)).trans ?_
    rfl
  iexists _; isplitr
  swap; · iexact H10
  ipureintro
  refine (View.read_writes_eq_canon _ _ _ (cover1_10 _)).trans ?_
  rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
    | ⟨9, _⟩ => out1_9 (iblk1 V c 0 t) (iblk1 V c 1 t) (iblk1 V c 2 t) (iblk1 V c 3 t) (iblk1 V c 4 t) (iblk1 V c 5 t) (iblk1 V c 6 t)
    | ⟨10, _⟩ => out1_10 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ (grid1.coords t) _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Whole

end
-- ==== Proof.KI.Region2.lean ====
/- KernelIdeal: the third call (`dx`): what a grid point leaves in the output, and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! # REGION 2 of @main: custom_call 2, `cc2_dx` (pipeline 2), at the entry contents `V` -/

/-! ## The windows' blocks -/

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S1280x2304 := Rect.unit (s := S1280x2304) ![0, 0] S1280x2304.size inb_S1280x2304_S1280x2304_0_0
abbrev r2_1 : Rect S1x2304 := Rect.unit (s := S1x2304) ![0, 0] S1x2304.size inb_S1x2304_S1x2304_0_0
abbrev r2_2 : Rect S1x512x2304 := Rect.unit (s := S1x512x2304) ![0, 0, 0] S1x512x2304.size inb_S1x512x2304_S1x512x2304_0_0_0
abbrev r2_3 : Rect S1x2304x1280 := Rect.unit (s := S1x2304x1280) ![0, 0, 0] S1x2304x1280.size inb_S1x2304x1280_S1x2304x1280_0_0_0
abbrev r2_4 : Rect S1x512x1280 := Rect.unit (s := S1x512x1280) ![0, 0, 0] S1x512x1280.size inb_S1x512x1280_S1x512x1280_0_0_0

/-! ## What the body leaves in each output window's buffer -/

def out2_5 (x0 : Vec F S1x512x2304 .bf16) (x1 : Vec F S1x512x2304 .bf16) (x2 : Vec F S1x2304x1280 .bf16) (x3 : Vec F S1280x2304 .fp8e4m3) (x4 : Vec F S1x2304 .f32) : Vec F S1x512x1280 .bf16 :=
  View.canon [⟨r2_4, k2_pay1 (View.ld x3 r2_0) (View.ld x4 r2_1) (View.ld x0 r2_2) (View.ld x2 r2_3) (View.ld x1 r2_2)⟩]

theorem cover2_5 (p0 : Vec F S1x512x1280 .bf16) (y : S1x512x1280.Idx) :
    ∃ pc ∈ ([⟨r2_4, p0⟩] : List (View.Piece (Elt F) S1x512x1280 .bf16)), y ∈ pc.1.set :=
  View.cover_of_tiled [⟨r2_4, p0⟩] S1x512x1280.size (by rfl) y

/-! ## The body's triple -/

set_option maxHeartbeats 1000000 in
theorem sound_kernel2 (c : Dev nD) (E : Set ℕ) (i : grid2.Coords) (arg3 : Memref sig .tc .vmem S1x512x2304 .bf16) (harg3 : arg3.IsWhole) (arg4 : Memref sig .tc .vmem S1x512x2304 .bf16) (harg4 : arg4.IsWhole) (arg5 : Memref sig .tc .vmem S1x2304x1280 .bf16) (harg5 : arg5.IsWhole) (arg6 : Memref sig .tc .vmem S1280x2304 .fp8e4m3) (harg6 : arg6.IsWhole) (arg7 : Memref sig .tc .vmem S1x2304 .f32) (harg7 : arg7.IsWhole) (arg8 : Memref sig .tc .vmem S1x512x1280 .bf16) (harg8 : arg8.IsWhole)
    (x0 : Vec F S1x512x2304 .bf16) (x1 : Vec F S1x512x2304 .bf16) (x2 : Vec F S1x2304x1280 .bf16) (x3 : Vec F S1280x2304 .fp8e4m3) (x4 : Vec F S1x2304 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (out2_5 x0 x1 x2 x3 x4)) -∗ K ⟨⟩))
      ⊢ wp frame (wpE (defs₀ (F := F)) Variants.none c none) E (cc2_dx i arg3 harg3 arg4 harg4 arg5 harg5 arg6 harg6 arg7 harg7 arg8 harg8) K := by
  simp only [cc2_dx_eq_skeleton]; unfold cc2_dx_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Whole

end
-- ==== Proof.KI.Region3.lean ====
/- KernelIdeal: the fourth call (`dslot`): what a grid point leaves in the output, and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! # REGION 3 of @main: custom_call 3, `cc3_dslot` (pipeline 3), at the entry contents `V` -/

/-! ## The windows' blocks -/

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S1x2048x768 := Rect.unit (s := S1x2048x768) ![0, 0, 0] S1x2048x768.size inb_S1x2048x768_S1x2048x768_0_0_0
abbrev r3_1 : Rect S1x2048x2560 := Rect.unit (s := S1x2048x2560) ![0, 0, 0] S1x2048x2560.size inb_S1x2048x2560_S1x2048x2560_0_0_0
abbrev r3_2 : Rect S1x768x2560 := Rect.unit (s := S1x768x2560) ![0, 0, 0] S1x768x2560.size inb_S1x768x2560_S1x768x2560_0_0_0

/-! ## What the body leaves in each output window's buffer -/

def out3_2 (x0 : Vec F S1x2048x768 .bf16) (x1 : Vec F S1x2048x2560 .fp8e5m2) : Vec F S1x768x2560 .bf16 :=
  View.canon [⟨r3_2, k3_pay1 (View.ld x0 r3_0) (View.ld x1 r3_1)⟩]

theorem cover3_2 (p0 : Vec F S1x768x2560 .bf16) (y : S1x768x2560.Idx) :
    ∃ pc ∈ ([⟨r3_2, p0⟩] : List (View.Piece (Elt F) S1x768x2560 .bf16)), y ∈ pc.1.set :=
  View.cover_of_tiled [⟨r3_2, p0⟩] S1x768x2560.size (by rfl) y

/-! ## The body's triple -/

set_option maxHeartbeats 1000000 in
theorem sound_kernel3 (c : Dev nD) (E : Set ℕ) (i : grid3.Coords) (arg2 : Memref sig .tc .vmem S1x2048x768 .bf16) (harg2 : arg2.IsWhole) (arg3 : Memref sig .tc .vmem S1x2048x2560 .fp8e5m2) (harg3 : arg3.IsWhole) (arg4 : Memref sig .tc .vmem S1x768x2560 .bf16) (harg4 : arg4.IsWhole)
    (x0 : Vec F S1x2048x768 .bf16) (x1 : Vec F S1x2048x2560 .fp8e5m2) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out3_2 x0 x1)) -∗ K ⟨⟩))
      ⊢ wp frame (wpE (defs₀ (F := F)) Variants.none c none) E (cc3_dslot i arg2 harg2 arg3 harg3 arg4 harg4) K := by
  simp only [cc3_dslot_eq_skeleton]; unfold cc3_dslot_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row3 (t : Fin cfg3.N) :
    defs₀ (F := F) .tc cfg3.body (cfg3.bodyArgs t (cfg3.slots t)) = bodyAt3 t := by
  unfold defs₀; rw [Defs.onTc_tc]

theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.KernelIdeal.Whole

end
-- ==== Proof.KI.Region4.lean ====
/- KernelIdeal: the fifth call (`dphi`): the accumulator carried over the batches, and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! # REGION 4 of @main: custom_call 4, `cc4_dphi` (pipeline 4), at the entry contents `V` -/

/-! ## The windows' blocks -/

noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 16 = 0 :=
  (fun t => by
    have ht : t.val < 80 := Nat.lt_of_lt_of_eq t.isLt N_4
    have e0 : (grid4.coords t 0).val = t.val / 16 % 5 := Pipeline.Grid.coords_val t 0 (by decide) rfl
    have e1 : (grid4.coords t 1).val = t.val / 1 % 16 := Pipeline.Grid.coords_val t 1 (by decide) rfl
    simp only [cond4_0, e0, e1]
    word_cmp
   : ∀ t : Fin grid4.N, cond4_0 (grid4.coords t) ↔ t.val % 16 = 0)

abbrev cond4_1 (i : grid4.Coords) : Prop := k4_cond2 i = 1#1
theorem hcond4_1 : ∀ t : Fin cfg4.N, cond4_1 (grid4.coords t) ↔ t.val % 16 = 15 :=
  (fun t => by
    have ht : t.val < 80 := Nat.lt_of_lt_of_eq t.isLt N_4
    have e0 : (grid4.coords t 0).val = t.val / 16 % 5 := Pipeline.Grid.coords_val t 0 (by decide) rfl
    have e1 : (grid4.coords t 1).val = t.val / 1 % 16 := Pipeline.Grid.coords_val t 1 (by decide) rfl
    simp only [cond4_1, k4_cond2, e0, e1]
    word_cmp
   : ∀ t : Fin grid4.N, cond4_1 (grid4.coords t) ↔ t.val % 16 = 15)

/-! ## Where the windows are idle (the printed configuration's table `Cfg.idle`) -/

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
theorem idleAt4_3_A : ∀ t : Fin cfg4.N, cond4_0 (grid4.coords t) → ¬cond4_1 (grid4.coords t) → cfg4.idle 3 (grid4.coords t) = true := by decide +kernel
theorem noFlush4_3_A : ∀ t : Fin cfg4.N, cond4_0 (grid4.coords t) → ¬cond4_1 (grid4.coords t) → (cfg4.win 3).flush t = false := by decide +kernel
theorem idleAt4_3_B : ∀ t : Fin cfg4.N, ¬cond4_0 (grid4.coords t) → ¬cond4_1 (grid4.coords t) → cfg4.idle 3 (grid4.coords t) = true := by decide +kernel
theorem noFlush4_3_B : ∀ t : Fin cfg4.N, ¬cond4_0 (grid4.coords t) → ¬cond4_1 (grid4.coords t) → (cfg4.win 3).flush t = false := by decide +kernel
theorem liveAt4_3_C : ∀ t : Fin cfg4.N, ¬cond4_0 (grid4.coords t) → cond4_1 (grid4.coords t) → cfg4.idle 3 (grid4.coords t) = false := by decide +kernel

/-! ## The kernel body on any staging memrefs: a subtype the run finds -/

abbrev VO4_3 : View sig .tc .vmem S512x2304 .bf16 := (Memref.whole cc4_stg3_0 : Memref sig .tc .vmem S512x2304 .bf16).view
abbrev ms4_0 (t : Fin cfg4.N) : Memref sig .tc .vmem S1x2048x512 .fp8e4m3 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x1x2048 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x2048x2304 .bf16 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S512x2304 .bf16 := win4_3.stage (cfg4.slots t 3)
abbrev hs4_3 (t : Fin cfg4.N) : (ms4_3 t).IsWhole := hstage4_3 ((cfg4.slots t 3).cast nbuf4_3)
abbrev scM4_0 : Memref sig .tc .vmem S512x2304 .f32 := Memref.whole cc4_scratch0
abbrev VS4_0 : View sig .tc .vmem S512x2304 .f32 := scM4_0.view

theorem scopedRest4_flat (c : Dev nD) :
    (Pipeline.scopedRest spec4 c : sProp 𝕄)
      = iprop((∃ f : Buf (Elt F) ((c : Thread nD τ).loc cc4_scratch0), ((c : Thread nD τ).loc cc4_scratch0) ↦{fullShare} f) ∗ Pipeline.scopedRestBut spec4 c [cc4_scratch0]) := by
  rw [scopedRest4_split]

theorem PhiA4_eq (c : Dev nD) :
    (Pipeline.ΦA spec4 c : sProp 𝕄)
      = iprop(iprop((∃ d, owns (c : Thread nD τ) scM4_0 fullShare d) ∗ Pipeline.scopedRestBut spec4 c [cc4_scratch0]) ∗ (∃ r, prngReg c r)) := by
  unfold Pipeline.ΦA; rw [scopedRest4_flat]; simp only [scM4_0, owns_whole]; try rfl

section S1
variable (c : Dev nD) (i : grid4.Coords) (arg2 : Memref sig .tc .vmem S1x2048x512 .fp8e4m3) (harg2 : arg2.IsWhole) (arg3 : Memref sig .tc .vmem S1x1x2048 .f32) (harg3 : arg3.IsWhole) (arg4 : Memref sig .tc .vmem S1x2048x2304 .bf16) (harg4 : arg4.IsWhole) (arg5 : Memref sig .tc .vmem S512x2304 .bf16) (harg5 : arg5.IsWhole) (arg6 : Memref sig .tc .vmem S512x2304 .f32) (harg6 : arg6.IsWhole) (hc0 : cond4_0 i) (hc1 : ¬cond4_1 i)
    (x0 : Vec F S1x2048x512 .fp8e4m3) (x1 : Vec F S1x1x2048 .f32) (x2 : Vec F S1x2048x2304 .bf16)

set_option maxHeartbeats 1000000 in
noncomputable def kernelRun4_A :
    Σ' (L3 : List (View.Piece (Elt F) S512x2304 .bf16)), { LS0 : List (View.Piece (Elt F) S512x2304 .f32) //
      ∀ (xi3 : Vec F S512x2304 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc4_dphi i arg2 harg2 arg3 harg3 arg4 harg4 arg5 harg5 arg6 harg6) K } := by
  refine ⟨[], ?_, fun xi3 E K => ?run⟩
  case run =>
    simp only [cc4_dphi_eq_skeleton]; unfold cc4_dphi_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

def out4_A_3 : Vec F S512x2304 .bf16 :=
  VO4_3.read (Elt F) (VO4_3.writes (Elt F) VO4_3.junk (kernelRun4_A c i arg2 harg2 arg3 harg3 arg4 harg4 arg5 harg5 arg6 harg6 hc0 hc1 x0 x1 x2).1)

theorem scover4_A_0 (y : S512x2304.Idx) :
    ∃ pc ∈ (kernelRun4_A c i arg2 harg2 arg3 harg3 arg4 harg4 arg5 harg5 arg6 harg6 hc0 hc1 x0 x1 x2).2.1, y ∈ pc.1.set :=
  View.cover_of_tiledL (kernelRun4_A c i arg2 harg2 arg3 harg3 arg4 harg4 arg5 harg5 arg6 harg6 hc0 hc1 x0 x1 x2).2.1 S512x2304.size (by sl_kernel_rfl) y

def sout4_A_0 : Vec F S512x2304 .f32 :=
  VS4_0.read (Elt F) (VS4_0.writes (Elt F) VS4_0.junk (kernelRun4_A c i arg2 harg2 arg3 harg3 arg4 harg4 arg5 harg5 arg6 harg6 hc0 hc1 x0 x1 x2).2.1)

end S1

section S2
variable (c : Dev nD) (i : grid4.Coords) (arg2 : Memref sig .tc .vmem S1x2048x512 .fp8e4m3) (harg2 : arg2.IsWhole) (arg3 : Memref sig .tc .vmem S1x1x2048 .f32) (harg3 : arg3.IsWhole) (arg4 : Memref sig .tc .vmem S1x2048x2304 .bf16) (harg4 : arg4.IsWhole) (arg5 : Memref sig .tc .vmem S512x2304 .bf16) (harg5 : arg5.IsWhole) (arg6 : Memref sig .tc .vmem S512x2304 .f32) (harg6 : arg6.IsWhole) (hc0 : ¬cond4_0 i) (hc1 : ¬cond4_1 i)
    (x0 : Vec F S1x2048x512 .fp8e4m3) (x1 : Vec F S1x1x2048 .f32) (x2 : Vec F S1x2048x2304 .bf16) (xs0 : Vec F S512x2304 .f32)

set_option maxHeartbeats 1000000 in
noncomputable def kernelRun4_B :
    Σ' (L3 : List (View.Piece (Elt F) S512x2304 .bf16)), { LS0 : List (View.Piece (Elt F) S512x2304 .f32) //
      ∀ (xi3 : Vec F S512x2304 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc4_dphi i arg2 harg2 arg3 harg3 arg4 harg4 arg5 harg5 arg6 harg6) K } := by
  refine ⟨[], ?_, fun xi3 E K => ?run⟩
  case run =>
    simp only [cc4_dphi_eq_skeleton]; unfold cc4_dphi_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

def out4_B_3 : Vec F S512x2304 .bf16 :=
  VO4_3.read (Elt F) (VO4_3.writes (Elt F) VO4_3.junk (kernelRun4_B c i arg2 harg2 arg3 harg3 arg4 harg4 arg5 harg5 arg6 harg6 hc0 hc1 x0 x1 x2 xs0).1)

theorem scover4_B_0 (y : S512x2304.Idx) :
    ∃ pc ∈ (kernelRun4_B c i arg2 harg2 arg3 harg3 arg4 harg4 arg5 harg5 arg6 harg6 hc0 hc1 x0 x1 x2 xs0).2.1, y ∈ pc.1.set :=
  View.cover_of_tiledL (kernelRun4_B c i arg2 harg2 arg3 harg3 arg4 harg4 arg5 harg5 arg6 harg6 hc0 hc1 x0 x1 x2 xs0).2.1 S512x2304.size (by sl_kernel_rfl) y

def sout4_B_0 : Vec F S512x2304 .f32 :=
  VS4_0.read (Elt F) (VS4_0.writes (Elt F) VS4_0.junk (kernelRun4_B c i arg2 harg2 arg3 harg3 arg4 harg4 arg5 harg5 arg6 harg6 hc0 hc1 x0 x1 x2 xs0).2.1)

end S2

section S3
variable (c : Dev nD) (i : grid4.Coords) (arg2 : Memref sig .tc .vmem S1x2048x512 .fp8e4m3) (harg2 : arg2.IsWhole) (arg3 : Memref sig .tc .vmem S1x1x2048 .f32) (harg3 : arg3.IsWhole) (arg4 : Memref sig .tc .vmem S1x2048x2304 .bf16) (harg4 : arg4.IsWhole) (arg5 : Memref sig .tc .vmem S512x2304 .bf16) (harg5 : arg5.IsWhole) (arg6 : Memref sig .tc .vmem S512x2304 .f32) (harg6 : arg6.IsWhole) (hc0 : ¬cond4_0 i) (hc1 : cond4_1 i)
    (x0 : Vec F S1x2048x512 .fp8e4m3) (x1 : Vec F S1x1x2048 .f32) (x2 : Vec F S1x2048x2304 .bf16) (xs0 : Vec F S512x2304 .f32)

set_option maxHeartbeats 1000000 in
noncomputable def kernelRun4_C :
    Σ' (L3 : List (View.Piece (Elt F) S512x2304 .bf16)), { LS0 : List (View.Piece (Elt F) S512x2304 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc4_dphi i arg2 harg2 arg3 harg3 arg4 harg4 arg5 harg5 arg6 harg6) K } := by
  refine ⟨?_, ?_, fun E K => ?run⟩
  case run =>
    simp only [cc4_dphi_eq_skeleton]; unfold cc4_dphi_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

theorem cover4_C_3 (y : S512x2304.Idx) :
    ∃ pc ∈ (kernelRun4_C c i arg2 harg2 arg3 harg3 arg4 harg4 arg5 harg5 arg6 harg6 hc0 hc1 x0 x1 x2 xs0).1, y ∈ pc.1.set :=
  View.cover_of_tiledL (kernelRun4_C c i arg2 harg2 arg3 harg3 arg4 harg4 arg5 harg5 arg6 harg6 hc0 hc1 x0 x1 x2 xs0).1 S512x2304.size (by sl_kernel_rfl) y

def out4_C_3 : Vec F S512x2304 .bf16 :=
  VO4_3.read (Elt F) (VO4_3.writes (Elt F) VO4_3.junk (kernelRun4_C c i arg2 harg2 arg3 harg3 arg4 harg4 arg5 harg5 arg6 harg6 hc0 hc1 x0 x1 x2 xs0).1)

theorem scover4_C_0 (y : S512x2304.Idx) :
    ∃ pc ∈ (kernelRun4_C c i arg2 harg2 arg3 harg3 arg4 harg4 arg5 harg5 arg6 harg6 hc0 hc1 x0 x1 x2 xs0).2.1, y ∈ pc.1.set :=
  View.cover_of_tiledL (kernelRun4_C c i arg2 harg2 arg3 harg3 arg4 harg4 arg5 harg5 arg6 harg6 hc0 hc1 x0 x1 x2 xs0).2.1 S512x2304.size (by sl_kernel_rfl) y

def sout4_C_0 : Vec F S512x2304 .f32 :=
  VS4_0.read (Elt F) (VS4_0.writes (Elt F) VS4_0.junk (kernelRun4_C c i arg2 harg2 arg3 harg3 arg4 harg4 arg5 harg5 arg6 harg6 hc0 hc1 x0 x1 x2 xs0).2.1)

end S3

/-! ## What the outputs hold after each point -/

def outsAt4 (c : Dev nD) : (n : ℕ) → n < cfg4.N → Vec F S512x2304 .bf16 × Vec F S512x2304 .f32
  | 0, hn => (out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩))
  | n + 1, hn =>
    if h0 : (n + 1) % 16 = 0 then
      if h1 : (n + 1) % 16 = 15 then
        False.elim (by have hN : n + 1 < 80 := lt_of_lt_of_eq hn (show cfg4.N = 80 from N_4); omega)
      else
        (out4_A_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩))
    else
      if h1 : (n + 1) % 16 = 15 then
        (out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2)
      else
        (out4_B_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2)

theorem outsAt4_A (c : Dev nD) (t : Fin cfg4.N) (h0 : t.val % 16 = 0) (h1 : ¬t.val % 16 = 15) :
    outsAt4 V c t.val t.isLt = (out4_A_3 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t), sout4_A_0 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t)) := by
  obtain ⟨n, hn⟩ := t
  cases n with
  | zero => exact rfl
  | succ n => exact (dif_pos h0).trans ((dif_neg h1).trans rfl)

theorem outsAt4_B (c : Dev nD) (t : Fin cfg4.N) (h0 : ¬t.val % 16 = 0) (h1 : ¬t.val % 16 = 15) :
    outsAt4 V c t.val t.isLt = (out4_B_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 16 = 0) (h1 : t.val % 16 = 15) :
    outsAt4 V c t.val t.isLt = (out4_C_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ Pipeline.scopedRestBut spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2) ∗ Pipeline.scopedRestBut spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ Pipeline.scopedRestBut spec4 c [cc4_scratch0]) ∗ (∃ r, prngReg c r)) := by
  cases n with
  | zero => exact absurd rfl hz
  | succ n => rfl

/-! ## The pipeline's proof data -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; exact Pipeline.Dat.Φ_castSucc (PhiS4 V c) t

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  have hN : t.val < 80 := lt_of_lt_of_eq t.isLt (show cfg4.N = 80 from N_4)
  by_cases h0 : t.val % 16 = 0
  · by_cases h1 : t.val % 16 = 15
    · exfalso; omega
    · rw [show (dat4 V c).leavesExact 0 t = owns (c : Thread nD τ) (ms4_0 t) fullShare ((dat4 V c).after 0 t) from by
      unfold Dat.leavesExact; rw [liveAt4_0 t], after4_0]
      rw [show (dat4 V c).leavesExact 1 t = owns (c : Thread nD τ) (ms4_1 t) fullShare ((dat4 V c).after 1 t) from by
      unfold Dat.leavesExact; rw [liveAt4_1 t], after4_1]
      rw [show (dat4 V c).leavesExact 2 t = owns (c : Thread nD τ) (ms4_2 t) fullShare ((dat4 V c).after 2 t) from by
      unfold Dat.leavesExact; rw [liveAt4_2 t], after4_2]
      rw [Dat.leavesExact_idle (dat4 V c) 3 t (idleAt4_3_A t ((hcond4_0 t).mpr h0) (fun h => h1 ((hcond4_1 t).mp h))) (noFlush4_3_A t ((hcond4_0 t).mpr h0) (fun h => h1 ((hcond4_1 t).mp h)))]
      by_cases hz : t.val = 0
      · rw [PhiS4_castSucc V c t, PhiS4_zero V c _ _ hz, PhiA4_eq]
        rw [outsAt4_A V c t h0 h1]
        unfold sout4_A_0; (try dsimp only)
        iintro ⟨⟨⟨HS0, HR1⟩, Hg⟩, Ho, ⟨%d0, H0⟩, ⟨%d1, H1⟩, ⟨%d2, H2⟩, ⟨%d3, H3⟩⟩
        iapply ((kernelRun4_A c (grid4.coords t) _ _ _ _ _ _ _ _ _ _ ((hcond4_0 t).mpr h0) (fun h => h1 ((hcond4_1 t).mp h)) (iblk4 V c 0 t) (iblk4 V c 1 t) (iblk4 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR1 Hg]
        · isplitl [HS0 HR1]
          · isplitl [HS0]
            · unfold owns; iexists _; isplitr
              swap; · iexact HS0
              ipureintro; exact View.read_writes_of_cover _ _ _ _ _ (scover4_A_0 c _ _ _ _ _ _ _ _ _ _ _ _ _ _ _ _)
            iexact HR1
          iexact Hg
        isplitl [Ho]; · iexact Ho
        isplitl [H0]; · iexact H0
        isplitl [H1]; · iexact H1
        isplitl [H2]; · iexact H2
        iexists _; iexact H3
      · rw [PhiS4_castSucc V c t, PhiS4_pos V c _ _ hz]
        rw [outsAt4_A V c t h0 h1]
        unfold sout4_A_0; (try dsimp only)
        iintro ⟨⟨⟨HS0, HR1⟩, Hg⟩, Ho, ⟨%d0, H0⟩, ⟨%d1, H1⟩, ⟨%d2, H2⟩, ⟨%d3, H3⟩⟩
        iapply ((kernelRun4_A c (grid4.coords t) _ _ _ _ _ _ _ _ _ _ ((hcond4_0 t).mpr h0) (fun h => h1 ((hcond4_1 t).mp h)) (iblk4 V c 0 t) (iblk4 V c 1 t) (iblk4 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR1 Hg]
        · isplitl [HS0 HR1]
          · isplitl [HS0]
            · unfold owns; iexists _; isplitr
              swap; · iexact HS0
              ipureintro; exact View.read_writes_of_cover _ _ _ _ _ (scover4_A_0 c _ _ _ _ _ _ _ _ _ _ _ _ _ _ _ _)
            iexact HR1
          iexact Hg
        isplitl [Ho]; · iexact Ho
        isplitl [H0]; · iexact H0
        isplitl [H1]; · iexact H1
        isplitl [H2]; · iexact H2
        iexists _; iexact H3
  · by_cases h1 : t.val % 16 = 15
    · rw [show (dat4 V c).leavesExact 0 t = owns (c : Thread nD τ) (ms4_0 t) fullShare ((dat4 V c).after 0 t) from by
      unfold Dat.leavesExact; rw [liveAt4_0 t], after4_0]
      rw [show (dat4 V c).leavesExact 1 t = owns (c : Thread nD τ) (ms4_1 t) fullShare ((dat4 V c).after 1 t) from by
      unfold Dat.leavesExact; rw [liveAt4_1 t], after4_1]
      rw [show (dat4 V c).leavesExact 2 t = owns (c : Thread nD τ) (ms4_2 t) fullShare ((dat4 V c).after 2 t) from by
      unfold Dat.leavesExact; rw [liveAt4_2 t], after4_2]
      rw [show (dat4 V c).leavesExact 3 t = owns (c : Thread nD τ) (ms4_3 t) fullShare ((dat4 V c).after 3 t) from by
      unfold Dat.leavesExact; rw [liveAt4_3_C t (fun h => h0 ((hcond4_0 t).mp h)) ((hcond4_1 t).mpr h1)], after4_3]
      by_cases hz : t.val = 0
      · exfalso; have hN : t.val < 80 := lt_of_lt_of_eq t.isLt (show cfg4.N = 80 from N_4); omega
      · rw [PhiS4_castSucc V c t, PhiS4_pos V c _ _ hz]
        rw [outsAt4_C V c t h0 h1]
        unfold out4_C_3 sout4_C_0; (try dsimp only)
        iintro ⟨⟨⟨HS0, HR1⟩, Hg⟩, Ho, ⟨%d0, H0⟩, ⟨%d1, H1⟩, ⟨%d2, H2⟩, ⟨%d3, H3⟩⟩
        iapply ((kernelRun4_C c (grid4.coords t) _ _ _ _ _ _ _ _ _ _ (fun h => h0 ((hcond4_0 t).mp h)) ((hcond4_1 t).mpr h1) (iblk4 V c 0 t) (iblk4 V c 1 t) (iblk4 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR1 Hg]
        · isplitl [HS0 HR1]
          · isplitl [HS0]
            · unfold owns; iexists _; isplitr
              swap; · iexact HS0
              ipureintro; exact View.read_writes_of_cover _ _ _ _ _ (scover4_C_0 c _ _ _ _ _ _ _ _ _ _ _ _ _ _ _ _ _)
            iexact HR1
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover4_C_3 c _ _ _ _ _ _ _ _ _ _ _ _ _ _ _ _ _)
    · rw [show (dat4 V c).leavesExact 0 t = owns (c : Thread nD τ) (ms4_0 t) fullShare ((dat4 V c).after 0 t) from by
      unfold Dat.leavesExact; rw [liveAt4_0 t], after4_0]
      rw [show (dat4 V c).leavesExact 1 t = owns (c : Thread nD τ) (ms4_1 t) fullShare ((dat4 V c).after 1 t) from by
      unfold Dat.leavesExact; rw [liveAt4_1 t], after4_1]
      rw [show (dat4 V c).leavesExact 2 t = owns (c : Thread nD τ) (ms4_2 t) fullShare ((dat4 V c).after 2 t) from by
      unfold Dat.leavesExact; rw [liveAt4_2 t], after4_2]
      rw [Dat.leavesExact_idle (dat4 V c) 3 t (idleAt4_3_B t (fun h => h0 ((hcond4_0 t).mp h)) (fun h => h1 ((hcond4_1 t).mp h))) (noFlush4_3_B t (fun h => h0 ((hcond4_0 t).mp h)) (fun h => h1 ((hcond4_1 t).mp h)))]
      by_cases hz : t.val = 0
      · exfalso; have hN : t.val < 80 := lt_of_lt_of_eq t.isLt (show cfg4.N = 80 from N_4); omega
      · rw [PhiS4_castSucc V c t, PhiS4_pos V c _ _ hz]
        rw [outsAt4_B V c t h0 h1]
        unfold sout4_B_0; (try dsimp only)
        iintro ⟨⟨⟨HS0, HR1⟩, Hg⟩, Ho, ⟨%d0, H0⟩, ⟨%d1, H1⟩, ⟨%d2, H2⟩, ⟨%d3, H3⟩⟩
        iapply ((kernelRun4_B c (grid4.coords t) _ _ _ _ _ _ _ _ _ _ (fun h => h0 ((hcond4_0 t).mp h)) (fun h => h1 ((hcond4_1 t).mp h)) (iblk4 V c 0 t) (iblk4 V c 1 t) (iblk4 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR1 Hg]
        · isplitl [HS0 HR1]
          · isplitl [HS0]
            · unfold owns; iexists _; isplitr
              swap; · iexact HS0
              ipureintro; exact View.read_writes_of_cover _ _ _ _ _ (scover4_B_0 c _ _ _ _ _ _ _ _ _ _ _ _ _ _ _ _ _)
            iexact HR1
          iexact Hg
        isplitl [Ho]; · iexact Ho
        isplitl [H0]; · iexact H0
        isplitl [H1]; · iexact H1
        isplitl [H2]; · iexact H2
        iexists _; iexact H3

theorem defs₀_row4 (t : Fin cfg4.N) :
    defs₀ (F := F) .tc cfg4.body (cfg4.bodyArgs t (cfg4.slots t)) = bodyAt4 t := by
  unfold defs₀; rw [Defs.onTc_tc]

theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, HR1⟩, Hg⟩
  isplitl [HS0 HR1]
  · isplitl [HS0]
    · iexists _; iexact HS0
    iexact HR1
  iexact Hg

theorem hout4 (c : Dev nD) : (dat4 V c).Φ (Fin.last cfg4.N) ⊢ Pipeline.ΦA spec4 c :=
  Phi_out4 V c _ (by rw [Fin.val_last]; have : cfg4.N = 80 := N_4; omega)

end Regions

end Cert.KernelIdeal.Whole

end
-- ==== Proof.KI.Hosts0.lean ====
/- KernelIdeal: the host reshapes before the first call. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

abbrev argRefs : List (Ref sig .tc) := [main_arg0, main_arg1, main_arg2, main_arg3, main_arg4, main_arg5, main_arg6, main_arg7, main_arg8]

/-! ## The host stretches: none allocates a buffer, and each lists the references its operations write, in order,
    so that a reference absent from the list keeps its contents across the stretch (Lib/StableHlo/Run.lean
    `after_of_writes_sub`) -/

theorem hostOps0_fresh : (hostOps0 : List (HloOp τ sig (Elt F))).Forall fun op => op.fresh = ∅ := by
  simp only [List.Forall]; repeat' constructor
abbrev hostOps0_W : List (Ref sig .tc) := [main_v0, main_v1, main_v2, main_v3]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

end Cert.KernelIdeal.Whole

end
-- ==== Proof.KI.Fold0.lean ====
/- KernelIdeal: the buffer contents at the boundaries between the calls. -/
module

public import proofs.«01_k».proof.Proof.KI.Region0
public import proofs.«01_k».proof.Proof.KI.Region1
public import proofs.«01_k».proof.Proof.KI.Region2
public import proofs.«01_k».proof.Proof.KI.Region3
public import proofs.«01_k».proof.Proof.KI.Region4
public import proofs.«01_k».proof.Proof.KI.Hosts0

@[expose] public section

set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
theorem W5_of (c : Dev nD) (r : Ref sig .tc) (h : ∀ w : Fin cfg3.W, Pipeline.arrRef spec3 w = r → (cfg3.win w).isOut = false) :
    W5 m ρ c (Proc.devRef .tc r) = W4 m ρ c (Proc.devRef .tc r) := by
  by_cases hw : ∃ w : Fin cfg3.W, Pipeline.arrRef spec3 w = r
  · obtain ⟨w, rfl⟩ := hw
    exact (W5_arr m ρ c w).trans (((dat3 (V4 m ρ) c).arrAt_in w (h w rfl) _).trans (A_eq3 (V4 m ρ) c w))
  · exact W5_of_ne m ρ c r fun w e => hw ⟨w, e⟩
theorem argsIn3 : ∀ a ∈ argRefs, ∀ w : Fin cfg3.W, Pipeline.arrRef spec3 w = a → (cfg3.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn3 a ha)).trans (W4_args m ρ c a ha)
abbrev V5 : (c : Dev nD) → (b : Ref sig .tc) → Buf (Elt F) ((c : Thread nD τ).loc b) := fun c b => W5 m ρ c b
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

def W6 (c : Dev nD) : Valuation τ sig (Elt F) :=
  Pipeline.withArrays spec4 c (W5 m ρ c) fun w => (dat4 (V5 m ρ) c).arrAt w cfg4.N
theorem W6_arr (c : Dev nD) (w : Fin cfg4.W) :
    W6 m ρ c (Proc.devRef .tc (Pipeline.arrRef spec4 w)) = (dat4 (V5 m ρ) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
theorem W6_of (c : Dev nD) (r : Ref sig .tc) (h : ∀ w : Fin cfg4.W, Pipeline.arrRef spec4 w = r → (cfg4.win w).isOut = false) :
    W6 m ρ c (Proc.devRef .tc r) = W5 m ρ c (Proc.devRef .tc r) := by
  by_cases hw : ∃ w : Fin cfg4.W, Pipeline.arrRef spec4 w = r
  · obtain ⟨w, rfl⟩ := hw
    exact (W6_arr m ρ c w).trans (((dat4 (V5 m ρ) c).arrAt_in w (h w rfl) _).trans (A_eq4 (V5 m ρ) c w))
  · exact W6_of_ne m ρ c r fun w e => hw ⟨w, e⟩
theorem argsIn4 : ∀ a ∈ argRefs, ∀ w : Fin cfg4.W, Pipeline.arrRef spec4 w = a → (cfg4.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn4 a ha)).trans (W5_args m ρ c a ha)
abbrev V6 : (c : Dev nD) → (b : Ref sig .tc) → Buf (Elt F) ((c : Thread nD τ).loc b) := fun c b => W6 m ρ c b
theorem hF4 (c : Dev nD) (w : Fin cfg4.W) : (dat4 (V5 m ρ) c).arrAt w cfg4.N = V6 m ρ c (Pipeline.arrRef spec4 w) :=
  (W6_arr m ρ c w).symm
theorem hrest4 (c : Dev nD) : ∀ b, b ∉ Finset.univ.image (Pipeline.arrRef spec4) → V6 m ρ c b = V5 m ρ c b :=
  fun b hb => W6_of_ne m ρ c b fun w e => hb (Finset.mem_image.mpr ⟨w, Finset.mem_univ _, e⟩)

/-! ### The arguments end as launched: no host stretch writes one and no region may change one (a region reads it
    through an input window or bypasses it) -/

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)
theorem W6_main_arg2 (c : Dev nD) : W6 m ρ c (Proc.devRef .tc main_arg2) = m ((c : Thread nD τ).loc main_arg2) :=
  W6_args m ρ c main_arg2 (by decide)
theorem W6_main_arg3 (c : Dev nD) : W6 m ρ c (Proc.devRef .tc main_arg3) = m ((c : Thread nD τ).loc main_arg3) :=
  W6_args m ρ c main_arg3 (by decide)
theorem W6_main_arg4 (c : Dev nD) : W6 m ρ c (Proc.devRef .tc main_arg4) = m ((c : Thread nD τ).loc main_arg4) :=
  W6_args m ρ c main_arg4 (by decide)
theorem W6_main_arg5 (c : Dev nD) : W6 m ρ c (Proc.devRef .tc main_arg5) = m ((c : Thread nD τ).loc main_arg5) :=
  W6_args m ρ c main_arg5 (by decide)
theorem W6_main_arg6 (c : Dev nD) : W6 m ρ c (Proc.devRef .tc main_arg6) = m ((c : Thread nD τ).loc main_arg6) :=
  W6_args m ρ c main_arg6 (by decide)
theorem W6_main_arg7 (c : Dev nD) : W6 m ρ c (Proc.devRef .tc main_arg7) = m ((c : Thread nD τ).loc main_arg7) :=
  W6_args m ρ c main_arg7 (by decide)
theorem W6_main_arg8 (c : Dev nD) : W6 m ρ c (Proc.devRef .tc main_arg8) = m ((c : Thread nD τ).loc main_arg8) :=
  W6_args m ρ c main_arg8 (by decide)
end Cert.KernelIdeal.Whole

end
-- ==== Proof.KI.State.lean ====
/- KernelIdeal: the proof data of the five calls and the state between them. -/
module

public import proofs.«01_k».proof.Proof.KI.Fold0

@[expose] public section

set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

abbrev adm : (p : Fin 5) → (pcfgs (F := F) p).Adm := fun p => (cfgs p).toPCfg_adm
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
  | ⟨4, _⟩ => fun c => dat4 (V5 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

end Cert.KernelIdeal.Whole

end
-- ==== Proof.KI.Record0.lean ====
/- KernelIdeal: call 0 (from 0) as one segment of the program. -/
module

public import proofs.«01_k».proof.Proof.KI.State

@[expose] public section

set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c); unfold Pipeline.ΦA
    iintro ⟨Hp, -, Hr⟩
    isplitl [Hr]; · iexact Hr
    iexact Hp
  hout c := by
    rw [Pipeline.ownSems0_none]; refine BIBase.Entails.trans (hout0 (V1 m ρ) c) ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.KI.Record1.lean ====
/- KernelIdeal: call 1 (from 0) as one segment of the program. -/
module

public import proofs.«01_k».proof.Proof.KI.State

@[expose] public section

set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.KI.Record2.lean ====
/- KernelIdeal: call 2 (from 0) as one segment of the program. -/
module

public import proofs.«01_k».proof.Proof.KI.State

@[expose] public section

set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.KI.Record3.lean ====
/- KernelIdeal: call 3 (from 0) as one segment of the program. -/
module

public import proofs.«01_k».proof.Proof.KI.State

@[expose] public section

set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) (A_eq3 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.KI.Record4.lean ====
/- KernelIdeal: call 4 (from 0) as one segment of the program. -/
module

public import proofs.«01_k».proof.Proof.KI.State

@[expose] public section

set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V5 m ρ) c).loose
  hwaits := Pipeline.hwaits_of_owed_zero _ _ _ _ L lv 4 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V5 m ρ c) (A_eq4 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (V5 m ρ) c); unfold Pipeline.ΦA
    iintro ⟨Hp, -, Hr⟩
    isplitl [Hr]; · iexact Hr
    iexact Hp
  hout c := by
    rw [Pipeline.ownSems0_none]; refine BIBase.Entails.trans (hout4 (V5 m ρ) c) ?_; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V5 m ρ c) (V6 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Whole

end
-- ==== Proof.KI.Main.lean ====
/- KernelIdeal: the whole program: its run through the five calls. -/
module

public import proofs.«01_k».proof.Proof.KI.Record0
public import proofs.«01_k».proof.Proof.KI.Record1
public import proofs.«01_k».proof.Proof.KI.Record2
public import proofs.«01_k».proof.Proof.KI.Record3
public import proofs.«01_k».proof.Proof.KI.Record4

@[expose] public section

set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .region (reg3 m ρ),
    .region (reg4 m ρ) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- The kernel runs to its end: every array holds its value of the last stage, and the semaphores are at zero. -/
theorem state : θ_run defs (onTc (τ := τ) (main (F := F))) ⟨m, fun _ => 0, ρ⟩ (fun r =>
    (∀ c : Dev nD, ∀ b ∈ Pipeline.ucRefs τ sig, r.2.mem (((c : Thread nD τ)).1, b) = W6 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

/-- The arguments come out as they went in. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c =>

      ⟨(h.1 c _ (mem_uc main_arg0 (by decide))).trans (W6_main_arg0 m ρ c),
       (h.1 c _ (mem_uc main_arg1 (by decide))).trans (W6_main_arg1 m ρ c),
       (h.1 c _ (mem_uc main_arg2 (by decide))).trans (W6_main_arg2 m ρ c),
       (h.1 c _ (mem_uc main_arg3 (by decide))).trans (W6_main_arg3 m ρ c),
       (h.1 c _ (mem_uc main_arg4 (by decide))).trans (W6_main_arg4 m ρ c),
       (h.1 c _ (mem_uc main_arg5 (by decide))).trans (W6_main_arg5 m ρ c),
       (h.1 c _ (mem_uc main_arg6 (by decide))).trans (W6_main_arg6 m ρ c),
       (h.1 c _ (mem_uc main_arg7 (by decide))).trans (W6_main_arg7 m ρ c),
       (h.1 c _ (mem_uc main_arg8 (by decide))).trans (W6_main_arg8 m ρ c)⟩, h.2⟩) (state m ρ)

end Cert.KernelIdeal.Whole

end
-- ==== Proof.V.Soft.lean ====
/- The softmax over the extended reals: the kernel multiplies by one over the sum, the reference divides by the
   sum kept at least 1. The two agree at every input, infinite ones included. -/
module

public import Idealize.ShloMosaic.Lib.Pointwise
public import Idealize.ShloMosaic.Lib.IdealHost

@[expose] public section

noncomputable section

namespace Cert.Spec

open Idealize Idealize.ShloMosaic

/-- The largest of finitely many values. -/
def vmax {n : ℕ} (f : Fin n → EReal) : EReal := Finset.univ.fold max ⊥ f
/-- The exponential of a value less the largest. -/
def ve {n : ℕ} (f : Fin n → EReal) (k : Fin n) : EReal := Ideal.exp (f k - vmax f)
/-- The sum of those exponentials. -/
def vz {n : ℕ} (f : Fin n → EReal) : EReal := ∑ k, ve f k
/-- The softmax as the reference writes it. -/
def soft {n : ℕ} (f : Fin n → EReal) (k : Fin n) : EReal := Ideal.div (ve f k) (max (vz f) 1)

theorem vmax_eq_sup {n : ℕ} (f : Fin n → EReal) : vmax f = Finset.univ.sup f := rfl

theorem le_vmax {n : ℕ} (f : Fin n → EReal) (k : Fin n) : f k ≤ vmax f := by
  rw [vmax_eq_sup]; exact Finset.le_sup (Finset.mem_univ k)

theorem vmax_le {n : ℕ} (f : Fin n → EReal) (a : EReal) (h : ∀ k, f k ≤ a) : vmax f ≤ a := by
  rw [vmax_eq_sup]; exact Finset.sup_le fun k _ => h k

theorem exp_nonneg (x : EReal) : 0 ≤ Ideal.exp x := by
  induction x using EReal.rec with
  | bot => exact le_refl _
  | coe r => exact EReal.coe_nonneg.mpr (Real.exp_pos r).le
  | top => exact le_top

theorem exp_le_one (x : EReal) (h : x ≤ 0) : Ideal.exp x ≤ 1 := by
  induction x using EReal.rec with
  | bot => exact zero_le_one
  | coe r => exact EReal.coe_le_coe_iff.mpr (Real.exp_le_one_iff.mpr (EReal.coe_nonpos.mp h))
  | top => exact absurd h (by simp)

theorem ve_nonneg {n : ℕ} (f : Fin n → EReal) (k : Fin n) : 0 ≤ ve f k := exp_nonneg _

theorem sub_le_zero_of_le {a b : EReal} (h : a ≤ b) : a - b ≤ 0 := by
  induction b using EReal.rec with
  | bot => rw [le_bot_iff.mp h]; simp
  | coe r => exact EReal.sub_nonpos.mpr h
  | top => simp [EReal.sub_top]

theorem ve_le_one {n : ℕ} (f : Fin n → EReal) (k : Fin n) : ve f k ≤ 1 :=
  exp_le_one _ (sub_le_zero_of_le (le_vmax f k))

theorem vz_nonneg {n : ℕ} (f : Fin n → EReal) : 0 ≤ vz f := Finset.sum_nonneg fun k _ => ve_nonneg f k

theorem ve_ne_top {n : ℕ} (f : Fin n → EReal) (k : Fin n) : ve f k ≠ ⊤ :=
  ne_top_of_le_ne_top (EReal.coe_ne_top 1) (ve_le_one f k)

theorem ve_ne_bot {n : ℕ} (f : Fin n → EReal) (k : Fin n) : ve f k ≠ ⊥ :=
  ne_bot_of_le_ne_bot EReal.zero_ne_bot (ve_nonneg f k)

theorem vz_ne_top {n : ℕ} (f : Fin n → EReal) : vz f ≠ ⊤ := by
  have h : ∀ s : Finset (Fin n), ∃ r : ℝ, ∑ k ∈ s, ve f k = (r : EReal) := by
    intro s
    induction s using Finset.cons_induction with
    | empty => exact ⟨0, by simp⟩
    | cons a s ha ih =>
      obtain ⟨r, hr⟩ := ih
      refine ⟨(ve f a).toReal + r, ?_⟩
      rw [Finset.sum_cons, hr, EReal.coe_add, EReal.coe_toReal (ve_ne_top f a) (ve_ne_bot f a)]
  obtain ⟨r, hr⟩ := h Finset.univ
  unfold vz; rw [hr]; exact EReal.coe_ne_top _

/-- Either every exponential vanishes (the largest value is infinite), or the sum is at least 1. -/
theorem ve_zero_or {n : ℕ} (f : Fin n → EReal) : (∀ k, ve f k = 0) ∨ 1 ≤ vz f := by
  by_cases hb : vmax f = ⊥
  · left; intro k
    have : f k = ⊥ := le_bot_iff.mp (hb ▸ le_vmax f k)
    unfold ve; rw [this, EReal.bot_sub]; rfl
  by_cases ht : vmax f = ⊤
  · left; intro k
    unfold ve; rw [ht, EReal.sub_top]; rfl
  · right
    have hn : (Finset.univ : Finset (Fin n)).Nonempty := by
      by_contra h
      rw [Finset.not_nonempty_iff_eq_empty] at h
      exact hb (by rw [vmax_eq_sup, h, Finset.sup_empty])
    obtain ⟨k, -, hk⟩ := Finset.exists_mem_eq_sup _ hn f
    have hk' : ve f k = 1 := by
      unfold ve
      rw [vmax_eq_sup] at hb ht ⊢
      rw [hk] at hb ht ⊢
      rw [EReal.sub_self ht hb]
      show ((Real.exp 0 : ℝ) : EReal) = 1
      rw [Real.exp_zero]; rfl
    calc (1 : EReal) = ve f k := hk'.symm
      _ ≤ vz f := Finset.single_le_sum (f := ve f) (fun i _ => ve_nonneg f i) (Finset.mem_univ k)

/-- The kernel's form of the softmax is the reference's. -/
theorem soft_eq {n : ℕ} (f : Fin n → EReal) (k : Fin n) : ve f k * Ideal.div 1 (vz f) = soft f k := by
  unfold soft
  rcases ve_zero_or f with h | h
  · rw [h k, zero_mul]
    exact (Ideal.zero_div (ne_of_gt (lt_of_lt_of_le zero_lt_one (le_max_right _ _)))).symm
  · rw [max_eq_left h, Ideal.mul_one_div (ne_of_gt (lt_of_lt_of_le zero_lt_one h))]

/-- The factor one over the sum may be taken into a weighted sum. -/
theorem soft_sum {n : ℕ} (f g : Fin n → EReal) :
    (∑ k, ve f k * g k) * Ideal.div 1 (vz f) = ∑ k, soft f k * g k := by
  simp only [← soft_eq]
  rcases ve_zero_or f with h | h
  · simp only [h, zero_mul, Finset.sum_const_zero]
  · have h0 : vz f ≠ 0 := ne_of_gt (lt_of_lt_of_le zero_lt_one h)
    have hi : Ideal.div 1 (vz f) = (vz f)⁻¹ := by unfold Ideal.div; rw [if_neg h0, one_mul]
    have hp : 0 ≤ (vz f)⁻¹ := EReal.inv_nonneg_of_nonneg (vz_nonneg f)
    have ht : (vz f)⁻¹ ≠ ⊤ := by
      intro h'
      have := (EReal.coe_toReal (vz_ne_top f) (ne_bot_of_le_ne_bot EReal.zero_ne_bot (vz_nonneg f)))
      rw [← this, ← EReal.coe_inv] at h'
      exact EReal.coe_ne_top _ h'
    rw [hi]
    have key : ∀ s : Finset (Fin n), (∑ k ∈ s, ve f k * g k) * (vz f)⁻¹ = ∑ k ∈ s, ve f k * (vz f)⁻¹ * g k := by
      intro s
      induction s using Finset.cons_induction with
      | empty => simp
      | cons a s ha ih =>
        rw [Finset.sum_cons, Finset.sum_cons, EReal.right_distrib_of_nonneg_of_ne_top hp ht, ih]
        rw [mul_right_comm]
    exact key _

end Cert.Spec

end
-- ==== Proof.V.Spec.lean ====
/- The mathematics of the four results, over the extended reals, element by element. -/
module

public import proofs.«01_k».proof.Proof.V.Soft

@[expose] public section

noncomputable section

namespace Cert.Spec

open Idealize Idealize.ShloMosaic

/-- An array of extended reals of a literal shape. -/
abbrev Arr1 (a : ℕ) : Type := (⟨1, ![a]⟩ : Shape).Idx → EReal
abbrev Arr2 (a b : ℕ) : Type := (⟨2, ![a, b]⟩ : Shape).Idx → EReal
abbrev Arr3 (a b c : ℕ) : Type := (⟨3, ![a, b, c]⟩ : Shape).Idx → EReal

/-- The array of a function of its coordinates. -/
def arr2 {a b : ℕ} (f : Fin a → Fin b → EReal) : Arr2 a b := fun j => f (j 0) (j 1)
def arr3 {a b c : ℕ} (f : Fin a → Fin b → Fin c → EReal) : Arr3 a b c := fun j => f (j 0) (j 1) (j 2)
theorem arr2_apply {a b : ℕ} (f : Fin a → Fin b → EReal) (i : Fin a) (j : Fin b) : arr2 f (ix2 i j) = f i j := rfl
theorem arr3_apply {a b c : ℕ} (f : Fin a → Fin b → Fin c → EReal) (i : Fin a) (j : Fin b) (k : Fin c) :
    arr3 f (ix3 i j k) = f i j k := rfl

/-- The nine arguments. -/
structure Args where
  x : Arr3 16 2048 2560
  xs : Arr2 16 2048
  ph : Arr2 2560 2304
  ps : Arr1 2304
  ys : Arr3 16 2304 2560
  yss : Arr2 16 2304
  dy : Arr3 16 2048 2560
  dys : Arr2 16 2048
  ds : Arr3 16 2304 2560

variable (A : Args)

/-- The logits. -/
def lg (b : Fin 16) (t : Fin 2048) (s : Fin 2304) : EReal :=
  (∑ d : Fin 2560, A.x (ix3 b t d) * A.ph (ix2 d s)) * A.xs (ix2 b t) * A.ps (ix1 s)
/-- The dispatch weights: softmax over the tokens. -/
def disp (b : Fin 16) (t : Fin 2048) (s : Fin 2304) : EReal := soft (fun t' => lg A b t' s) t
/-- The combine weights: softmax over the slots. -/
def comb (b : Fin 16) (t : Fin 2048) (s : Fin 2304) : EReal := soft (fun s' => lg A b t s') s
/-- The gradient of the combine weights. -/
def dc (b : Fin 16) (t : Fin 2048) (s : Fin 2304) : EReal :=
  (∑ d : Fin 2560, A.dy (ix3 b t d) * A.ys (ix3 b s d)) * A.dys (ix2 b t) * A.yss (ix2 b s)
/-- The gradient of the dispatch weights. -/
def dd (b : Fin 16) (t : Fin 2048) (s : Fin 2304) : EReal :=
  (∑ d : Fin 2560, A.x (ix3 b t d) * A.ds (ix3 b s d)) * A.xs (ix2 b t)
/-- The column sums in the backward pass of the dispatch softmax. -/
def q (b : Fin 16) (s : Fin 2304) : EReal := ∑ t : Fin 2048, disp A b t s * dd A b t s
/-- The gradient of the logits. -/
def dl (b : Fin 16) (t : Fin 2048) (s : Fin 2304) : EReal :=
  comb A b t s * (dc A b t s - ∑ s' : Fin 2304, comb A b t s' * dc A b t s') + disp A b t s * (dd A b t s - q A b s)
/-- The combine weights with the scale of the output gradient. -/
def cdy (b : Fin 16) (t : Fin 2048) (s : Fin 2304) : EReal := comb A b t s * A.dys (ix2 b t)
/-- The gradient of the slots. -/
def dslot (b : Fin 16) (s : Fin 2304) (d : Fin 2560) : EReal := ∑ t : Fin 2048, cdy A b t s * A.dy (ix3 b t d)
/-- The gradient of the tokens. -/
def dx (b : Fin 16) (t : Fin 2048) (d : Fin 2560) : EReal :=
  (∑ s : Fin 2304, disp A b t s * A.ds (ix3 b s d)) + ∑ s : Fin 2304, dl A b t s * (A.ph (ix2 d s) * A.ps (ix1 s))
/-- One batch's part of the gradient of the routing matrix. -/
def dphiB (d : Fin 2560) (s : Fin 2304) (b : Fin 16) : EReal :=
  ∑ t : Fin 2048, (A.x (ix3 b t d) * A.xs (ix2 b t)) * dl A b t s
/-- The gradient of the routing matrix. -/
def dphi (d : Fin 2560) (s : Fin 2304) : EReal := ∑ b : Fin 16, dphiB A d s b

end Cert.Spec

end
-- ==== Proof.V.W0.lean ====
/- The windows of the first call (`scores`): what a staged block holds of its array, and what the output arrays end
   holding when each point leaves its block of them. -/
module

public import proofs.«01_k».proof.Proof.V.Spec
public import proofs.«01_k».proof.Proof.KI.Region0
public import Idealize.ShloMosaic.Lib.Pipeline.Value
public import Idealize.ShloMosaic.Lib.Pipeline.ValueKit

@[expose] public section

noncomputable section

namespace Cert.KernelIdeal.Whole

open Idealize Idealize.ShloMosaic Idealize.ShloMosaic.TcCoe
open Cert.KernelIdeal Cert.KernelIdeal.Gen Cert.Spec

theorem lt0 (t : Fin cfg0.N) : t.val < 144 := lt_of_lt_of_eq t.isLt (show cfg0.N = 144 from N_0)

/-- The index maps over the grid. -/
theorem idx0_0 : ∀ t : Fin cfg0.N, win0_0.index t = ![t.val / 9, 0, 0] :=
  (by decide +kernel : ∀ t : Fin grid0.N, _)
theorem idx0_1 : ∀ t : Fin cfg0.N, win0_1.index t = ![t.val / 9, 0, 0] :=
  (by decide +kernel : ∀ t : Fin grid0.N, _)
theorem idx0_2 : ∀ t : Fin cfg0.N, win0_2.index t = ![0, t.val % 9] :=
  (by decide +kernel : ∀ t : Fin grid0.N, _)
theorem idx0_3 : ∀ t : Fin cfg0.N, win0_3.index t = ![0, t.val % 9] :=
  (by decide +kernel : ∀ t : Fin grid0.N, _)
theorem idx0_4 : ∀ t : Fin cfg0.N, win0_4.index t = ![t.val / 9, 0, 0] :=
  (by decide +kernel : ∀ t : Fin grid0.N, _)
theorem idx0_5 : ∀ t : Fin cfg0.N, win0_5.index t = ![t.val / 9, 0, 0] :=
  (by decide +kernel : ∀ t : Fin grid0.N, _)
theorem idx0_6 : ∀ t : Fin cfg0.N, win0_6.index t = ![t.val / 9, t.val % 9, 0] :=
  (by decide +kernel : ∀ t : Fin grid0.N, _)
theorem idx0_7 : ∀ t : Fin cfg0.N, win0_7.index t = ![t.val / 9, 0, t.val % 9] :=
  (by decide +kernel : ∀ t : Fin grid0.N, _)
theorem idx0_8 : ∀ t : Fin cfg0.N, win0_8.index t = ![t.val / 9, t.val % 9, 0] :=
  (by decide +kernel : ∀ t : Fin grid0.N, _)
theorem idx0_9 : ∀ t : Fin cfg0.N, win0_9.index t = ![t.val / 9, 0, t.val % 9] :=
  (by decide +kernel : ∀ t : Fin grid0.N, _)
theorem idx0_10 : ∀ t : Fin cfg0.N, win0_10.index t = ![t.val / 9, 0, t.val % 9] :=
  (by decide +kernel : ∀ t : Fin grid0.N, _)
theorem idx0_11 : ∀ t : Fin cfg0.N, win0_11.index t = ![t.val / 9, 0, t.val % 9] :=
  (by decide +kernel : ∀ t : Fin grid0.N, _)
theorem idx0_12 : ∀ t : Fin cfg0.N, win0_12.index t = ![t.val / 9, 0, t.val % 9] :=
  (by decide +kernel : ∀ t : Fin grid0.N, _)
theorem idx0_13 : ∀ t : Fin cfg0.N, win0_13.index t = ![t.val / 9, 0, t.val % 9] :=
  (by decide +kernel : ∀ t : Fin grid0.N, _)
theorem idx0_14 : ∀ t : Fin cfg0.N, win0_14.index t = ![t.val / 9, 0, t.val % 9] :=
  (by decide +kernel : ∀ t : Fin grid0.N, _)

section
variable (V : (c : Dev nD) → (b : Ref sig .tc) → Buf (Elt Ideal) ((c : Thread nD τ).loc b))

theorem iblk0_0_apply (c : Dev nD) (t : Fin cfg0.N) (r : Fin 2048) (l : Fin 2560) :
    (iblk0 V c 0 t : Vec Ideal S1x2048x2560 .fp8e4m3) (ix3 0 r l)
      = (V c main_arg0 : Arr3 16 2048 2560) (ix3 ⟨t.val / 9, by have := lt0 t; omega⟩ r l) := by
  have h0 : win0_0.index t 0 = t.val / 9 := congrFun (idx0_0 t) 0
  have h1 : win0_0.index t 1 = 0 := congrFun (idx0_0 t) 1
  have h2 : win0_0.index t 2 = 0 := congrFun (idx0_0 t) 2
  refine congrArg (V c main_arg0 : Arr3 16 2048 2560) (funext fun a => Fin.ext ?_)
  match a with
  | ⟨0, _⟩ => show win0_0.index t 0 * 1 + 1 * 0 = t.val / 9; omega
  | ⟨1, _⟩ => show win0_0.index t 1 * 2048 + 1 * r.val = r.val; omega
  | ⟨2, _⟩ => show win0_0.index t 2 * 2560 + 1 * l.val = l.val; omega

theorem iblk0_1_apply (c : Dev nD) (t : Fin cfg0.N) (l : Fin 2048) :
    (iblk0 V c 1 t : Vec Ideal S1x1x2048 .f32) (ix3 0 0 l)
      = (V c main_v0 : Arr3 16 1 2048) (ix3 ⟨t.val / 9, by have := lt0 t; omega⟩ 0 l) := by
  have h0 : win0_1.index t 0 = t.val / 9 := congrFun (idx0_1 t) 0
  have h1 : win0_1.index t 1 = 0 := congrFun (idx0_1 t) 1
  have h2 : win0_1.index t 2 = 0 := congrFun (idx0_1 t) 2
  refine congrArg (V c main_v0 : Arr3 16 1 2048) (funext fun a => Fin.ext ?_)
  match a with
  | ⟨0, _⟩ => show win0_1.index t 0 * 1 + 1 * 0 = t.val / 9; omega
  | ⟨1, _⟩ => show win0_1.index t 1 * 1 + 1 * 0 = 0; omega
  | ⟨2, _⟩ => show win0_1.index t 2 * 2048 + 1 * l.val = l.val; omega

theorem iblk0_2_apply (c : Dev nD) (t : Fin cfg0.N) (p : Fin 2560) (r : Fin 256) :
    (iblk0 V c 2 t : Vec Ideal S2560x256 .fp8e4m3) (ix2 p r)
      = (V c main_arg2 : Arr2 2560 2304) (ix2 p ⟨t.val % 9 * 256 + r.val, by have := lt0 t; have := r.isLt; omega⟩) := by
  have h0 : win0_2.index t 0 = 0 := congrFun (idx0_2 t) 0
  have h1 : win0_2.index t 1 = t.val % 9 := congrFun (idx0_2 t) 1
  refine congrArg (V c main_arg2 : Arr2 2560 2304) (funext fun a => Fin.ext ?_)
  match a with
  | ⟨0, _⟩ => show win0_2.index t 0 * 2560 + 1 * p.val = p.val; omega
  | ⟨1, _⟩ => show win0_2.index t 1 * 256 + 1 * r.val = t.val % 9 * 256 + r.val; omega

theorem iblk0_3_apply (c : Dev nD) (t : Fin cfg0.N) (r : Fin 256) :
    (iblk0 V c 3 t : Vec Ideal S1x256 .f32) (ix2 0 r)
      = (V c main_v3 : Arr2 1 2304) (ix2 0 ⟨t.val % 9 * 256 + r.val, by have := lt0 t; have := r.isLt; omega⟩) := by
  have h0 : win0_3.index t 0 = 0 := congrFun (idx0_3 t) 0
  have h1 : win0_3.index t 1 = t.val % 9 := congrFun (idx0_3 t) 1
  refine congrArg (V c main_v3 : Arr2 1 2304) (funext fun a => Fin.ext ?_)
  match a with
  | ⟨0, _⟩ => show win0_3.index t 0 * 1 + 1 * 0 = 0; omega
  | ⟨1, _⟩ => show win0_3.index t 1 * 256 + 1 * r.val = t.val % 9 * 256 + r.val; omega

theorem iblk0_4_apply (c : Dev nD) (t : Fin cfg0.N) (r : Fin 2048) (l : Fin 2560) :
    (iblk0 V c 4 t : Vec Ideal S1x2048x2560 .fp8e5m2) (ix3 0 r l)
      = (V c main_arg6 : Arr3 16 2048 2560) (ix3 ⟨t.val / 9, by have := lt0 t; omega⟩ r l) := by
  have h0 : win0_4.index t 0 = t.val / 9 := congrFun (idx0_4 t) 0
  have h1 : win0_4.index t 1 = 0 := congrFun (idx0_4 t) 1
  have h2 : win0_4.index t 2 = 0 := congrFun (idx0_4 t) 2
  refine congrArg (V c main_arg6 : Arr3 16 2048 2560) (funext fun a => Fin.ext ?_)
  match a with
  | ⟨0, _⟩ => show win0_4.index t 0 * 1 + 1 * 0 = t.val / 9; omega
  | ⟨1, _⟩ => show win0_4.index t 1 * 2048 + 1 * r.val = r.val; omega
  | ⟨2, _⟩ => show win0_4.index t 2 * 2560 + 1 * l.val = l.val; omega

theorem iblk0_5_apply (c : Dev nD) (t : Fin cfg0.N) (l : Fin 2048) :
    (iblk0 V c 5 t : Vec Ideal S1x1x2048 .f32) (ix3 0 0 l)
      = (V c main_v1 : Arr3 16 1 2048) (ix3 ⟨t.val / 9, by have := lt0 t; omega⟩ 0 l) := by
  have h0 : win0_5.index t 0 = t.val / 9 := congrFun (idx0_5 t) 0
  have h1 : win0_5.index t 1 = 0 := congrFun (idx0_5 t) 1
  have h2 : win0_5.index t 2 = 0 := congrFun (idx0_5 t) 2
  refine congrArg (V c main_v1 : Arr3 16 1 2048) (funext fun a => Fin.ext ?_)
  match a with
  | ⟨0, _⟩ => show win0_5.index t 0 * 1 + 1 * 0 = t.val / 9; omega
  | ⟨1, _⟩ => show win0_5.index t 1 * 1 + 1 * 0 = 0; omega
  | ⟨2, _⟩ => show win0_5.index t 2 * 2048 + 1 * l.val = l.val; omega

theorem iblk0_6_apply (c : Dev nD) (t : Fin cfg0.N) (r : Fin 256) (l : Fin 2560) :
    (iblk0 V c 6 t : Vec Ideal S1x256x2560 .fp8e4m3) (ix3 0 r l)
      = (V c main_arg4 : Arr3 16 2304 2560) (ix3 ⟨t.val / 9, by have := lt0 t; omega⟩ ⟨t.val % 9 * 256 + r.val, by have := lt0 t; have := r.isLt; omega⟩ l) := by
  have h0 : win0_6.index t 0 = t.val / 9 := congrFun (idx0_6 t) 0
  have h1 : win0_6.index t 1 = t.val % 9 := congrFun (idx0_6 t) 1
  have h2 : win0_6.index t 2 = 0 := congrFun (idx0_6 t) 2
  refine congrArg (V c main_arg4 : Arr3 16 2304 2560) (funext fun a => Fin.ext ?_)
  match a with
  | ⟨0, _⟩ => show win0_6.index t 0 * 1 + 1 * 0 = t.val / 9; omega
  | ⟨1, _⟩ => show win0_6.index t 1 * 256 + 1 * r.val = t.val % 9 * 256 + r.val; omega
  | ⟨2, _⟩ => show win0_6.index t 2 * 2560 + 1 * l.val = l.val; omega

theorem iblk0_7_apply (c : Dev nD) (t : Fin cfg0.N) (l : Fin 256) :
    (iblk0 V c 7 t : Vec Ideal S1x1x256 .f32) (ix3 0 0 l)
      = (V c main_v2 : Arr3 16 1 2304) (ix3 ⟨t.val / 9, by have := lt0 t; omega⟩ 0 ⟨t.val % 9 * 256 + l.val, by have := lt0 t; have := l.isLt; omega⟩) := by
  have h0 : win0_7.index t 0 = t.val / 9 := congrFun (idx0_7 t) 0
  have h1 : win0_7.index t 1 = 0 := congrFun (idx0_7 t) 1
  have h2 : win0_7.index t 2 = t.val % 9 := congrFun (idx0_7 t) 2
  refine congrArg (V c main_v2 : Arr3 16 1 2304) (funext fun a => Fin.ext ?_)
  match a with
  | ⟨0, _⟩ => show win0_7.index t 0 * 1 + 1 * 0 = t.val / 9; omega
  | ⟨1, _⟩ => show win0_7.index t 1 * 1 + 1 * 0 = 0; omega
  | ⟨2, _⟩ => show win0_7.index t 2 * 256 + 1 * l.val = t.val % 9 * 256 + l.val; omega

theorem iblk0_8_apply (c : Dev nD) (t : Fin cfg0.N) (r : Fin 256) (l : Fin 2560) :
    (iblk0 V c 8 t : Vec Ideal S1x256x2560 .bf16) (ix3 0 r l)
      = (V c main_arg8 : Arr3 16 2304 2560) (ix3 ⟨t.val / 9, by have := lt0 t; omega⟩ ⟨t.val % 9 * 256 + r.val, by have := lt0 t; have := r.isLt; omega⟩ l) := by
  have h0 : win0_8.index t 0 = t.val / 9 := congrFun (idx0_8 t) 0
  have h1 : win0_8.index t 1 = t.val % 9 := congrFun (idx0_8 t) 1
  have h2 : win0_8.index t 2 = 0 := congrFun (idx0_8 t) 2
  refine congrArg (V c main_arg8 : Arr3 16 2304 2560) (funext fun a => Fin.ext ?_)
  match a with
  | ⟨0, _⟩ => show win0_8.index t 0 * 1 + 1 * 0 = t.val / 9; omega
  | ⟨1, _⟩ => show win0_8.index t 1 * 256 + 1 * r.val = t.val % 9 * 256 + r.val; omega
  | ⟨2, _⟩ => show win0_8.index t 2 * 2560 + 1 * l.val = l.val; omega

/-- Output 9 ends holding `G` when every point that writes it back leaves its block of `G`. -/
theorem arr0_9 (c : Dev nD) (G : Arr3 16 2048 2304)
    (h : ∀ t : Fin cfg0.N, (cfg0.win 9).flush t = true → ∀ (r : Fin 2048) (l : Fin 256),
      ((dat0 V c).after 9 t : Vec Ideal S1x2048x256 .f32) (ix3 0 r l)
        = G (ix3 ⟨t.val / 9, by have := lt0 t; omega⟩ r ⟨t.val % 9 * 256 + l.val, by have := lt0 t; have := l.isLt; omega⟩)) :
    (dat0 V c).arrAt 9 cfg0.N = G := by
  refine (dat0 V c).arrAt_eq_of_cover 9 G (fun t hf => funext fun y => ?_) (fun i => ?_)
  · have h0 : win0_9.index t 0 = t.val / 9 := congrFun (idx0_9 t) 0
    have h1 : win0_9.index t 1 = 0 := congrFun (idx0_9 t) 1
    have h2 : win0_9.index t 2 = t.val % 9 := congrFun (idx0_9 t) 2
    have y0 : (y 0).val < 1 := (y 0).isLt
    have y1 : (y 1).val < 2048 := (y 1).isLt
    have y2 : (y 2).val < 256 := (y 2).isLt
    refine Eq.trans ?_ ((h t hf ⟨(y 1).val, y1⟩ ⟨(y 2).val, y2⟩).trans ?_)
    · refine congrArg ((dat0 V c).after 9 t : Vec Ideal S1x2048x256 .f32) (funext fun a => Fin.ext ?_)
      match a with
      | ⟨0, _⟩ => show (y 0).val = 0; omega
      | ⟨1, _⟩ => show (y 1).val = (y 1).val; omega
      | ⟨2, _⟩ => show (y 2).val = (y 2).val; omega
    · refine congrArg G (funext fun a => Fin.ext ?_)
      match a with
      | ⟨0, _⟩ => show t.val / 9 = win0_9.index t 0 * 1 + 1 * (y 0).val; omega
      | ⟨1, _⟩ => show (y 1).val = win0_9.index t 1 * 2048 + 1 * (y 1).val; omega
      | ⟨2, _⟩ => show t.val % 9 * 256 + (y 2).val = win0_9.index t 2 * 256 + 1 * (y 2).val; omega
  · have i0 : (i 0).val < 16 := (i 0).isLt
    have i1 : (i 1).val < 2048 := (i 1).isLt
    have i2 : (i 2).val < 2304 := (i 2).isLt
    obtain ⟨t, ht⟩ : ∃ t : Fin cfg0.N, t.val = (i 0).val * 9 + (i 2).val / 256 := ⟨⟨(i 0).val * 9 + (i 2).val / 256, lt_of_lt_of_eq (by omega) (show 144 = cfg0.N from N_0.symm)⟩, rfl⟩
    have h0 : win0_9.index t 0 = t.val / 9 := congrFun (idx0_9 t) 0
    have h1 : win0_9.index t 1 = 0 := congrFun (idx0_9 t) 1
    have h2 : win0_9.index t 2 = t.val % 9 := congrFun (idx0_9 t) 2
    refine ⟨t, flush0_9 t, ?_⟩
    show i ∈ ((View.whole (Pipeline.arrRef spec0 9)).slice (win0_9.rect t)).set
    rw [View.set_slice_whole, Rect.mem_set_unit]
    intro a
    match a with
    | ⟨0, _⟩ => show win0_9.index t 0 * 1 ≤ (i 0).val ∧ (i 0).val < win0_9.index t 0 * 1 + 1; omega
    | ⟨1, _⟩ => show win0_9.index t 1 * 2048 ≤ (i 1).val ∧ (i 1).val < win0_9.index t 1 * 2048 + 2048; omega
    | ⟨2, _⟩ => show win0_9.index t 2 * 256 ≤ (i 2).val ∧ (i 2).val < win0_9.index t 2 * 256 + 256; omega

/-- Output 10 ends holding `G` when every point that writes it back leaves its block of `G`. -/
theorem arr0_10 (c : Dev nD) (G : Arr3 16 2048 2304)
    (h : ∀ t : Fin cfg0.N, (cfg0.win 10).flush t = true → ∀ (r : Fin 2048) (l : Fin 256),
      ((dat0 V c).after 10 t : Vec Ideal S1x2048x256 .f32) (ix3 0 r l)
        = G (ix3 ⟨t.val / 9, by have := lt0 t; omega⟩ r ⟨t.val % 9 * 256 + l.val, by have := lt0 t; have := l.isLt; omega⟩)) :
    (dat0 V c).arrAt 10 cfg0.N = G := by
  refine (dat0 V c).arrAt_eq_of_cover 10 G (fun t hf => funext fun y => ?_) (fun i => ?_)
  · have h0 : win0_10.index t 0 = t.val / 9 := congrFun (idx0_10 t) 0
    have h1 : win0_10.index t 1 = 0 := congrFun (idx0_10 t) 1
    have h2 : win0_10.index t 2 = t.val % 9 := congrFun (idx0_10 t) 2
    have y0 : (y 0).val < 1 := (y 0).isLt
    have y1 : (y 1).val < 2048 := (y 1).isLt
    have y2 : (y 2).val < 256 := (y 2).isLt
    refine Eq.trans ?_ ((h t hf ⟨(y 1).val, y1⟩ ⟨(y 2).val, y2⟩).trans ?_)
    · refine congrArg ((dat0 V c).after 10 t : Vec Ideal S1x2048x256 .f32) (funext fun a => Fin.ext ?_)
      match a with
      | ⟨0, _⟩ => show (y 0).val = 0; omega
      | ⟨1, _⟩ => show (y 1).val = (y 1).val; omega
      | ⟨2, _⟩ => show (y 2).val = (y 2).val; omega
    · refine congrArg G (funext fun a => Fin.ext ?_)
      match a with
      | ⟨0, _⟩ => show t.val / 9 = win0_10.index t 0 * 1 + 1 * (y 0).val; omega
      | ⟨1, _⟩ => show (y 1).val = win0_10.index t 1 * 2048 + 1 * (y 1).val; omega
      | ⟨2, _⟩ => show t.val % 9 * 256 + (y 2).val = win0_10.index t 2 * 256 + 1 * (y 2).val; omega
  · have i0 : (i 0).val < 16 := (i 0).isLt
    have i1 : (i 1).val < 2048 := (i 1).isLt
    have i2 : (i 2).val < 2304 := (i 2).isLt
    obtain ⟨t, ht⟩ : ∃ t : Fin cfg0.N, t.val = (i 0).val * 9 + (i 2).val / 256 := ⟨⟨(i 0).val * 9 + (i 2).val / 256, lt_of_lt_of_eq (by omega) (show 144 = cfg0.N from N_0.symm)⟩, rfl⟩
    have h0 : win0_10.index t 0 = t.val / 9 := congrFun (idx0_10 t) 0
    have h1 : win0_10.index t 1 = 0 := congrFun (idx0_10 t) 1
    have h2 : win0_10.index t 2 = t.val % 9 := congrFun (idx0_10 t) 2
    refine ⟨t, flush0_10 t, ?_⟩
    show i ∈ ((View.whole (Pipeline.arrRef spec0 10)).slice (win0_10.rect t)).set
    rw [View.set_slice_whole, Rect.mem_set_unit]
    intro a
    match a with
    | ⟨0, _⟩ => show win0_10.index t 0 * 1 ≤ (i 0).val ∧ (i 0).val < win0_10.index t 0 * 1 + 1; omega
    | ⟨1, _⟩ => show win0_10.index t 1 * 2048 ≤ (i 1).val ∧ (i 1).val < win0_10.index t 1 * 2048 + 2048; omega
    | ⟨2, _⟩ => show win0_10.index t 2 * 256 ≤ (i 2).val ∧ (i 2).val < win0_10.index t 2 * 256 + 256; omega

/-- Output 11 ends holding `G` when every point that writes it back leaves its block of `G`. -/
theorem arr0_11 (c : Dev nD) (G : Arr3 16 2048 2304)
    (h : ∀ t : Fin cfg0.N, (cfg0.win 11).flush t = true → ∀ (r : Fin 2048) (l : Fin 256),
      ((dat0 V c).after 11 t : Vec Ideal S1x2048x256 .f32) (ix3 0 r l)
        = G (ix3 ⟨t.val / 9, by have := lt0 t; omega⟩ r ⟨t.val % 9 * 256 + l.val, by have := lt0 t; have := l.isLt; omega⟩)) :
    (dat0 V c).arrAt 11 cfg0.N = G := by
  refine (dat0 V c).arrAt_eq_of_cover 11 G (fun t hf => funext fun y => ?_) (fun i => ?_)
  · have h0 : win0_11.index t 0 = t.val / 9 := congrFun (idx0_11 t) 0
    have h1 : win0_11.index t 1 = 0 := congrFun (idx0_11 t) 1
    have h2 : win0_11.index t 2 = t.val % 9 := congrFun (idx0_11 t) 2
    have y0 : (y 0).val < 1 := (y 0).isLt
    have y1 : (y 1).val < 2048 := (y 1).isLt
    have y2 : (y 2).val < 256 := (y 2).isLt
    refine Eq.trans ?_ ((h t hf ⟨(y 1).val, y1⟩ ⟨(y 2).val, y2⟩).trans ?_)
    · refine congrArg ((dat0 V c).after 11 t : Vec Ideal S1x2048x256 .f32) (funext fun a => Fin.ext ?_)
      match a with
      | ⟨0, _⟩ => show (y 0).val = 0; omega
      | ⟨1, _⟩ => show (y 1).val = (y 1).val; omega
      | ⟨2, _⟩ => show (y 2).val = (y 2).val; omega
    · refine congrArg G (funext fun a => Fin.ext ?_)
      match a with
      | ⟨0, _⟩ => show t.val / 9 = win0_11.index t 0 * 1 + 1 * (y 0).val; omega
      | ⟨1, _⟩ => show (y 1).val = win0_11.index t 1 * 2048 + 1 * (y 1).val; omega
      | ⟨2, _⟩ => show t.val % 9 * 256 + (y 2).val = win0_11.index t 2 * 256 + 1 * (y 2).val; omega
  · have i0 : (i 0).val < 16 := (i 0).isLt
    have i1 : (i 1).val < 2048 := (i 1).isLt
    have i2 : (i 2).val < 2304 := (i 2).isLt
    obtain ⟨t, ht⟩ : ∃ t : Fin cfg0.N, t.val = (i 0).val * 9 + (i 2).val / 256 := ⟨⟨(i 0).val * 9 + (i 2).val / 256, lt_of_lt_of_eq (by omega) (show 144 = cfg0.N from N_0.symm)⟩, rfl⟩
    have h0 : win0_11.index t 0 = t.val / 9 := congrFun (idx0_11 t) 0
    have h1 : win0_11.index t 1 = 0 := congrFun (idx0_11 t) 1
    have h2 : win0_11.index t 2 = t.val % 9 := congrFun (idx0_11 t) 2
    refine ⟨t, flush0_11 t, ?_⟩
    show i ∈ ((View.whole (Pipeline.arrRef spec0 11)).slice (win0_11.rect t)).set
    rw [View.set_slice_whole, Rect.mem_set_unit]
    intro a
    match a with
    | ⟨0, _⟩ => show win0_11.index t 0 * 1 ≤ (i 0).val ∧ (i 0).val < win0_11.index t 0 * 1 + 1; omega
    | ⟨1, _⟩ => show win0_11.index t 1 * 2048 ≤ (i 1).val ∧ (i 1).val < win0_11.index t 1 * 2048 + 2048; omega
    | ⟨2, _⟩ => show win0_11.index t 2 * 256 ≤ (i 2).val ∧ (i 2).val < win0_11.index t 2 * 256 + 256; omega

/-- Output 12 ends holding `G` when every point that writes it back leaves its block of `G`. -/
theorem arr0_12 (c : Dev nD) (G : Arr3 16 1 2304)
    (h : ∀ t : Fin cfg0.N, (cfg0.win 12).flush t = true → ∀ (l : Fin 256),
      ((dat0 V c).after 12 t : Vec Ideal S1x1x256 .f32) (ix3 0 0 l)
        = G (ix3 ⟨t.val / 9, by have := lt0 t; omega⟩ 0 ⟨t.val % 9 * 256 + l.val, by have := lt0 t; have := l.isLt; omega⟩)) :
    (dat0 V c).arrAt 12 cfg0.N = G := by
  refine (dat0 V c).arrAt_eq_of_cover 12 G (fun t hf => funext fun y => ?_) (fun i => ?_)
  · have h0 : win0_12.index t 0 = t.val / 9 := congrFun (idx0_12 t) 0
    have h1 : win0_12.index t 1 = 0 := congrFun (idx0_12 t) 1
    have h2 : win0_12.index t 2 = t.val % 9 := congrFun (idx0_12 t) 2
    have y0 : (y 0).val < 1 := (y 0).isLt
    have y1 : (y 1).val < 1 := (y 1).isLt
    have y2 : (y 2).val < 256 := (y 2).isLt
    refine Eq.trans ?_ ((h t hf ⟨(y 2).val, y2⟩).trans ?_)
    · refine congrArg ((dat0 V c).after 12 t : Vec Ideal S1x1x256 .f32) (funext fun a => Fin.ext ?_)
      match a with
      | ⟨0, _⟩ => show (y 0).val = 0; omega
      | ⟨1, _⟩ => show (y 1).val = 0; omega
      | ⟨2, _⟩ => show (y 2).val = (y 2).val; omega
    · refine congrArg G (funext fun a => Fin.ext ?_)
      match a with
      | ⟨0, _⟩ => show t.val / 9 = win0_12.index t 0 * 1 + 1 * (y 0).val; omega
      | ⟨1, _⟩ => show 0 = win0_12.index t 1 * 1 + 1 * (y 1).val; omega
      | ⟨2, _⟩ => show t.val % 9 * 256 + (y 2).val = win0_12.index t 2 * 256 + 1 * (y 2).val; omega
  · have i0 : (i 0).val < 16 := (i 0).isLt
    have i1 : (i 1).val < 1 := (i 1).isLt
    have i2 : (i 2).val < 2304 := (i 2).isLt
    obtain ⟨t, ht⟩ : ∃ t : Fin cfg0.N, t.val = (i 0).val * 9 + (i 2).val / 256 := ⟨⟨(i 0).val * 9 + (i 2).val / 256, lt_of_lt_of_eq (by omega) (show 144 = cfg0.N from N_0.symm)⟩, rfl⟩
    have h0 : win0_12.index t 0 = t.val / 9 := congrFun (idx0_12 t) 0
    have h1 : win0_12.index t 1 = 0 := congrFun (idx0_12 t) 1
    have h2 : win0_12.index t 2 = t.val % 9 := congrFun (idx0_12 t) 2
    refine ⟨t, flush0_12 t, ?_⟩
    show i ∈ ((View.whole (Pipeline.arrRef spec0 12)).slice (win0_12.rect t)).set
    rw [View.set_slice_whole, Rect.mem_set_unit]
    intro a
    match a with
    | ⟨0, _⟩ => show win0_12.index t 0 * 1 ≤ (i 0).val ∧ (i 0).val < win0_12.index t 0 * 1 + 1; omega
    | ⟨1, _⟩ => show win0_12.index t 1 * 1 ≤ (i 1).val ∧ (i 1).val < win0_12.index t 1 * 1 + 1; omega
    | ⟨2, _⟩ => show win0_12.index t 2 * 256 ≤ (i 2).val ∧ (i 2).val < win0_12.index t 2 * 256 + 256; omega

/-- Output 13 ends holding `G` when every point that writes it back leaves its block of `G`. -/
theorem arr0_13 (c : Dev nD) (G : Arr3 16 1 2304)
    (h : ∀ t : Fin cfg0.N, (cfg0.win 13).flush t = true → ∀ (l : Fin 256),
      ((dat0 V c).after 13 t : Vec Ideal S1x1x256 .f32) (ix3 0 0 l)
        = G (ix3 ⟨t.val / 9, by have := lt0 t; omega⟩ 0 ⟨t.val % 9 * 256 + l.val, by have := lt0 t; have := l.isLt; omega⟩)) :
    (dat0 V c).arrAt 13 cfg0.N = G := by
  refine (dat0 V c).arrAt_eq_of_cover 13 G (fun t hf => funext fun y => ?_) (fun i => ?_)
  · have h0 : win0_13.index t 0 = t.val / 9 := congrFun (idx0_13 t) 0
    have h1 : win0_13.index t 1 = 0 := congrFun (idx0_13 t) 1
    have h2 : win0_13.index t 2 = t.val % 9 := congrFun (idx0_13 t) 2
    have y0 : (y 0).val < 1 := (y 0).isLt
    have y1 : (y 1).val < 1 := (y 1).isLt
    have y2 : (y 2).val < 256 := (y 2).isLt
    refine Eq.trans ?_ ((h t hf ⟨(y 2).val, y2⟩).trans ?_)
    · refine congrArg ((dat0 V c).after 13 t : Vec Ideal S1x1x256 .f32) (funext fun a => Fin.ext ?_)
      match a with
      | ⟨0, _⟩ => show (y 0).val = 0; omega
      | ⟨1, _⟩ => show (y 1).val = 0; omega
      | ⟨2, _⟩ => show (y 2).val = (y 2).val; omega
    · refine congrArg G (funext fun a => Fin.ext ?_)
      match a with
      | ⟨0, _⟩ => show t.val / 9 = win0_13.index t 0 * 1 + 1 * (y 0).val; omega
      | ⟨1, _⟩ => show 0 = win0_13.index t 1 * 1 + 1 * (y 1).val; omega
      | ⟨2, _⟩ => show t.val % 9 * 256 + (y 2).val = win0_13.index t 2 * 256 + 1 * (y 2).val; omega
  · have i0 : (i 0).val < 16 := (i 0).isLt
    have i1 : (i 1).val < 1 := (i 1).isLt
    have i2 : (i 2).val < 2304 := (i 2).isLt
    obtain ⟨t, ht⟩ : ∃ t : Fin cfg0.N, t.val = (i 0).val * 9 + (i 2).val / 256 := ⟨⟨(i 0).val * 9 + (i 2).val / 256, lt_of_lt_of_eq (by omega) (show 144 = cfg0.N from N_0.symm)⟩, rfl⟩
    have h0 : win0_13.index t 0 = t.val / 9 := congrFun (idx0_13 t) 0
    have h1 : win0_13.index t 1 = 0 := congrFun (idx0_13 t) 1
    have h2 : win0_13.index t 2 = t.val % 9 := congrFun (idx0_13 t) 2
    refine ⟨t, flush0_13 t, ?_⟩
    show i ∈ ((View.whole (Pipeline.arrRef spec0 13)).slice (win0_13.rect t)).set
    rw [View.set_slice_whole, Rect.mem_set_unit]
    intro a
    match a with
    | ⟨0, _⟩ => show win0_13.index t 0 * 1 ≤ (i 0).val ∧ (i 0).val < win0_13.index t 0 * 1 + 1; omega
    | ⟨1, _⟩ => show win0_13.index t 1 * 1 ≤ (i 1).val ∧ (i 1).val < win0_13.index t 1 * 1 + 1; omega
    | ⟨2, _⟩ => show win0_13.index t 2 * 256 ≤ (i 2).val ∧ (i 2).val < win0_13.index t 2 * 256 + 256; omega

/-- Output 14 ends holding `G` when every point that writes it back leaves its block of `G`. -/
theorem arr0_14 (c : Dev nD) (G : Arr3 16 1 2304)
    (h : ∀ t : Fin cfg0.N, (cfg0.win 14).flush t = true → ∀ (l : Fin 256),
      ((dat0 V c).after 14 t : Vec Ideal S1x1x256 .f32) (ix3 0 0 l)
        = G (ix3 ⟨t.val / 9, by have := lt0 t; omega⟩ 0 ⟨t.val % 9 * 256 + l.val, by have := lt0 t; have := l.isLt; omega⟩)) :
    (dat0 V c).arrAt 14 cfg0.N = G := by
  refine (dat0 V c).arrAt_eq_of_cover 14 G (fun t hf => funext fun y => ?_) (fun i => ?_)
  · have h0 : win0_14.index t 0 = t.val / 9 := congrFun (idx0_14 t) 0
    have h1 : win0_14.index t 1 = 0 := congrFun (idx0_14 t) 1
    have h2 : win0_14.index t 2 = t.val % 9 := congrFun (idx0_14 t) 2
    have y0 : (y 0).val < 1 := (y 0).isLt
    have y1 : (y 1).val < 1 := (y 1).isLt
    have y2 : (y 2).val < 256 := (y 2).isLt
    refine Eq.trans ?_ ((h t hf ⟨(y 2).val, y2⟩).trans ?_)
    · refine congrArg ((dat0 V c).after 14 t : Vec Ideal S1x1x256 .f32) (funext fun a => Fin.ext ?_)
      match a with
      | ⟨0, _⟩ => show (y 0).val = 0; omega
      | ⟨1, _⟩ => show (y 1).val = 0; omega
      | ⟨2, _⟩ => show (y 2).val = (y 2).val; omega
    · refine congrArg G (funext fun a => Fin.ext ?_)
      match a with
      | ⟨0, _⟩ => show t.val / 9 = win0_14.index t 0 * 1 + 1 * (y 0).val; omega
      | ⟨1, _⟩ => show 0 = win0_14.index t 1 * 1 + 1 * (y 1).val; omega
      | ⟨2, _⟩ => show t.val % 9 * 256 + (y 2).val = win0_14.index t 2 * 256 + 1 * (y 2).val; omega
  · have i0 : (i 0).val < 16 := (i 0).isLt
    have i1 : (i 1).val < 1 := (i 1).isLt
    have i2 : (i 2).val < 2304 := (i 2).isLt
    obtain ⟨t, ht⟩ : ∃ t : Fin cfg0.N, t.val = (i 0).val * 9 + (i 2).val / 256 := ⟨⟨(i 0).val * 9 + (i 2).val / 256, lt_of_lt_of_eq (by omega) (show 144 = cfg0.N from N_0.symm)⟩, rfl⟩
    have h0 : win0_14.index t 0 = t.val / 9 := congrFun (idx0_14 t) 0
    have h1 : win0_14.index t 1 = 0 := congrFun (idx0_14 t) 1
    have h2 : win0_14.index t 2 = t.val % 9 := congrFun (idx0_14 t) 2
    refine ⟨t, flush0_14 t, ?_⟩
    show i ∈ ((View.whole (Pipeline.arrRef spec0 14)).slice (win0_14.rect t)).set
    rw [View.set_slice_whole, Rect.mem_set_unit]
    intro a
    match a with
    | ⟨0, _⟩ => show win0_14.index t 0 * 1 ≤ (i 0).val ∧ (i 0).val < win0_14.index t 0 * 1 + 1; omega
    | ⟨1, _⟩ => show win0_14.index t 1 * 1 ≤ (i 1).val ∧ (i 1).val < win0_14.index t 1 * 1 + 1; omega
    | ⟨2, _⟩ => show win0_14.index t 2 * 256 ≤ (i 2).val ∧ (i 2).val < win0_14.index t 2 * 256 + 256; omega

end

end Cert.KernelIdeal.Whole

end
-- ==== Proof.V.P0.lean ====
/- The first call (`scores`) at one point: a block of the logits, of the two gradients it needs, and for each
   column the largest logit, one over the sum of the exponentials, and the column sum of the backward pass. The body
   walks the 2048 rows in eight chunks of 256. -/
module

public import proofs.«01_k».proof.Proof.V.W0

@[expose] public section

noncomputable section

namespace Cert.KernelIdeal.Whole

open Idealize Idealize.ShloMosaic Idealize.ShloMosaic.TcCoe
open Cert.KernelIdeal Cert.KernelIdeal.Gen Cert.Spec

/-- Row `p` of chunk `k`. -/
def row (k : Fin 8) (p : Fin 256) : Fin 2048 := ⟨k.val * 256 + p.val, by omega⟩

theorem max_rows (f : Fin 2048 → EReal) :
    max (max (max (max (max (max (max (vmax fun p => f (row 0 p)) (vmax fun p => f (row 1 p))) (vmax fun p => f (row 2 p))) (vmax fun p => f (row 3 p))) (vmax fun p => f (row 4 p))) (vmax fun p => f (row 5 p))) (vmax fun p => f (row 6 p))) (vmax fun p => f (row 7 p)) = vmax f := by
  have hle : ∀ k : Fin 8, (vmax fun p => f (row k p)) ≤ vmax f := fun k => vmax_le _ _ fun p => le_vmax f _
  refine le_antisymm ?_ (vmax_le _ _ fun t => ?_)
  · simp only [max_le_iff]
    exact ⟨⟨⟨⟨⟨⟨⟨hle 0, hle 1⟩, hle 2⟩, hle 3⟩, hle 4⟩, hle 5⟩, hle 6⟩, hle 7⟩
  · have hk : t.val / 256 < 8 := by omega
    have ht : t = row ⟨t.val / 256, hk⟩ ⟨t.val % 256, Nat.mod_lt _ (by decide)⟩ :=
      Fin.ext (by show _ = t.val / 256 * 256 + t.val % 256; omega)
    rw [ht]
    refine (le_vmax (fun p => f (row ⟨t.val / 256, hk⟩ p)) _).trans ?_
    generalize (⟨t.val / 256, hk⟩ : Fin 8) = k
    fin_cases k <;> simp only [le_max_iff, le_refl, true_or, or_true, Fin.zero_eta, Fin.mk_one, Fin.reduceFinMk]

theorem sum_rows (f : Fin 2048 → EReal) :
    (∑ p : Fin 256, f (row 0 p)) + (∑ p : Fin 256, f (row 1 p)) + (∑ p : Fin 256, f (row 2 p)) + (∑ p : Fin 256, f (row 3 p)) + (∑ p : Fin 256, f (row 4 p)) + (∑ p : Fin 256, f (row 5 p)) + (∑ p : Fin 256, f (row 6 p)) + (∑ p : Fin 256, f (row 7 p)) = ∑ t, f t := by
  rw [Fin.sum_univ_tiles 8 256 rfl f, Fin.sum_univ_eight]
  rfl

/-- The value at a position of a chunk, from the chunk's values row by row. -/
theorem piece (k : Fin 8) (P : S1x256x256.Idx → EReal) (G : Fin 2048 → Fin 256 → EReal)
    (hP : ∀ p s : Fin 256, P (ix3 0 p s) = G (row k p) s) (x : S1x256x256.Idx) (t : Fin 2048) (s : Fin 256)
    (h1 : t.val = k.val * 256 + (x 1 : Fin 256).val) (h2 : s.val = (x 2 : Fin 256).val) : P x = G t s := by
  have e1 : t = row k (x 1) := Fin.ext h1
  have e2 : s = x 2 := Fin.ext h2
  have e0 : x = ix3 (0 : Fin 1) (x 1 : Fin 256) (x 2 : Fin 256) := by
    exact (eq_ix3 (n0 := 1) (n1 := 256) (n2 := 256) x).trans
      (congrArg (fun a : Fin 1 => ix3 a (x 1 : Fin 256) (x 2 : Fin 256)) (Subsingleton.elim (α := Fin 1) _ _))
  rw [e1, e2, e0]
  exact hP _ _

theorem row_zero (p : Fin 256) : row 0 p = ⟨p.val, by omega⟩ := Fin.ext (by simp [row])

/-- Where a chunk's rectangle puts a position. -/
theorem chunk_idx (k : Fin 8) (o : ℕ) (ho : o = k.val * 256) (inb) (p s : Fin 256) :
    (Rect.unit ![0, o, 0] S1x256x256.size inb : Rect S1x2048x256).idx (ix3 (0 : Fin 1) p s) = ix3 (0 : Fin 1) (row k p) s := by
  subst ho
  funext a
  refine Fin.ext ((Rect.idx_unit_val _ _ _ _ _).trans ?_)
  fin_cases a
  · rfl
  · rfl
  · exact Nat.zero_add _

/-- The logits of a point's block. -/
def L0 (x0 : Vec Ideal S1x2048x2560 .fp8e4m3) (x2 : Vec Ideal S2560x256 .fp8e4m3) (X : Vec Ideal S2048x128 .f32)
    (x3 : Vec Ideal S1x256 .f32) (t : Fin 2048) (s : Fin 256) : EReal :=
  (∑ d : Fin 2560, x0 (ix3 0 t d) * x2 (ix2 d s)) * X (ix2 t 0) * x3 (ix2 0 s)
/-- The gradient of the combine weights of a point's block. -/
def C0 (x4 : Vec Ideal S1x2048x2560 .fp8e5m2) (x6 : Vec Ideal S1x256x2560 .fp8e4m3) (Y : Vec Ideal S2048x128 .f32)
    (x7 : Vec Ideal S1x1x256 .f32) (t : Fin 2048) (s : Fin 256) : EReal :=
  (∑ d : Fin 2560, x4 (ix3 0 t d) * x6 (ix3 0 s d)) * Y (ix2 t 0) * x7 (ix3 0 0 s)
/-- The gradient of the dispatch weights of a point's block. -/
def D0 (x0 : Vec Ideal S1x2048x2560 .fp8e4m3) (x8 : Vec Ideal S1x256x2560 .bf16) (X : Vec Ideal S2048x128 .f32)
    (t : Fin 2048) (s : Fin 256) : EReal :=
  (∑ d : Fin 2560, x0 (ix3 0 t d) * x8 (ix3 0 s d)) * X (ix2 t 0)

section
variable (c : Dev nD) (i : grid0.Coords) (arg2 : Memref sig .tc .vmem S1x2048x2560 .fp8e4m3) (harg2 : arg2.IsWhole) (arg3 : Memref sig .tc .vmem S1x1x2048 .f32) (harg3 : arg3.IsWhole) (arg4 : Memref sig .tc .vmem S2560x256 .fp8e4m3) (harg4 : arg4.IsWhole) (arg5 : Memref sig .tc .vmem S1x256 .f32) (harg5 : arg5.IsWhole) (arg6 : Memref sig .tc .vmem S1x2048x2560 .fp8e5m2) (harg6 : arg6.IsWhole) (arg7 : Memref sig .tc .vmem S1x1x2048 .f32) (harg7 : arg7.IsWhole) (arg8 : Memref sig .tc .vmem S1x256x2560 .fp8e4m3) (harg8 : arg8.IsWhole) (arg9 : Memref sig .tc .vmem S1x1x256 .f32) (harg9 : arg9.IsWhole) (arg10 : Memref sig .tc .vmem S1x256x2560 .bf16) (harg10 : arg10.IsWhole) (arg11 : Memref sig .tc .vmem S1x2048x256 .f32) (harg11 : arg11.IsWhole) (arg12 : Memref sig .tc .vmem S1x2048x256 .f32) (harg12 : arg12.IsWhole) (arg13 : Memref sig .tc .vmem S1x2048x256 .f32) (harg13 : arg13.IsWhole) (arg14 : Memref sig .tc .vmem S1x1x256 .f32) (harg14 : arg14.IsWhole) (arg15 : Memref sig .tc .vmem S1x1x256 .f32) (harg15 : arg15.IsWhole) (arg16 : Memref sig .tc .vmem S1x1x256 .f32) (harg16 : arg16.IsWhole) (arg17 : Memref sig .tc .vmem S2048x128 .f32) (harg17 : arg17.IsWhole) (arg18 : Memref sig .tc .vmem S2048x128 .f32) (harg18 : arg18.IsWhole)
    (x0 : Vec Ideal S1x2048x2560 .fp8e4m3) (x1 : Vec Ideal S1x1x2048 .f32) (x2 : Vec Ideal S2560x256 .fp8e4m3) (x3 : Vec Ideal S1x256 .f32) (x4 : Vec Ideal S1x2048x2560 .fp8e5m2) (x5 : Vec Ideal S1x1x2048 .f32) (x6 : Vec Ideal S1x256x2560 .fp8e4m3) (x7 : Vec Ideal S1x1x256 .f32) (x8 : Vec Ideal S1x256x2560 .bf16) (xs0 : Vec Ideal S2048x128 .f32) (xs1 : Vec Ideal S2048x128 .f32)

theorem B_r (s : Fin 256) :
    kernelRun0_B.sl.r (F := Ideal) c arg2 harg2 arg4 harg4 arg5 harg5 arg17 harg17 x0 x2 x3 xs0 (ix2 0 s) =
      (vmax fun p => L0 x0 x2 xs0 x3 (row 0 p) s) := by
  unfold kernelRun0_B.sl.r
  simp only [View.readAt_eq_ld, harg2.read_unread, harg4.read_unread, harg5.read_unread, harg17.read_unread]
  pointwise [k0_pay8, k0_pay10]
  all_goals rfl

theorem B_r_1 (p : Fin 256) (s : Fin 256) :
    kernelRun0_B.sl.r_1 (F := Ideal) c arg2 harg2 arg4 harg4 arg5 harg5 arg17 harg17 x0 x2 x3 xs0 (ix2 p s) =
      L0 x0 x2 xs0 x3 (row 1 p) s := by
  unfold kernelRun0_B.sl.r_1
  simp only [View.readAt_eq_ld, harg2.read_unread, harg4.read_unread, harg5.read_unread, harg17.read_unread]
  pointwise [k0_pay11]
  all_goals rfl

theorem B_r_2 (s : Fin 256) :
    kernelRun0_B.sl.r_2 (F := Ideal) c arg2 harg2 arg4 harg4 arg5 harg5 arg17 harg17 x0 x2 x3 xs0 (ix2 0 s) =
      max (max (vmax fun p => L0 x0 x2 xs0 x3 (row 0 p) s) (vmax fun p => L0 x0 x2 xs0 x3 (row 1 p) s)) (vmax fun p => L0 x0 x2 xs0 x3 (row 2 p) s) := by
  unfold kernelRun0_B.sl.r_2
  simp only [View.readAt_eq_ld, harg2.read_unread, harg4.read_unread, harg5.read_unread, harg17.read_unread]
  pointwise [k0_pay13, k0_pay15]
  simp only [B_r, B_r_1]
  all_goals rfl

theorem B_r_3 (p : Fin 256) (s : Fin 256) :
    kernelRun0_B.sl.r_3 (F := Ideal) c arg2 harg2 arg4 harg4 arg17 harg17 x0 x2 xs0 (ix2 p s) =
      (∑ d, x0 (ix3 0 (row 3 p) d) * x2 (ix2 d s)) * xs0 (ix2 (row 3 p) 0) := by
  unfold kernelRun0_B.sl.r_3
  simp only [View.readAt_eq_ld, harg2.read_unread, harg4.read_unread, harg17.read_unread]
  pointwise [k0_pay16]
  all_goals rfl

theorem B_r_4 (s : Fin 256) :
    kernelRun0_B.sl.r_4 (F := Ideal) c arg2 harg2 arg4 harg4 arg5 harg5 arg17 harg17 x0 x2 x3 xs0 (ix2 0 s) =
      max (max (max (max (vmax fun p => L0 x0 x2 xs0 x3 (row 0 p) s) (vmax fun p => L0 x0 x2 xs0 x3 (row 1 p) s)) (vmax fun p => L0 x0 x2 xs0 x3 (row 2 p) s)) (vmax fun p => L0 x0 x2 xs0 x3 (row 3 p) s)) (vmax fun p => L0 x0 x2 xs0 x3 (row 4 p) s) := by
  unfold kernelRun0_B.sl.r_4
  simp only [View.readAt_eq_ld, harg2.read_unread, harg4.read_unread, harg5.read_unread, harg17.read_unread]
  pointwise [k0_pay17, k0_pay19, k0_pay21]
  simp only [B_r_2, B_r_3]
  all_goals rfl

theorem B_r_5 (p : Fin 256) (s : Fin 256) :
    kernelRun0_B.sl.r_5 (F := Ideal) c arg2 harg2 arg4 harg4 x0 x2 (ix2 p s) =
      ∑ d, x0 (ix3 0 (row 5 p) d) * x2 (ix2 d s) := by
  unfold kernelRun0_B.sl.r_5
  simp only [View.readAt_eq_ld, harg2.read_unread, harg4.read_unread]
  pointwise [k0_pay22]
  all_goals rfl

theorem B_r_6 (p : Fin 256) :
    kernelRun0_B.sl.r_6 (F := Ideal) c arg17 harg17 xs0 (ix2 p 0) =
      xs0 (ix2 (row 5 p) 0) := by
  unfold kernelRun0_B.sl.r_6
  simp only [View.readAt_eq_ld, harg17.read_unread]
  pointwise []
  all_goals rfl

theorem B_r_7 (s : Fin 256) :
    kernelRun0_B.sl.r_7 (F := Ideal) c arg2 harg2 arg4 harg4 arg5 harg5 arg17 harg17 x0 x2 x3 xs0 (ix2 0 s) =
      max (max (max (max (max (max (vmax fun p => L0 x0 x2 xs0 x3 (row 0 p) s) (vmax fun p => L0 x0 x2 xs0 x3 (row 1 p) s)) (vmax fun p => L0 x0 x2 xs0 x3 (row 2 p) s)) (vmax fun p => L0 x0 x2 xs0 x3 (row 3 p) s)) (vmax fun p => L0 x0 x2 xs0 x3 (row 4 p) s)) (vmax fun p => L0 x0 x2 xs0 x3 (row 5 p) s)) (vmax fun p => L0 x0 x2 xs0 x3 (row 6 p) s) := by
  unfold kernelRun0_B.sl.r_7
  simp only [View.readAt_eq_ld, harg2.read_unread, harg4.read_unread, harg5.read_unread, harg17.read_unread]
  pointwise [k0_pay23, k0_pay25, k0_pay27]
  simp only [B_r_4, B_r_5, B_r_6]
  all_goals rfl

theorem B_r_8 (p : Fin 256) (d : Fin 2560) :
    kernelRun0_B.sl.r_8 (F := Ideal) c arg2 harg2 x0 (ix2 p d) =
      x0 (ix3 0 (row 7 p) d) := by
  unfold kernelRun0_B.sl.r_8
  simp only [View.readAt_eq_ld, harg2.read_unread]
  pointwise [k0_pay28]
  all_goals rfl

theorem B_r_9 (d : Fin 2560) (s : Fin 256) :
    kernelRun0_B.sl.r_9 (F := Ideal) c arg4 harg4 x2 (ix2 d s) =
      x2 (ix2 d s) := by
  unfold kernelRun0_B.sl.r_9
  simp only [View.readAt_eq_ld, harg4.read_unread]
  pointwise []
  all_goals rfl

theorem B_r_10 (s : Fin 256) :
    kernelRun0_B.sl.r_10 (F := Ideal) c arg2 harg2 arg4 harg4 arg5 harg5 arg17 harg17 x0 x2 x3 xs0 (ix2 0 s) =
      (vmax fun t => L0 x0 x2 xs0 x3 t s) := by
  unfold kernelRun0_B.sl.r_10
  simp only [View.readAt_eq_ld, harg2.read_unread, harg4.read_unread, harg5.read_unread, harg17.read_unread]
  unfold kernelRun0_B.sl.cst_95
  pointwise [k0_pay29, k0_pay31]
  simp only [B_r_7, B_r_8, B_r_9]
  exact max_rows fun t => L0 x0 x2 xs0 x3 t s

theorem B_r_11 (p : Fin 256) (d : Fin 2560) :
    kernelRun0_B.sl.r_11 (F := Ideal) c arg6 harg6 x4 (ix2 p d) =
      x4 (ix3 0 (row 1 p) d) := by
  unfold kernelRun0_B.sl.r_11
  simp only [View.readAt_eq_ld, harg6.read_unread]
  pointwise [k0_pay33]
  all_goals rfl

theorem B_r_12 (p : Fin 256) (d : Fin 2560) :
    kernelRun0_B.sl.r_12 (F := Ideal) c arg6 harg6 x4 (ix3 0 p d) =
      x4 (ix3 0 (row 3 p) d) := by
  unfold kernelRun0_B.sl.r_12
  simp only [View.readAt_eq_ld, harg6.read_unread]
  pointwise []
  all_goals rfl

theorem B_r_13 (p : Fin 256) (s : Fin 256) :
    kernelRun0_B.sl.r_13 (F := Ideal) c arg2 harg2 arg10 harg10 arg17 harg17 x0 x8 xs0 (ix2 p s) =
      D0 x0 x8 xs0 (row 0 p) s := by
  unfold kernelRun0_B.sl.r_13
  simp only [View.readAt_eq_ld, harg2.read_unread, harg10.read_unread, harg17.read_unread]
  pointwise [k0_pay43]
  rw [row_zero]
  all_goals rfl

theorem B_r_18 (p : Fin 256) (s : Fin 256) :
    kernelRun0_B.sl.r_18 (F := Ideal) c arg2 harg2 arg10 harg10 arg17 harg17 x0 x8 xs0 (ix2 p s) =
      D0 x0 x8 xs0 (row 3 p) s := by
  unfold kernelRun0_B.sl.r_18
  simp only [View.readAt_eq_ld, harg2.read_unread, harg10.read_unread, harg17.read_unread]
  pointwise [k0_pay56]
  all_goals rfl

theorem B_r_20 (p : Fin 256) (s : Fin 256) :
    kernelRun0_B.sl.r_20 (F := Ideal) c arg2 harg2 arg10 harg10 arg17 harg17 x0 x8 xs0 (ix2 p s) =
      D0 x0 x8 xs0 (row 4 p) s := by
  unfold kernelRun0_B.sl.r_20
  simp only [View.readAt_eq_ld, harg2.read_unread, harg10.read_unread, harg17.read_unread]
  pointwise [k0_pay60]
  all_goals rfl

theorem B_r_25 (p : Fin 256) (s : Fin 256) :
    kernelRun0_B.sl.r_25 (F := Ideal) c arg2 harg2 arg10 harg10 x0 x8 (ix2 p s) =
      ∑ d, x0 (ix3 0 (row 6 p) d) * x8 (ix3 0 s d) := by
  unfold kernelRun0_B.sl.r_25
  simp only [View.readAt_eq_ld, harg2.read_unread, harg10.read_unread]
  pointwise [k0_pay69]
  all_goals rfl

theorem B_r_28 (p : Fin 256) (s : Fin 256) :
    kernelRun0_B.sl.r_28 (F := Ideal) c arg2 harg2 arg10 harg10 arg17 harg17 x0 x8 xs0 (ix2 p s) =
      D0 x0 x8 xs0 (row 7 p) s := by
  unfold kernelRun0_B.sl.r_28
  simp only [View.readAt_eq_ld, harg2.read_unread, harg10.read_unread, harg17.read_unread]
  pointwise [k0_pay75]
  all_goals rfl

/-- The block of logits the point leaves. -/
theorem B_H9 (t : Fin 2048) (s : Fin 256) :
    View.canon (kernelRun0_B.sl.H9_8 (F := Ideal) c arg2 harg2 arg4 harg4 arg5 harg5 arg17 harg17 x0 x2 x3 xs0) (ix3 0 t s) = L0 x0 x2 xs0 x3 t s := by
  unfold kernelRun0_B.sl.H9_8
  simp only [View.readAt_eq_ld, harg2.read_unread, harg4.read_unread, harg5.read_unread, harg17.read_unread]
  canon_tiles x h
  · refine piece 7 _ (L0 x0 x2 xs0 x3) (fun p s => ?_) x t s (h1) h2
    unfold kernelRun0_B.sl.cst_95
    pointwise [k0_pay29, k0_pay30]
    simp only [B_r_8, B_r_9]
    all_goals rfl
  · refine piece 6 _ (L0 x0 x2 xs0 x3) (fun p s => ?_) x t s (h1) h2
    pointwise [k0_pay25, k0_pay26]
    all_goals rfl
  · refine piece 5 _ (L0 x0 x2 xs0 x3) (fun p s => ?_) x t s (h1) h2
    pointwise [k0_pay23, k0_pay24]
    simp only [B_r_5, B_r_6]
    all_goals rfl
  · refine piece 4 _ (L0 x0 x2 xs0 x3) (fun p s => ?_) x t s (h1) h2
    pointwise [k0_pay19, k0_pay20]
    all_goals rfl
  · refine piece 3 _ (L0 x0 x2 xs0 x3) (fun p s => ?_) x t s (h1) h2
    pointwise [k0_pay17, k0_pay18]
    simp only [B_r_3]
    all_goals rfl
  · refine piece 2 _ (L0 x0 x2 xs0 x3) (fun p s => ?_) x t s (h1) h2
    pointwise [k0_pay13, k0_pay14]
    all_goals rfl
  · refine piece 1 _ (L0 x0 x2 xs0 x3) (fun p s => ?_) x t s (h1) h2
    pointwise [k0_pay12]
    simp only [B_r_1]
    all_goals rfl
  · refine piece 0 _ (L0 x0 x2 xs0 x3) (fun p s => ?_) x t s (h1.trans (Nat.zero_add _).symm) h2
    pointwise [k0_pay8, k0_pay9]
    rw [row_zero]
    rfl

theorem B_v272 (p s : Fin 256) :
    kernelRun0_B.sl.v272 (F := Ideal) c arg2 harg2 arg4 harg4 arg5 harg5 arg11 arg17 harg17 x0 x2 x3 xs0 (ix3 0 p s) = L0 x0 x2 xs0 x3 (row 0 p) s := by
  unfold kernelRun0_B.sl.v272
  rw [View.readCov_eq_canon']
  refine Eq.trans (congrArg _ (chunk_idx 0 0 rfl _ p s)) (B_H9 c arg2 harg2 arg4 harg4 arg5 harg5 arg17 harg17 x0 x2 x3 xs0 (row 0 p) s)

theorem B_v296 (p s : Fin 256) :
    kernelRun0_B.sl.v296 (F := Ideal) c arg2 harg2 arg4 harg4 arg5 harg5 arg11 arg17 harg17 x0 x2 x3 xs0 (ix3 0 p s) = L0 x0 x2 xs0 x3 (row 1 p) s := by
  unfold kernelRun0_B.sl.v296
  rw [View.readCov_eq_canon']
  refine Eq.trans (congrArg _ (chunk_idx 1 256 rfl _ p s)) (B_H9 c arg2 harg2 arg4 harg4 arg5 harg5 arg17 harg17 x0 x2 x3 xs0 (row 1 p) s)

theorem B_v320 (p s : Fin 256) :
    kernelRun0_B.sl.v320 (F := Ideal) c arg2 harg2 arg4 harg4 arg5 harg5 arg11 arg17 harg17 x0 x2 x3 xs0 (ix3 0 p s) = L0 x0 x2 xs0 x3 (row 2 p) s := by
  unfold kernelRun0_B.sl.v320
  rw [View.readCov_eq_canon']
  refine Eq.trans (congrArg _ (chunk_idx 2 512 rfl _ p s)) (B_H9 c arg2 harg2 arg4 harg4 arg5 harg5 arg17 harg17 x0 x2 x3 xs0 (row 2 p) s)

theorem B_v344 (p s : Fin 256) :
    kernelRun0_B.sl.v344 (F := Ideal) c arg2 harg2 arg4 harg4 arg5 harg5 arg11 arg17 harg17 x0 x2 x3 xs0 (ix3 0 p s) = L0 x0 x2 xs0 x3 (row 3 p) s := by
  unfold kernelRun0_B.sl.v344
  rw [View.readCov_eq_canon']
  refine Eq.trans (congrArg _ (chunk_idx 3 768 rfl _ p s)) (B_H9 c arg2 harg2 arg4 harg4 arg5 harg5 arg17 harg17 x0 x2 x3 xs0 (row 3 p) s)

theorem B_v368 (p s : Fin 256) :
    kernelRun0_B.sl.v368 (F := Ideal) c arg2 harg2 arg4 harg4 arg5 harg5 arg11 arg17 harg17 x0 x2 x3 xs0 (ix3 0 p s) = L0 x0 x2 xs0 x3 (row 4 p) s := by
  unfold kernelRun0_B.sl.v368
  rw [View.readCov_eq_canon']
  refine Eq.trans (congrArg _ (chunk_idx 4 1024 rfl _ p s)) (B_H9 c arg2 harg2 arg4 harg4 arg5 harg5 arg17 harg17 x0 x2 x3 xs0 (row 4 p) s)

theorem B_v392 (p s : Fin 256) :
    kernelRun0_B.sl.v392 (F := Ideal) c arg2 harg2 arg4 harg4 arg5 harg5 arg11 arg17 harg17 x0 x2 x3 xs0 (ix3 0 p s) = L0 x0 x2 xs0 x3 (row 5 p) s := by
  unfold kernelRun0_B.sl.v392
  rw [View.readCov_eq_canon']
  refine Eq.trans (congrArg _ (chunk_idx 5 1280 rfl _ p s)) (B_H9 c arg2 harg2 arg4 harg4 arg5 harg5 arg17 harg17 x0 x2 x3 xs0 (row 5 p) s)

theorem B_v416 (p s : Fin 256) :
    kernelRun0_B.sl.v416 (F := Ideal) c arg2 harg2 arg4 harg4 arg5 harg5 arg11 arg17 harg17 x0 x2 x3 xs0 (ix3 0 p s) = L0 x0 x2 xs0 x3 (row 6 p) s := by
  unfold kernelRun0_B.sl.v416
  rw [View.readCov_eq_canon']
  refine Eq.trans (congrArg _ (chunk_idx 6 1536 rfl _ p s)) (B_H9 c arg2 harg2 arg4 harg4 arg5 harg5 arg17 harg17 x0 x2 x3 xs0 (row 6 p) s)

theorem B_v440 (p s : Fin 256) :
    kernelRun0_B.sl.v440 (F := Ideal) c arg2 harg2 arg4 harg4 arg5 harg5 arg11 arg17 harg17 x0 x2 x3 xs0 (ix3 0 p s) = L0 x0 x2 xs0 x3 (row 7 p) s := by
  unfold kernelRun0_B.sl.v440
  rw [View.readCov_eq_canon']
  refine Eq.trans (congrArg _ (chunk_idx 7 1792 rfl _ p s)) (B_H9 c arg2 harg2 arg4 harg4 arg5 harg5 arg17 harg17 x0 x2 x3 xs0 (row 7 p) s)

theorem B_r_14 (s : Fin 256) :
    kernelRun0_B.sl.r_14 (F := Ideal) c arg2 harg2 arg4 harg4 arg5 harg5 arg11 arg17 harg17 x0 x2 x3 xs0 (ix2 0 s) =
      (∑ p : Fin 256, Ideal.exp (L0 x0 x2 xs0 x3 (row 0 p) s - (vmax fun t => L0 x0 x2 xs0 x3 t s))) + (∑ p : Fin 256, Ideal.exp (L0 x0 x2 xs0 x3 (row 1 p) s - (vmax fun t => L0 x0 x2 xs0 x3 t s))) := by
  unfold kernelRun0_B.sl.r_14
  pointwise [k0_pay41, k0_pay45, k0_pay48, k0_pay49]
  simp only [B_r_10, B_v272, B_v296]
  all_goals rfl

theorem B_r_15 (s : Fin 256) :
    kernelRun0_B.sl.r_15 (F := Ideal) c arg2 harg2 arg4 harg4 arg5 harg5 arg10 harg10 arg11 arg17 harg17 x0 x2 x3 x8 xs0 (ix2 0 s) =
      (∑ p : Fin 256, Ideal.exp (L0 x0 x2 xs0 x3 (row 0 p) s - (vmax fun t => L0 x0 x2 xs0 x3 t s)) * D0 x0 x8 xs0 (row 0 p) s) + (∑ p : Fin 256, Ideal.exp (L0 x0 x2 xs0 x3 (row 1 p) s - (vmax fun t => L0 x0 x2 xs0 x3 t s)) * D0 x0 x8 xs0 (row 1 p) s) := by
  unfold kernelRun0_B.sl.r_15
  simp only [View.readAt_eq_ld, harg2.read_unread, harg4.read_unread, harg5.read_unread, harg10.read_unread, harg17.read_unread]
  pointwise [k0_pay42, k0_pay45, k0_pay46, k0_pay48, k0_pay50]
  simp only [B_r_10, B_r_13, B_v272, B_v296]
  all_goals rfl

theorem B_r_16 (s : Fin 256) :
    kernelRun0_B.sl.r_16 (F := Ideal) c arg2 harg2 arg4 harg4 arg5 harg5 arg11 arg17 harg17 x0 x2 x3 xs0 (ix2 0 s) =
      (∑ p : Fin 256, Ideal.exp (L0 x0 x2 xs0 x3 (row 0 p) s - (vmax fun t => L0 x0 x2 xs0 x3 t s))) + (∑ p : Fin 256, Ideal.exp (L0 x0 x2 xs0 x3 (row 1 p) s - (vmax fun t => L0 x0 x2 xs0 x3 t s))) + (∑ p : Fin 256, Ideal.exp (L0 x0 x2 xs0 x3 (row 2 p) s - (vmax fun t => L0 x0 x2 xs0 x3 t s))) := by
  unfold kernelRun0_B.sl.r_16
  pointwise [k0_pay53, k0_pay54]
  simp only [B_r_10, B_r_14, B_v320]
  all_goals rfl

theorem B_r_17 (s : Fin 256) :
    kernelRun0_B.sl.r_17 (F := Ideal) c arg2 harg2 arg4 harg4 arg5 harg5 arg10 harg10 arg11 arg17 harg17 x0 x2 x3 x8 xs0 (ix2 0 s) =
      (∑ p : Fin 256, Ideal.exp (L0 x0 x2 xs0 x3 (row 0 p) s - (vmax fun t => L0 x0 x2 xs0 x3 t s)) * D0 x0 x8 xs0 (row 0 p) s) + (∑ p : Fin 256, Ideal.exp (L0 x0 x2 xs0 x3 (row 1 p) s - (vmax fun t => L0 x0 x2 xs0 x3 t s)) * D0 x0 x8 xs0 (row 1 p) s) + (∑ p : Fin 256, Ideal.exp (L0 x0 x2 xs0 x3 (row 2 p) s - (vmax fun t => L0 x0 x2 xs0 x3 t s)) * D0 x0 x8 xs0 (row 2 p) s) := by
  unfold kernelRun0_B.sl.r_17
  simp only [View.readAt_eq_ld, harg2.read_unread, harg4.read_unread, harg5.read_unread, harg10.read_unread, harg17.read_unread]
  pointwise [k0_pay51, k0_pay53, k0_pay55]
  simp only [B_r_10, B_r_15, B_v320]
  all_goals rfl

theorem B_r_19 (s : Fin 256) :
    kernelRun0_B.sl.r_19 (F := Ideal) c arg2 harg2 arg4 harg4 arg5 harg5 arg10 harg10 arg11 arg17 harg17 x0 x2 x3 x8 xs0 (ix2 0 s) =
      (∑ p : Fin 256, Ideal.exp (L0 x0 x2 xs0 x3 (row 0 p) s - (vmax fun t => L0 x0 x2 xs0 x3 t s)) * D0 x0 x8 xs0 (row 0 p) s) + (∑ p : Fin 256, Ideal.exp (L0 x0 x2 xs0 x3 (row 1 p) s - (vmax fun t => L0 x0 x2 xs0 x3 t s)) * D0 x0 x8 xs0 (row 1 p) s) + (∑ p : Fin 256, Ideal.exp (L0 x0 x2 xs0 x3 (row 2 p) s - (vmax fun t => L0 x0 x2 xs0 x3 t s)) * D0 x0 x8 xs0 (row 2 p) s) + (∑ p : Fin 256, Ideal.exp (L0 x0 x2 xs0 x3 (row 3 p) s - (vmax fun t => L0 x0 x2 xs0 x3 t s)) * D0 x0 x8 xs0 (row 3 p) s) := by
  unfold kernelRun0_B.sl.r_19
  pointwise [k0_pay58, k0_pay59]
  simp only [B_r_10, B_r_17, B_r_18, B_v344]
  all_goals rfl

theorem B_r_21 (p : Fin 256) (s : Fin 256) :
    kernelRun0_B.sl.r_21 (F := Ideal) c arg2 harg2 arg4 harg4 arg5 harg5 arg11 arg17 harg17 x0 x2 x3 xs0 (ix2 p s) =
      Ideal.exp (L0 x0 x2 xs0 x3 (row 4 p) s - (vmax fun t => L0 x0 x2 xs0 x3 t s)) := by
  unfold kernelRun0_B.sl.r_21
  pointwise [k0_pay62]
  simp only [B_r_10, B_v368]
  all_goals rfl

theorem B_r_22 (s : Fin 256) :
    kernelRun0_B.sl.r_22 (F := Ideal) c arg2 harg2 arg4 harg4 arg5 harg5 arg11 arg17 harg17 x0 x2 x3 xs0 (ix2 0 s) =
      (∑ p : Fin 256, Ideal.exp (L0 x0 x2 xs0 x3 (row 0 p) s - (vmax fun t => L0 x0 x2 xs0 x3 t s))) + (∑ p : Fin 256, Ideal.exp (L0 x0 x2 xs0 x3 (row 1 p) s - (vmax fun t => L0 x0 x2 xs0 x3 t s))) + (∑ p : Fin 256, Ideal.exp (L0 x0 x2 xs0 x3 (row 2 p) s - (vmax fun t => L0 x0 x2 xs0 x3 t s))) + (∑ p : Fin 256, Ideal.exp (L0 x0 x2 xs0 x3 (row 3 p) s - (vmax fun t => L0 x0 x2 xs0 x3 t s))) + (∑ p : Fin 256, Ideal.exp (L0 x0 x2 xs0 x3 (row 4 p) s - (vmax fun t => L0 x0 x2 xs0 x3 t s))) := by
  unfold kernelRun0_B.sl.r_22
  pointwise [k0_pay58, k0_pay62, k0_pay63]
  simp only [B_r_10, B_r_16, B_v344, B_v368]
  all_goals rfl

theorem B_r_23 (s : Fin 256) :
    kernelRun0_B.sl.r_23 (F := Ideal) c arg2 harg2 arg4 harg4 arg5 harg5 arg11 arg17 harg17 x0 x2 x3 xs0 (ix2 0 s) =
      (∑ p : Fin 256, Ideal.exp (L0 x0 x2 xs0 x3 (row 0 p) s - (vmax fun t => L0 x0 x2 xs0 x3 t s))) + (∑ p : Fin 256, Ideal.exp (L0 x0 x2 xs0 x3 (row 1 p) s - (vmax fun t => L0 x0 x2 xs0 x3 t s))) + (∑ p : Fin 256, Ideal.exp (L0 x0 x2 xs0 x3 (row 2 p) s - (vmax fun t => L0 x0 x2 xs0 x3 t s))) + (∑ p : Fin 256, Ideal.exp (L0 x0 x2 xs0 x3 (row 3 p) s - (vmax fun t => L0 x0 x2 xs0 x3 t s))) + (∑ p : Fin 256, Ideal.exp (L0 x0 x2 xs0 x3 (row 4 p) s - (vmax fun t => L0 x0 x2 xs0 x3 t s))) + (∑ p : Fin 256, Ideal.exp (L0 x0 x2 xs0 x3 (row 5 p) s - (vmax fun t => L0 x0 x2 xs0 x3 t s))) := by
  unfold kernelRun0_B.sl.r_23
  pointwise [k0_pay66, k0_pay67]
  simp only [B_r_10, B_r_22, B_v392]
  all_goals rfl

theorem B_r_24 (s : Fin 256) :
    kernelRun0_B.sl.r_24 (F := Ideal) c arg2 harg2 arg4 harg4 arg5 harg5 arg10 harg10 arg11 arg17 harg17 x0 x2 x3 x8 xs0 (ix2 0 s) =
      (∑ p : Fin 256, Ideal.exp (L0 x0 x2 xs0 x3 (row 0 p) s - (vmax fun t => L0 x0 x2 xs0 x3 t s)) * D0 x0 x8 xs0 (row 0 p) s) + (∑ p : Fin 256, Ideal.exp (L0 x0 x2 xs0 x3 (row 1 p) s - (vmax fun t => L0 x0 x2 xs0 x3 t s)) * D0 x0 x8 xs0 (row 1 p) s) + (∑ p : Fin 256, Ideal.exp (L0 x0 x2 xs0 x3 (row 2 p) s - (vmax fun t => L0 x0 x2 xs0 x3 t s)) * D0 x0 x8 xs0 (row 2 p) s) + (∑ p : Fin 256, Ideal.exp (L0 x0 x2 xs0 x3 (row 3 p) s - (vmax fun t => L0 x0 x2 xs0 x3 t s)) * D0 x0 x8 xs0 (row 3 p) s) + (∑ p : Fin 256, Ideal.exp (L0 x0 x2 xs0 x3 (row 4 p) s - (vmax fun t => L0 x0 x2 xs0 x3 t s)) * D0 x0 x8 xs0 (row 4 p) s) + (∑ p : Fin 256, Ideal.exp (L0 x0 x2 xs0 x3 (row 5 p) s - (vmax fun t => L0 x0 x2 xs0 x3 t s)) * D0 x0 x8 xs0 (row 5 p) s) := by
  unfold kernelRun0_B.sl.r_24
  simp only [View.readAt_eq_ld, harg2.read_unread, harg4.read_unread, harg5.read_unread, harg10.read_unread, harg17.read_unread]
  pointwise [k0_pay64, k0_pay66, k0_pay68]
  simp only [B_r_10, B_r_19, B_r_20, B_r_21, B_v392]
  all_goals rfl

theorem B_r_26 (s : Fin 256) :
    kernelRun0_B.sl.r_26 (F := Ideal) c arg2 harg2 arg4 harg4 arg5 harg5 arg11 arg17 harg17 x0 x2 x3 xs0 (ix2 0 s) =
      (∑ p : Fin 256, Ideal.exp (L0 x0 x2 xs0 x3 (row 0 p) s - (vmax fun t => L0 x0 x2 xs0 x3 t s))) + (∑ p : Fin 256, Ideal.exp (L0 x0 x2 xs0 x3 (row 1 p) s - (vmax fun t => L0 x0 x2 xs0 x3 t s))) + (∑ p : Fin 256, Ideal.exp (L0 x0 x2 xs0 x3 (row 2 p) s - (vmax fun t => L0 x0 x2 xs0 x3 t s))) + (∑ p : Fin 256, Ideal.exp (L0 x0 x2 xs0 x3 (row 3 p) s - (vmax fun t => L0 x0 x2 xs0 x3 t s))) + (∑ p : Fin 256, Ideal.exp (L0 x0 x2 xs0 x3 (row 4 p) s - (vmax fun t => L0 x0 x2 xs0 x3 t s))) + (∑ p : Fin 256, Ideal.exp (L0 x0 x2 xs0 x3 (row 5 p) s - (vmax fun t => L0 x0 x2 xs0 x3 t s))) + (∑ p : Fin 256, Ideal.exp (L0 x0 x2 xs0 x3 (row 6 p) s - (vmax fun t => L0 x0 x2 xs0 x3 t s))) := by
  unfold kernelRun0_B.sl.r_26
  pointwise [k0_pay72, k0_pay73]
  simp only [B_r_10, B_r_23, B_v416]
  all_goals rfl

theorem B_r_27 (s : Fin 256) :
    kernelRun0_B.sl.r_27 (F := Ideal) c arg2 harg2 arg4 harg4 arg5 harg5 arg10 harg10 arg11 arg17 harg17 x0 x2 x3 x8 xs0 (ix2 0 s) =
      (∑ p : Fin 256, Ideal.exp (L0 x0 x2 xs0 x3 (row 0 p) s - (vmax fun t => L0 x0 x2 xs0 x3 t s)) * D0 x0 x8 xs0 (row 0 p) s) + (∑ p : Fin 256, Ideal.exp (L0 x0 x2 xs0 x3 (row 1 p) s - (vmax fun t => L0 x0 x2 xs0 x3 t s)) * D0 x0 x8 xs0 (row 1 p) s) + (∑ p : Fin 256, Ideal.exp (L0 x0 x2 xs0 x3 (row 2 p) s - (vmax fun t => L0 x0 x2 xs0 x3 t s)) * D0 x0 x8 xs0 (row 2 p) s) + (∑ p : Fin 256, Ideal.exp (L0 x0 x2 xs0 x3 (row 3 p) s - (vmax fun t => L0 x0 x2 xs0 x3 t s)) * D0 x0 x8 xs0 (row 3 p) s) + (∑ p : Fin 256, Ideal.exp (L0 x0 x2 xs0 x3 (row 4 p) s - (vmax fun t => L0 x0 x2 xs0 x3 t s)) * D0 x0 x8 xs0 (row 4 p) s) + (∑ p : Fin 256, Ideal.exp (L0 x0 x2 xs0 x3 (row 5 p) s - (vmax fun t => L0 x0 x2 xs0 x3 t s)) * D0 x0 x8 xs0 (row 5 p) s) + (∑ p : Fin 256, Ideal.exp (L0 x0 x2 xs0 x3 (row 6 p) s - (vmax fun t => L0 x0 x2 xs0 x3 t s)) * D0 x0 x8 xs0 (row 6 p) s) := by
  unfold kernelRun0_B.sl.r_27
  simp only [View.readAt_eq_ld, harg2.read_unread, harg4.read_unread, harg5.read_unread, harg10.read_unread, harg17.read_unread]
  pointwise [k0_pay70, k0_pay72, k0_pay74]
  simp only [B_r_10, B_r_24, B_r_25, B_v416]
  all_goals rfl

theorem B_r_29 (p : Fin 256) (s : Fin 256) :
    kernelRun0_B.sl.r_29 (F := Ideal) c arg2 harg2 arg4 harg4 arg5 harg5 arg11 arg17 harg17 x0 x2 x3 xs0 (ix2 p s) =
      L0 x0 x2 xs0 x3 (row 7 p) s := by
  unfold kernelRun0_B.sl.r_29
  pointwise [k0_pay77]
  simp only [B_v440]
  all_goals rfl

theorem B_r_30 (p : Fin 256) (s : Fin 256) :
    kernelRun0_B.sl.r_30 (F := Ideal) c arg2 harg2 arg4 harg4 arg5 harg5 arg17 harg17 x0 x2 x3 xs0 (ix2 p s) =
      (vmax fun t => L0 x0 x2 xs0 x3 t s) := by
  unfold kernelRun0_B.sl.r_30
  pointwise [k0_pay78]
  simp only [B_r_10]
  all_goals rfl

end
end Cert.KernelIdeal.Whole
end
-- ==== Proof.V.Q0.lean ====
/- The outputs of the first call (`scores`) at one point, element by element. At the first point of a batch the body
   fills two scratch columns with the row scales first; every other point reads what that point left. -/
module

public import proofs.«01_k».proof.Proof.V.P0

@[expose] public section

noncomputable section

namespace Cert.KernelIdeal.Whole

open Idealize Idealize.ShloMosaic Idealize.ShloMosaic.TcCoe
open Cert.KernelIdeal Cert.KernelIdeal.Gen Cert.Spec

theorem k0_pay6_apply (x1 : Vec Ideal S1x1x2048 .f32) (t : Fin 2048) (l : Fin 128) : k0_pay6 x1 (ix2 t l) = x1 (ix3 0 0 t) := by
  pointwise [k0_pay6]
theorem k0_pay7_apply (x5 : Vec Ideal S1x1x2048 .f32) (t : Fin 2048) (l : Fin 128) : k0_pay7 x5 (ix2 t l) = x5 (ix3 0 0 t) := by
  pointwise [k0_pay7]

section
variable (c : Dev nD) (i : grid0.Coords) (arg2 : Memref sig .tc .vmem S1x2048x2560 .fp8e4m3) (harg2 : arg2.IsWhole) (arg3 : Memref sig .tc .vmem S1x1x2048 .f32) (harg3 : arg3.IsWhole) (arg4 : Memref sig .tc .vmem S2560x256 .fp8e4m3) (harg4 : arg4.IsWhole) (arg5 : Memref sig .tc .vmem S1x256 .f32) (harg5 : arg5.IsWhole) (arg6 : Memref sig .tc .vmem S1x2048x2560 .fp8e5m2) (harg6 : arg6.IsWhole) (arg7 : Memref sig .tc .vmem S1x1x2048 .f32) (harg7 : arg7.IsWhole) (arg8 : Memref sig .tc .vmem S1x256x2560 .fp8e4m3) (harg8 : arg8.IsWhole) (arg9 : Memref sig .tc .vmem S1x1x256 .f32) (harg9 : arg9.IsWhole) (arg10 : Memref sig .tc .vmem S1x256x2560 .bf16) (harg10 : arg10.IsWhole) (arg11 : Memref sig .tc .vmem S1x2048x256 .f32) (harg11 : arg11.IsWhole) (arg12 : Memref sig .tc .vmem S1x2048x256 .f32) (harg12 : arg12.IsWhole) (arg13 : Memref sig .tc .vmem S1x2048x256 .f32) (harg13 : arg13.IsWhole) (arg14 : Memref sig .tc .vmem S1x1x256 .f32) (harg14 : arg14.IsWhole) (arg15 : Memref sig .tc .vmem S1x1x256 .f32) (harg15 : arg15.IsWhole) (arg16 : Memref sig .tc .vmem S1x1x256 .f32) (harg16 : arg16.IsWhole) (arg17 : Memref sig .tc .vmem S2048x128 .f32) (harg17 : arg17.IsWhole) (arg18 : Memref sig .tc .vmem S2048x128 .f32) (harg18 : arg18.IsWhole)
    (x0 : Vec Ideal S1x2048x2560 .fp8e4m3) (x1 : Vec Ideal S1x1x2048 .f32) (x2 : Vec Ideal S2560x256 .fp8e4m3) (x3 : Vec Ideal S1x256 .f32) (x4 : Vec Ideal S1x2048x2560 .fp8e5m2) (x5 : Vec Ideal S1x1x2048 .f32) (x6 : Vec Ideal S1x256x2560 .fp8e4m3) (x7 : Vec Ideal S1x1x256 .f32) (x8 : Vec Ideal S1x256x2560 .bf16) (xs0 : Vec Ideal S2048x128 .f32) (xs1 : Vec Ideal S2048x128 .f32)

theorem A_HS0_1 : View.canon (kernelRun0_A.sl.HS0_1 (F := Ideal) c arg3 harg3 x1) = k0_pay6 x1 := by
  unfold kernelRun0_A.sl.HS0_1
  refine (View.canon_cons_unit_lit (S := S2048x128) _ _ _ (by decide)).trans ?_
  rw [View.readAt_eq_ld, harg3.read_unread, View.ld_unit_lit _ _ (by decide)]
theorem A_v7 : kernelRun0_A.sl.v7 (F := Ideal) c arg3 harg3 arg17 x1 = View.ld (k0_pay6 x1) (Rect.unit ![0, 0] S256x1.size inb_S2048x128_S256x1_0_0 : Rect S2048x128) := by
  unfold kernelRun0_A.sl.v7
  rw [View.readCov_eq_canon', A_HS0_1]
theorem A_v23 : kernelRun0_A.sl.v23 (F := Ideal) c arg3 harg3 arg17 x1 = View.ld (k0_pay6 x1) (Rect.unit ![256, 0] S256x1.size inb_S2048x128_S256x1_256_0 : Rect S2048x128) := by
  unfold kernelRun0_A.sl.v23
  rw [View.readCov_eq_canon', A_HS0_1]
theorem A_v40 : kernelRun0_A.sl.v40 (F := Ideal) c arg3 harg3 arg17 x1 = View.ld (k0_pay6 x1) (Rect.unit ![512, 0] S256x1.size inb_S2048x128_S256x1_512_0 : Rect S2048x128) := by
  unfold kernelRun0_A.sl.v40
  rw [View.readCov_eq_canon', A_HS0_1]
theorem A_v57 : kernelRun0_A.sl.v57 (F := Ideal) c arg3 harg3 arg17 x1 = View.ld (k0_pay6 x1) (Rect.unit ![768, 0] S256x1.size inb_S2048x128_S256x1_768_0 : Rect S2048x128) := by
  unfold kernelRun0_A.sl.v57
  rw [View.readCov_eq_canon', A_HS0_1]
theorem A_v74 : kernelRun0_A.sl.v74 (F := Ideal) c arg3 harg3 arg17 x1 = View.ld (k0_pay6 x1) (Rect.unit ![1024, 0] S256x1.size inb_S2048x128_S256x1_1024_0 : Rect S2048x128) := by
  unfold kernelRun0_A.sl.v74
  rw [View.readCov_eq_canon', A_HS0_1]
theorem A_v91 : kernelRun0_A.sl.v91 (F := Ideal) c arg3 harg3 arg17 x1 = View.ld (k0_pay6 x1) (Rect.unit ![1280, 0] S256x1.size inb_S2048x128_S256x1_1280_0 : Rect S2048x128) := by
  unfold kernelRun0_A.sl.v91
  rw [View.readCov_eq_canon', A_HS0_1]
theorem A_v108 : kernelRun0_A.sl.v108 (F := Ideal) c arg3 harg3 arg17 x1 = View.ld (k0_pay6 x1) (Rect.unit ![1536, 0] S256x1.size inb_S2048x128_S256x1_1536_0 : Rect S2048x128) := by
  unfold kernelRun0_A.sl.v108
  rw [View.readCov_eq_canon', A_HS0_1]
theorem A_v125 : kernelRun0_A.sl.v125 (F := Ideal) c arg3 harg3 arg17 x1 = View.ld (k0_pay6 x1) (Rect.unit ![1792, 0] S256x1.size inb_S2048x128_S256x1_1792_0 : Rect S2048x128) := by
  unfold kernelRun0_A.sl.v125
  rw [View.readCov_eq_canon', A_HS0_1]
theorem A_HS1_1 : View.canon (kernelRun0_A.sl.HS1_1 (F := Ideal) c arg7 harg7 x5) = k0_pay7 x5 := by
  unfold kernelRun0_A.sl.HS1_1
  refine (View.canon_cons_unit_lit (S := S2048x128) _ _ _ (by decide)).trans ?_
  rw [View.readAt_eq_ld, harg7.read_unread, View.ld_unit_lit _ _ (by decide)]
theorem A_v143 : kernelRun0_A.sl.v143 (F := Ideal) c arg7 harg7 arg18 x5 = View.ld (k0_pay7 x5) (Rect.unit ![0, 0] S256x1.size inb_S2048x128_S256x1_0_0 : Rect S2048x128) := by
  unfold kernelRun0_A.sl.v143
  rw [View.readCov_eq_canon', A_HS1_1]
theorem A_v158 : kernelRun0_A.sl.v158 (F := Ideal) c arg7 harg7 arg18 x5 = View.ld (k0_pay7 x5) (Rect.unit ![256, 0] S256x1.size inb_S2048x128_S256x1_256_0 : Rect S2048x128) := by
  unfold kernelRun0_A.sl.v158
  rw [View.readCov_eq_canon', A_HS1_1]
theorem A_v173 : kernelRun0_A.sl.v173 (F := Ideal) c arg7 harg7 arg18 x5 = View.ld (k0_pay7 x5) (Rect.unit ![512, 0] S256x1.size inb_S2048x128_S256x1_512_0 : Rect S2048x128) := by
  unfold kernelRun0_A.sl.v173
  rw [View.readCov_eq_canon', A_HS1_1]
theorem A_v188 : kernelRun0_A.sl.v188 (F := Ideal) c arg7 harg7 arg18 x5 = View.ld (k0_pay7 x5) (Rect.unit ![768, 0] S256x1.size inb_S2048x128_S256x1_768_0 : Rect S2048x128) := by
  unfold kernelRun0_A.sl.v188
  rw [View.readCov_eq_canon', A_HS1_1]
theorem A_v203 : kernelRun0_A.sl.v203 (F := Ideal) c arg7 harg7 arg18 x5 = View.ld (k0_pay7 x5) (Rect.unit ![1024, 0] S256x1.size inb_S2048x128_S256x1_1024_0 : Rect S2048x128) := by
  unfold kernelRun0_A.sl.v203
  rw [View.readCov_eq_canon', A_HS1_1]
theorem A_v218 : kernelRun0_A.sl.v218 (F := Ideal) c arg7 harg7 arg18 x5 = View.ld (k0_pay7 x5) (Rect.unit ![1280, 0] S256x1.size inb_S2048x128_S256x1_1280_0 : Rect S2048x128) := by
  unfold kernelRun0_A.sl.v218
  rw [View.readCov_eq_canon', A_HS1_1]
theorem A_v233 : kernelRun0_A.sl.v233 (F := Ideal) c arg7 harg7 arg18 x5 = View.ld (k0_pay7 x5) (Rect.unit ![1536, 0] S256x1.size inb_S2048x128_S256x1_1536_0 : Rect S2048x128) := by
  unfold kernelRun0_A.sl.v233
  rw [View.readCov_eq_canon', A_HS1_1]
theorem A_v248 : kernelRun0_A.sl.v248 (F := Ideal) c arg7 harg7 arg18 x5 = View.ld (k0_pay7 x5) (Rect.unit ![1792, 0] S256x1.size inb_S2048x128_S256x1_1792_0 : Rect S2048x128) := by
  unfold kernelRun0_A.sl.v248
  rw [View.readCov_eq_canon', A_HS1_1]
theorem A_r : kernelRun0_A.sl.r (F := Ideal) c arg2 harg2 arg3 harg3 arg4 harg4 arg5 harg5 arg17 x0 x1 x2 x3 = kernelRun0_B.sl.r (F := Ideal) c arg2 harg2 arg4 harg4 arg5 harg5 arg17 harg17 x0 x2 x3 (k0_pay6 x1) := by
  unfold kernelRun0_A.sl.r kernelRun0_B.sl.r
  simp only [View.readAt_eq_ld, harg2.read_unread, harg3.read_unread, harg4.read_unread, harg5.read_unread, harg2.read_unread, harg4.read_unread, harg5.read_unread, harg17.read_unread, A_v7]
theorem A_r_1 : kernelRun0_A.sl.r_1 (F := Ideal) c arg2 harg2 arg3 harg3 arg4 harg4 arg5 harg5 arg17 x0 x1 x2 x3 = kernelRun0_B.sl.r_1 (F := Ideal) c arg2 harg2 arg4 harg4 arg5 harg5 arg17 harg17 x0 x2 x3 (k0_pay6 x1) := by
  unfold kernelRun0_A.sl.r_1 kernelRun0_B.sl.r_1
  simp only [View.readAt_eq_ld, harg2.read_unread, harg3.read_unread, harg4.read_unread, harg5.read_unread, harg2.read_unread, harg4.read_unread, harg5.read_unread, harg17.read_unread, A_v23]
theorem A_r_2 : kernelRun0_A.sl.r_2 (F := Ideal) c arg2 harg2 arg3 harg3 arg4 harg4 arg5 harg5 arg17 x0 x1 x2 x3 = kernelRun0_B.sl.r_2 (F := Ideal) c arg2 harg2 arg4 harg4 arg5 harg5 arg17 harg17 x0 x2 x3 (k0_pay6 x1) := by
  unfold kernelRun0_A.sl.r_2 kernelRun0_B.sl.r_2
  simp only [View.readAt_eq_ld, harg2.read_unread, harg3.read_unread, harg4.read_unread, harg5.read_unread, harg2.read_unread, harg4.read_unread, harg5.read_unread, harg17.read_unread, A_r (harg17 := harg17), A_r_1 (harg17 := harg17), A_v40]
theorem A_r_3 : kernelRun0_A.sl.r_3 (F := Ideal) c arg2 harg2 arg3 harg3 arg4 harg4 arg17 x0 x1 x2 = kernelRun0_B.sl.r_3 (F := Ideal) c arg2 harg2 arg4 harg4 arg17 harg17 x0 x2 (k0_pay6 x1) := by
  unfold kernelRun0_A.sl.r_3 kernelRun0_B.sl.r_3
  simp only [View.readAt_eq_ld, harg2.read_unread, harg3.read_unread, harg4.read_unread, harg2.read_unread, harg4.read_unread, harg17.read_unread, A_v57]
theorem A_r_4 : kernelRun0_A.sl.r_4 (F := Ideal) c arg2 harg2 arg3 harg3 arg4 harg4 arg5 harg5 arg17 x0 x1 x2 x3 = kernelRun0_B.sl.r_4 (F := Ideal) c arg2 harg2 arg4 harg4 arg5 harg5 arg17 harg17 x0 x2 x3 (k0_pay6 x1) := by
  unfold kernelRun0_A.sl.r_4 kernelRun0_B.sl.r_4
  simp only [View.readAt_eq_ld, harg2.read_unread, harg3.read_unread, harg4.read_unread, harg5.read_unread, harg2.read_unread, harg4.read_unread, harg5.read_unread, harg17.read_unread, A_r_2 (harg17 := harg17), A_r_3 (harg17 := harg17), A_v74]
theorem A_r_5 : kernelRun0_A.sl.r_5 (F := Ideal) c arg2 harg2 arg4 harg4 x0 x2 = kernelRun0_B.sl.r_5 (F := Ideal) c arg2 harg2 arg4 harg4 x0 x2 := by
  unfold kernelRun0_A.sl.r_5 kernelRun0_B.sl.r_5
  simp only [View.readAt_eq_ld, harg2.read_unread, harg4.read_unread, harg2.read_unread, harg4.read_unread]
theorem A_r_6 : kernelRun0_A.sl.r_6 (F := Ideal) c arg2 harg2 arg3 harg3 arg4 harg4 arg5 harg5 arg17 x0 x1 x2 x3 = kernelRun0_B.sl.r_7 (F := Ideal) c arg2 harg2 arg4 harg4 arg5 harg5 arg17 harg17 x0 x2 x3 (k0_pay6 x1) := by
  unfold kernelRun0_A.sl.r_6 kernelRun0_B.sl.r_7
  simp only [View.readAt_eq_ld, harg2.read_unread, harg3.read_unread, harg4.read_unread, harg5.read_unread, harg2.read_unread, harg4.read_unread, harg5.read_unread, harg17.read_unread, kernelRun0_B.sl.r_6, A_r_4 (harg17 := harg17), A_r_5, A_v91, A_v108]
theorem A_r_7 : kernelRun0_A.sl.r_7 (F := Ideal) c arg2 harg2 x0 = kernelRun0_B.sl.r_8 (F := Ideal) c arg2 harg2 x0 := by
  unfold kernelRun0_A.sl.r_7 kernelRun0_B.sl.r_8
  simp only [View.readAt_eq_ld, harg2.read_unread, harg2.read_unread]
theorem A_r_8 : kernelRun0_A.sl.r_8 (F := Ideal) c arg4 harg4 x2 = kernelRun0_B.sl.r_9 (F := Ideal) c arg4 harg4 x2 := by
  unfold kernelRun0_A.sl.r_8 kernelRun0_B.sl.r_9
  simp only [View.readAt_eq_ld, harg4.read_unread, harg4.read_unread]
theorem A_r_9 : kernelRun0_A.sl.r_9 (F := Ideal) c arg2 harg2 arg3 harg3 arg4 harg4 arg5 harg5 arg17 x0 x1 x2 x3 = kernelRun0_B.sl.r_10 (F := Ideal) c arg2 harg2 arg4 harg4 arg5 harg5 arg17 harg17 x0 x2 x3 (k0_pay6 x1) := by
  unfold kernelRun0_A.sl.r_9 kernelRun0_B.sl.r_10
  simp only [View.readAt_eq_ld, harg2.read_unread, harg3.read_unread, harg4.read_unread, harg5.read_unread, harg2.read_unread, harg4.read_unread, harg5.read_unread, harg17.read_unread, A_r_6 (harg17 := harg17), A_r_7, A_r_8, A_v125]
  all_goals rfl
theorem A_r_10 : kernelRun0_A.sl.r_10 (F := Ideal) c arg6 harg6 x4 = kernelRun0_B.sl.r_11 (F := Ideal) c arg6 harg6 x4 := by
  unfold kernelRun0_A.sl.r_10 kernelRun0_B.sl.r_11
  simp only [View.readAt_eq_ld, harg6.read_unread, harg6.read_unread]
theorem A_r_11 : kernelRun0_A.sl.r_11 (F := Ideal) c arg6 harg6 x4 = kernelRun0_B.sl.r_12 (F := Ideal) c arg6 harg6 x4 := by
  unfold kernelRun0_A.sl.r_11 kernelRun0_B.sl.r_12
  simp only [View.readAt_eq_ld, harg6.read_unread, harg6.read_unread]
theorem A_r_12 : kernelRun0_A.sl.r_12 (F := Ideal) c arg2 harg2 arg3 harg3 arg10 harg10 arg17 x0 x1 x8 = kernelRun0_B.sl.r_13 (F := Ideal) c arg2 harg2 arg10 harg10 arg17 harg17 x0 x8 (k0_pay6 x1) := by
  unfold kernelRun0_A.sl.r_12 kernelRun0_B.sl.r_13
  simp only [View.readAt_eq_ld, harg2.read_unread, harg3.read_unread, harg10.read_unread, harg2.read_unread, harg10.read_unread, harg17.read_unread, A_v7]
theorem A_r_17 : kernelRun0_A.sl.r_17 (F := Ideal) c arg2 harg2 arg3 harg3 arg10 harg10 arg17 x0 x1 x8 = kernelRun0_B.sl.r_18 (F := Ideal) c arg2 harg2 arg10 harg10 arg17 harg17 x0 x8 (k0_pay6 x1) := by
  unfold kernelRun0_A.sl.r_17 kernelRun0_B.sl.r_18
  simp only [View.readAt_eq_ld, harg2.read_unread, harg3.read_unread, harg10.read_unread, harg2.read_unread, harg10.read_unread, harg17.read_unread, A_v57]
theorem A_r_19 : kernelRun0_A.sl.r_19 (F := Ideal) c arg2 harg2 arg3 harg3 arg10 harg10 arg17 x0 x1 x8 = kernelRun0_B.sl.r_20 (F := Ideal) c arg2 harg2 arg10 harg10 arg17 harg17 x0 x8 (k0_pay6 x1) := by
  unfold kernelRun0_A.sl.r_19 kernelRun0_B.sl.r_20
  simp only [View.readAt_eq_ld, harg2.read_unread, harg3.read_unread, harg10.read_unread, harg2.read_unread, harg10.read_unread, harg17.read_unread, A_v74]
theorem A_r_24 : kernelRun0_A.sl.r_24 (F := Ideal) c arg2 harg2 arg10 harg10 x0 x8 = kernelRun0_B.sl.r_25 (F := Ideal) c arg2 harg2 arg10 harg10 x0 x8 := by
  unfold kernelRun0_A.sl.r_24 kernelRun0_B.sl.r_25
  simp only [View.readAt_eq_ld, harg2.read_unread, harg10.read_unread, harg2.read_unread, harg10.read_unread]
theorem A_r_27 : kernelRun0_A.sl.r_27 (F := Ideal) c arg2 harg2 arg3 harg3 arg10 harg10 arg17 x0 x1 x8 = kernelRun0_B.sl.r_28 (F := Ideal) c arg2 harg2 arg10 harg10 arg17 harg17 x0 x8 (k0_pay6 x1) := by
  unfold kernelRun0_A.sl.r_27 kernelRun0_B.sl.r_28
  simp only [View.readAt_eq_ld, harg2.read_unread, harg3.read_unread, harg10.read_unread, harg2.read_unread, harg10.read_unread, harg17.read_unread, A_v125]
theorem A_H9_8 : kernelRun0_A.sl.H9_8 (F := Ideal) c arg2 harg2 arg3 harg3 arg4 harg4 arg5 harg5 arg17 x0 x1 x2 x3 = kernelRun0_B.sl.H9_8 (F := Ideal) c arg2 harg2 arg4 harg4 arg5 harg5 arg17 harg17 x0 x2 x3 (k0_pay6 x1) := by
  unfold kernelRun0_A.sl.H9_8 kernelRun0_B.sl.H9_8
  simp only [View.readAt_eq_ld, harg2.read_unread, harg3.read_unread, harg4.read_unread, harg5.read_unread, harg2.read_unread, harg4.read_unread, harg5.read_unread, harg17.read_unread, kernelRun0_B.sl.r_6, A_r_7, A_r_8, A_v125, A_v108, A_r_5, A_v91, A_v74, A_r_3 (harg17 := harg17), A_v40, A_r_1 (harg17 := harg17), A_v7]
  all_goals rfl
theorem A_v272 : kernelRun0_A.sl.v272 (F := Ideal) c arg2 harg2 arg3 harg3 arg4 harg4 arg5 harg5 arg11 arg17 x0 x1 x2 x3 = kernelRun0_B.sl.v272 (F := Ideal) c arg2 harg2 arg4 harg4 arg5 harg5 arg11 arg17 harg17 x0 x2 x3 (k0_pay6 x1) := by
  unfold kernelRun0_A.sl.v272 kernelRun0_B.sl.v272
  simp only [View.readAt_eq_ld, harg2.read_unread, harg3.read_unread, harg4.read_unread, harg5.read_unread, harg2.read_unread, harg4.read_unread, harg5.read_unread, harg17.read_unread, A_H9_8 (harg17 := harg17)]
theorem A_v296 : kernelRun0_A.sl.v296 (F := Ideal) c arg2 harg2 arg3 harg3 arg4 harg4 arg5 harg5 arg11 arg17 x0 x1 x2 x3 = kernelRun0_B.sl.v296 (F := Ideal) c arg2 harg2 arg4 harg4 arg5 harg5 arg11 arg17 harg17 x0 x2 x3 (k0_pay6 x1) := by
  unfold kernelRun0_A.sl.v296 kernelRun0_B.sl.v296
  simp only [View.readAt_eq_ld, harg2.read_unread, harg3.read_unread, harg4.read_unread, harg5.read_unread, harg2.read_unread, harg4.read_unread, harg5.read_unread, harg17.read_unread, A_H9_8 (harg17 := harg17)]
theorem A_v320 : kernelRun0_A.sl.v320 (F := Ideal) c arg2 harg2 arg3 harg3 arg4 harg4 arg5 harg5 arg11 arg17 x0 x1 x2 x3 = kernelRun0_B.sl.v320 (F := Ideal) c arg2 harg2 arg4 harg4 arg5 harg5 arg11 arg17 harg17 x0 x2 x3 (k0_pay6 x1) := by
  unfold kernelRun0_A.sl.v320 kernelRun0_B.sl.v320
  simp only [View.readAt_eq_ld, harg2.read_unread, harg3.read_unread, harg4.read_unread, harg5.read_unread, harg2.read_unread, harg4.read_unread, harg5.read_unread, harg17.read_unread, A_H9_8 (harg17 := harg17)]
theorem A_v344 : kernelRun0_A.sl.v344 (F := Ideal) c arg2 harg2 arg3 harg3 arg4 harg4 arg5 harg5 arg11 arg17 x0 x1 x2 x3 = kernelRun0_B.sl.v344 (F := Ideal) c arg2 harg2 arg4 harg4 arg5 harg5 arg11 arg17 harg17 x0 x2 x3 (k0_pay6 x1) := by
  unfold kernelRun0_A.sl.v344 kernelRun0_B.sl.v344
  simp only [View.readAt_eq_ld, harg2.read_unread, harg3.read_unread, harg4.read_unread, harg5.read_unread, harg2.read_unread, harg4.read_unread, harg5.read_unread, harg17.read_unread, A_H9_8 (harg17 := harg17)]
theorem A_v368 : kernelRun0_A.sl.v368 (F := Ideal) c arg2 harg2 arg3 harg3 arg4 harg4 arg5 harg5 arg11 arg17 x0 x1 x2 x3 = kernelRun0_B.sl.v368 (F := Ideal) c arg2 harg2 arg4 harg4 arg5 harg5 arg11 arg17 harg17 x0 x2 x3 (k0_pay6 x1) := by
  unfold kernelRun0_A.sl.v368 kernelRun0_B.sl.v368
  simp only [View.readAt_eq_ld, harg2.read_unread, harg3.read_unread, harg4.read_unread, harg5.read_unread, harg2.read_unread, harg4.read_unread, harg5.read_unread, harg17.read_unread, A_H9_8 (harg17 := harg17)]
theorem A_v392 : kernelRun0_A.sl.v392 (F := Ideal) c arg2 harg2 arg3 harg3 arg4 harg4 arg5 harg5 arg11 arg17 x0 x1 x2 x3 = kernelRun0_B.sl.v392 (F := Ideal) c arg2 harg2 arg4 harg4 arg5 harg5 arg11 arg17 harg17 x0 x2 x3 (k0_pay6 x1) := by
  unfold kernelRun0_A.sl.v392 kernelRun0_B.sl.v392
  simp only [View.readAt_eq_ld, harg2.read_unread, harg3.read_unread, harg4.read_unread, harg5.read_unread, harg2.read_unread, harg4.read_unread, harg5.read_unread, harg17.read_unread, A_H9_8 (harg17 := harg17)]
theorem A_v416 : kernelRun0_A.sl.v416 (F := Ideal) c arg2 harg2 arg3 harg3 arg4 harg4 arg5 harg5 arg11 arg17 x0 x1 x2 x3 = kernelRun0_B.sl.v416 (F := Ideal) c arg2 harg2 arg4 harg4 arg5 harg5 arg11 arg17 harg17 x0 x2 x3 (k0_pay6 x1) := by
  unfold kernelRun0_A.sl.v416 kernelRun0_B.sl.v416
  simp only [View.readAt_eq_ld, harg2.read_unread, harg3.read_unread, harg4.read_unread, harg5.read_unread, harg2.read_unread, harg4.read_unread, harg5.read_unread, harg17.read_unread, A_H9_8 (harg17 := harg17)]
theorem A_v440 : kernelRun0_A.sl.v440 (F := Ideal) c arg2 harg2 arg3 harg3 arg4 harg4 arg5 harg5 arg11 arg17 x0 x1 x2 x3 = kernelRun0_B.sl.v440 (F := Ideal) c arg2 harg2 arg4 harg4 arg5 harg5 arg11 arg17 harg17 x0 x2 x3 (k0_pay6 x1) := by
  unfold kernelRun0_A.sl.v440 kernelRun0_B.sl.v440
  simp only [View.readAt_eq_ld, harg2.read_unread, harg3.read_unread, harg4.read_unread, harg5.read_unread, harg2.read_unread, harg4.read_unread, harg5.read_unread, harg17.read_unread, A_H9_8 (harg17 := harg17)]
theorem A_r_13 : kernelRun0_A.sl.r_13 (F := Ideal) c arg2 harg2 arg3 harg3 arg4 harg4 arg5 harg5 arg11 arg17 x0 x1 x2 x3 = kernelRun0_B.sl.r_14 (F := Ideal) c arg2 harg2 arg4 harg4 arg5 harg5 arg11 arg17 harg17 x0 x2 x3 (k0_pay6 x1) := by
  unfold kernelRun0_A.sl.r_13 kernelRun0_B.sl.r_14
  simp only [View.readAt_eq_ld, harg2.read_unread, harg3.read_unread, harg4.read_unread, harg5.read_unread, harg2.read_unread, harg4.read_unread, harg5.read_unread, harg17.read_unread, A_r_9 (harg17 := harg17), A_v272 (harg17 := harg17), A_v296 (harg17 := harg17)]
theorem A_r_14 : kernelRun0_A.sl.r_14 (F := Ideal) c arg2 harg2 arg3 harg3 arg4 harg4 arg5 harg5 arg10 harg10 arg11 arg17 x0 x1 x2 x3 x8 = kernelRun0_B.sl.r_15 (F := Ideal) c arg2 harg2 arg4 harg4 arg5 harg5 arg10 harg10 arg11 arg17 harg17 x0 x2 x3 x8 (k0_pay6 x1) := by
  unfold kernelRun0_A.sl.r_14 kernelRun0_B.sl.r_15
  simp only [View.readAt_eq_ld, harg2.read_unread, harg3.read_unread, harg4.read_unread, harg5.read_unread, harg10.read_unread, harg2.read_unread, harg4.read_unread, harg5.read_unread, harg10.read_unread, harg17.read_unread, A_r_9 (harg17 := harg17), A_r_12 (harg17 := harg17), A_v272 (harg17 := harg17), A_v23, A_v296 (harg17 := harg17)]
theorem A_r_15 : kernelRun0_A.sl.r_15 (F := Ideal) c arg2 harg2 arg3 harg3 arg4 harg4 arg5 harg5 arg11 arg17 x0 x1 x2 x3 = kernelRun0_B.sl.r_16 (F := Ideal) c arg2 harg2 arg4 harg4 arg5 harg5 arg11 arg17 harg17 x0 x2 x3 (k0_pay6 x1) := by
  unfold kernelRun0_A.sl.r_15 kernelRun0_B.sl.r_16
  simp only [View.readAt_eq_ld, harg2.read_unread, harg3.read_unread, harg4.read_unread, harg5.read_unread, harg2.read_unread, harg4.read_unread, harg5.read_unread, harg17.read_unread, A_r_9 (harg17 := harg17), A_r_13 (harg17 := harg17), A_v320 (harg17 := harg17)]
theorem A_r_16 : kernelRun0_A.sl.r_16 (F := Ideal) c arg2 harg2 arg3 harg3 arg4 harg4 arg5 harg5 arg10 harg10 arg11 arg17 x0 x1 x2 x3 x8 = kernelRun0_B.sl.r_17 (F := Ideal) c arg2 harg2 arg4 harg4 arg5 harg5 arg10 harg10 arg11 arg17 harg17 x0 x2 x3 x8 (k0_pay6 x1) := by
  unfold kernelRun0_A.sl.r_16 kernelRun0_B.sl.r_17
  simp only [View.readAt_eq_ld, harg2.read_unread, harg3.read_unread, harg4.read_unread, harg5.read_unread, harg10.read_unread, harg2.read_unread, harg4.read_unread, harg5.read_unread, harg10.read_unread, harg17.read_unread, A_r_9 (harg17 := harg17), A_r_14 (harg17 := harg17), A_v40, A_v320 (harg17 := harg17)]
theorem A_r_18 : kernelRun0_A.sl.r_18 (F := Ideal) c arg2 harg2 arg3 harg3 arg4 harg4 arg5 harg5 arg10 harg10 arg11 arg17 x0 x1 x2 x3 x8 = kernelRun0_B.sl.r_19 (F := Ideal) c arg2 harg2 arg4 harg4 arg5 harg5 arg10 harg10 arg11 arg17 harg17 x0 x2 x3 x8 (k0_pay6 x1) := by
  unfold kernelRun0_A.sl.r_18 kernelRun0_B.sl.r_19
  simp only [View.readAt_eq_ld, harg2.read_unread, harg3.read_unread, harg4.read_unread, harg5.read_unread, harg10.read_unread, harg2.read_unread, harg4.read_unread, harg5.read_unread, harg10.read_unread, harg17.read_unread, A_r_9 (harg17 := harg17), A_r_16 (harg17 := harg17), A_r_17 (harg17 := harg17), A_v344 (harg17 := harg17)]
theorem A_r_20 : kernelRun0_A.sl.r_20 (F := Ideal) c arg2 harg2 arg3 harg3 arg4 harg4 arg5 harg5 arg11 arg17 x0 x1 x2 x3 = kernelRun0_B.sl.r_21 (F := Ideal) c arg2 harg2 arg4 harg4 arg5 harg5 arg11 arg17 harg17 x0 x2 x3 (k0_pay6 x1) := by
  unfold kernelRun0_A.sl.r_20 kernelRun0_B.sl.r_21
  simp only [View.readAt_eq_ld, harg2.read_unread, harg3.read_unread, harg4.read_unread, harg5.read_unread, harg2.read_unread, harg4.read_unread, harg5.read_unread, harg17.read_unread, A_r_9 (harg17 := harg17), A_v368 (harg17 := harg17)]
theorem A_r_21 : kernelRun0_A.sl.r_21 (F := Ideal) c arg2 harg2 arg3 harg3 arg4 harg4 arg5 harg5 arg11 arg17 x0 x1 x2 x3 = kernelRun0_B.sl.r_22 (F := Ideal) c arg2 harg2 arg4 harg4 arg5 harg5 arg11 arg17 harg17 x0 x2 x3 (k0_pay6 x1) := by
  unfold kernelRun0_A.sl.r_21 kernelRun0_B.sl.r_22
  simp only [View.readAt_eq_ld, harg2.read_unread, harg3.read_unread, harg4.read_unread, harg5.read_unread, harg2.read_unread, harg4.read_unread, harg5.read_unread, harg17.read_unread, A_r_9 (harg17 := harg17), A_r_15 (harg17 := harg17), A_v344 (harg17 := harg17), A_v368 (harg17 := harg17)]
theorem A_r_22 : kernelRun0_A.sl.r_22 (F := Ideal) c arg2 harg2 arg3 harg3 arg4 harg4 arg5 harg5 arg11 arg17 x0 x1 x2 x3 = kernelRun0_B.sl.r_23 (F := Ideal) c arg2 harg2 arg4 harg4 arg5 harg5 arg11 arg17 harg17 x0 x2 x3 (k0_pay6 x1) := by
  unfold kernelRun0_A.sl.r_22 kernelRun0_B.sl.r_23
  simp only [View.readAt_eq_ld, harg2.read_unread, harg3.read_unread, harg4.read_unread, harg5.read_unread, harg2.read_unread, harg4.read_unread, harg5.read_unread, harg17.read_unread, A_r_9 (harg17 := harg17), A_r_21 (harg17 := harg17), A_v392 (harg17 := harg17)]
theorem A_r_23 : kernelRun0_A.sl.r_23 (F := Ideal) c arg2 harg2 arg3 harg3 arg4 harg4 arg5 harg5 arg10 harg10 arg11 arg17 x0 x1 x2 x3 x8 = kernelRun0_B.sl.r_24 (F := Ideal) c arg2 harg2 arg4 harg4 arg5 harg5 arg10 harg10 arg11 arg17 harg17 x0 x2 x3 x8 (k0_pay6 x1) := by
  unfold kernelRun0_A.sl.r_23 kernelRun0_B.sl.r_24
  simp only [View.readAt_eq_ld, harg2.read_unread, harg3.read_unread, harg4.read_unread, harg5.read_unread, harg10.read_unread, harg2.read_unread, harg4.read_unread, harg5.read_unread, harg10.read_unread, harg17.read_unread, A_r_9 (harg17 := harg17), A_r_18 (harg17 := harg17), A_r_19 (harg17 := harg17), A_r_20 (harg17 := harg17), A_v91, A_v392 (harg17 := harg17)]
theorem A_r_25 : kernelRun0_A.sl.r_25 (F := Ideal) c arg2 harg2 arg3 harg3 arg4 harg4 arg5 harg5 arg11 arg17 x0 x1 x2 x3 = kernelRun0_B.sl.r_26 (F := Ideal) c arg2 harg2 arg4 harg4 arg5 harg5 arg11 arg17 harg17 x0 x2 x3 (k0_pay6 x1) := by
  unfold kernelRun0_A.sl.r_25 kernelRun0_B.sl.r_26
  simp only [View.readAt_eq_ld, harg2.read_unread, harg3.read_unread, harg4.read_unread, harg5.read_unread, harg2.read_unread, harg4.read_unread, harg5.read_unread, harg17.read_unread, A_r_9 (harg17 := harg17), A_r_22 (harg17 := harg17), A_v416 (harg17 := harg17)]
theorem A_r_26 : kernelRun0_A.sl.r_26 (F := Ideal) c arg2 harg2 arg3 harg3 arg4 harg4 arg5 harg5 arg10 harg10 arg11 arg17 x0 x1 x2 x3 x8 = kernelRun0_B.sl.r_27 (F := Ideal) c arg2 harg2 arg4 harg4 arg5 harg5 arg10 harg10 arg11 arg17 harg17 x0 x2 x3 x8 (k0_pay6 x1) := by
  unfold kernelRun0_A.sl.r_26 kernelRun0_B.sl.r_27
  simp only [View.readAt_eq_ld, harg2.read_unread, harg3.read_unread, harg4.read_unread, harg5.read_unread, harg10.read_unread, harg2.read_unread, harg4.read_unread, harg5.read_unread, harg10.read_unread, harg17.read_unread, A_r_9 (harg17 := harg17), A_r_23 (harg17 := harg17), A_r_24, A_v108, A_v416 (harg17 := harg17)]
theorem A_r_28 : kernelRun0_A.sl.r_28 (F := Ideal) c arg2 harg2 arg3 harg3 arg4 harg4 arg5 harg5 arg11 arg17 x0 x1 x2 x3 = kernelRun0_B.sl.r_29 (F := Ideal) c arg2 harg2 arg4 harg4 arg5 harg5 arg11 arg17 harg17 x0 x2 x3 (k0_pay6 x1) := by
  unfold kernelRun0_A.sl.r_28 kernelRun0_B.sl.r_29
  simp only [View.readAt_eq_ld, harg2.read_unread, harg3.read_unread, harg4.read_unread, harg5.read_unread, harg2.read_unread, harg4.read_unread, harg5.read_unread, harg17.read_unread, A_v440 (harg17 := harg17)]
theorem A_r_29 : kernelRun0_A.sl.r_29 (F := Ideal) c arg2 harg2 arg3 harg3 arg4 harg4 arg5 harg5 arg17 x0 x1 x2 x3 = kernelRun0_B.sl.r_30 (F := Ideal) c arg2 harg2 arg4 harg4 arg5 harg5 arg17 harg17 x0 x2 x3 (k0_pay6 x1) := by
  unfold kernelRun0_A.sl.r_29 kernelRun0_B.sl.r_30
  simp only [View.readAt_eq_ld, harg2.read_unread, harg3.read_unread, harg4.read_unread, harg5.read_unread, harg2.read_unread, harg4.read_unread, harg5.read_unread, harg17.read_unread, A_r_9 (harg17 := harg17)]

theorem out0_B_9_apply (hc0) (t : Fin 2048) (s : Fin 256) :
    out0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1 (ix3 0 t s) = L0 x0 x2 xs0 x3 t s := by
  unfold out0_B_9
  rw [View.read_writes_junk_eq_canon]
  unfold kernelRun0_B
  dsimp only
  exact B_H9 c arg2 harg2 arg4 harg4 arg5 harg5 arg17 harg17 x0 x2 x3 xs0 t s

theorem out0_B_10_apply (hc0) (t : Fin 2048) (s : Fin 256) :
    out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1 (ix3 0 t s) = C0 x4 x6 xs1 x7 t s := by
  unfold out0_B_10
  rw [View.read_writes_junk_eq_canon]
  unfold kernelRun0_B
  dsimp only
  simp only [View.readAt_eq_ld, harg2.read_unread, harg3.read_unread, harg4.read_unread, harg5.read_unread, harg6.read_unread, harg7.read_unread, harg8.read_unread, harg9.read_unread, harg10.read_unread, harg17.read_unread, harg18.read_unread]
  canon_tiles x h
  · refine piece 7 _ (C0 x4 x6 xs1 x7) (fun p s => ?_) x t s (h1) h2
    pointwise [k0_pay40]
    all_goals rfl
  · refine piece 6 _ (C0 x4 x6 xs1 x7) (fun p s => ?_) x t s (h1) h2
    pointwise [k0_pay39]
    all_goals rfl
  · refine piece 5 _ (C0 x4 x6 xs1 x7) (fun p s => ?_) x t s (h1) h2
    pointwise [k0_pay38]
    all_goals rfl
  · refine piece 4 _ (C0 x4 x6 xs1 x7) (fun p s => ?_) x t s (h1) h2
    pointwise [k0_pay37]
    all_goals rfl
  · refine piece 3 _ (C0 x4 x6 xs1 x7) (fun p s => ?_) x t s (h1) h2
    pointwise [k0_pay36]
    simp only [B_r_12]
    all_goals rfl
  · refine piece 2 _ (C0 x4 x6 xs1 x7) (fun p s => ?_) x t s (h1) h2
    pointwise [k0_pay35]
    all_goals rfl
  · refine piece 1 _ (C0 x4 x6 xs1 x7) (fun p s => ?_) x t s (h1) h2
    pointwise [k0_pay34]
    simp only [B_r_11]
    all_goals rfl
  · refine piece 0 _ (C0 x4 x6 xs1 x7) (fun p s => ?_) x t s (h1.trans (Nat.zero_add _).symm) h2
    pointwise [k0_pay32]
    rw [row_zero]
    rfl

theorem out0_B_11_apply (hc0) (t : Fin 2048) (s : Fin 256) :
    out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1 (ix3 0 t s) = D0 x0 x8 xs0 t s := by
  unfold out0_B_11
  rw [View.read_writes_junk_eq_canon]
  unfold kernelRun0_B
  dsimp only
  simp only [View.readAt_eq_ld, harg2.read_unread, harg3.read_unread, harg4.read_unread, harg5.read_unread, harg6.read_unread, harg7.read_unread, harg8.read_unread, harg9.read_unread, harg10.read_unread, harg17.read_unread, harg18.read_unread]
  canon_tiles x h
  · refine piece 7 _ (D0 x0 x8 xs0) (fun p s => ?_) x t s (h1) h2
    pointwise [k0_pay75, k0_pay76]
    all_goals rfl
  · refine piece 6 _ (D0 x0 x8 xs0) (fun p s => ?_) x t s (h1) h2
    pointwise [k0_pay70, k0_pay71]
    simp only [B_r_25]
    all_goals rfl
  · refine piece 5 _ (D0 x0 x8 xs0) (fun p s => ?_) x t s (h1) h2
    pointwise [k0_pay64, k0_pay65]
    all_goals rfl
  · refine piece 4 _ (D0 x0 x8 xs0) (fun p s => ?_) x t s (h1) h2
    pointwise [k0_pay60, k0_pay61]
    all_goals rfl
  · refine piece 3 _ (D0 x0 x8 xs0) (fun p s => ?_) x t s (h1) h2
    pointwise [k0_pay57]
    simp only [B_r_18]
    all_goals rfl
  · refine piece 2 _ (D0 x0 x8 xs0) (fun p s => ?_) x t s (h1) h2
    pointwise [k0_pay51, k0_pay52]
    all_goals rfl
  · refine piece 1 _ (D0 x0 x8 xs0) (fun p s => ?_) x t s (h1) h2
    pointwise [k0_pay46, k0_pay47]
    all_goals rfl
  · refine piece 0 _ (D0 x0 x8 xs0) (fun p s => ?_) x t s (h1.trans (Nat.zero_add _).symm) h2
    pointwise [k0_pay43, k0_pay44]
    rw [row_zero]
    rfl

theorem out0_B_12_apply (hc0) (s : Fin 256) :
    out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1 (ix3 0 0 s) = (vmax fun t => L0 x0 x2 xs0 x3 t s) := by
  unfold out0_B_12
  rw [View.read_writes_junk_eq_canon]
  unfold kernelRun0_B
  dsimp only
  refine (congrFun (View.canon_cons_unit_lit (S := S1x1x256) _ _ _ (by decide)) _).trans ?_
  pointwise [k0_pay3]
  simp only [B_r_10]

theorem out0_B_13_apply (hc0) (s : Fin 256) :
    out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1 (ix3 0 0 s) = Ideal.div 1 (∑ t : Fin 2048, Ideal.exp (L0 x0 x2 xs0 x3 t s - (vmax fun t => L0 x0 x2 xs0 x3 t s))) := by
  unfold out0_B_13
  rw [View.read_writes_junk_eq_canon]
  unfold kernelRun0_B
  dsimp only
  refine (congrFun (View.canon_cons_unit_lit (S := S1x1x256) _ _ _ (by decide)) _).trans ?_
  pointwise [k0_pay1, k0_pay2, k0_pay4]
  simp only [B_r_26, B_r_29, B_r_30]
  exact congrArg (Ideal.div 1) (sum_rows fun t => Ideal.exp (L0 x0 x2 xs0 x3 t s - (vmax fun t => L0 x0 x2 xs0 x3 t s)))

theorem out0_B_14_apply (hc0) (s : Fin 256) :
    out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xs0 xs1 (ix3 0 0 s) = (∑ t : Fin 2048, Ideal.exp (L0 x0 x2 xs0 x3 t s - (vmax fun t => L0 x0 x2 xs0 x3 t s)) * D0 x0 x8 xs0 t s) * Ideal.div 1 (∑ t : Fin 2048, Ideal.exp (L0 x0 x2 xs0 x3 t s - (vmax fun t => L0 x0 x2 xs0 x3 t s))) := by
  unfold out0_B_14
  rw [View.read_writes_junk_eq_canon]
  unfold kernelRun0_B
  dsimp only
  refine (congrFun (View.canon_cons_unit_lit (S := S1x1x256) _ _ _ (by decide)) _).trans ?_
  pointwise [k0_pay1, k0_pay2, k0_pay5]
  simp only [B_r_26, B_r_27, B_r_28, B_r_29, B_r_30]
  exact congrArg₂ (fun a b : EReal => a * Ideal.div 1 b) (sum_rows fun t => Ideal.exp (L0 x0 x2 xs0 x3 t s - (vmax fun t => L0 x0 x2 xs0 x3 t s)) * D0 x0 x8 xs0 t s)
    (sum_rows fun t => Ideal.exp (L0 x0 x2 xs0 x3 t s - (vmax fun t => L0 x0 x2 xs0 x3 t s)))

theorem out0_A_9_apply (hc0) (t : Fin 2048) (s : Fin 256) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 (ix3 0 t s) = L0 x0 x2 (k0_pay6 x1) x3 t s := by
  unfold out0_A_9
  rw [View.read_writes_junk_eq_canon]
  unfold kernelRun0_A
  dsimp only
  rw [A_H9_8 (harg17 := harg17)]
  exact B_H9 c arg2 harg2 arg4 harg4 arg5 harg5 arg17 harg17 x0 x2 x3 (k0_pay6 x1) t s

theorem out0_A_10_apply (hc0) (t : Fin 2048) (s : Fin 256) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 (ix3 0 t s) = C0 x4 x6 (k0_pay7 x5) x7 t s := by
  unfold out0_A_10
  rw [View.read_writes_junk_eq_canon]
  unfold kernelRun0_A
  dsimp only
  simp only [View.readAt_eq_ld, harg2.read_unread, harg3.read_unread, harg4.read_unread, harg5.read_unread, harg6.read_unread, harg7.read_unread, harg8.read_unread, harg9.read_unread, harg10.read_unread, harg17.read_unread, harg18.read_unread, A_v143, A_v158, A_v173, A_v188, A_v203, A_v218, A_v233, A_v248, A_r_10, A_r_11]
  canon_tiles x h
  · refine piece 7 _ (C0 x4 x6 (k0_pay7 x5) x7) (fun p s => ?_) x t s (h1) h2
    pointwise [k0_pay40]
    all_goals rfl
  · refine piece 6 _ (C0 x4 x6 (k0_pay7 x5) x7) (fun p s => ?_) x t s (h1) h2
    pointwise [k0_pay39]
    all_goals rfl
  · refine piece 5 _ (C0 x4 x6 (k0_pay7 x5) x7) (fun p s => ?_) x t s (h1) h2
    pointwise [k0_pay38]
    all_goals rfl
  · refine piece 4 _ (C0 x4 x6 (k0_pay7 x5) x7) (fun p s => ?_) x t s (h1) h2
    pointwise [k0_pay37]
    all_goals rfl
  · refine piece 3 _ (C0 x4 x6 (k0_pay7 x5) x7) (fun p s => ?_) x t s (h1) h2
    pointwise [k0_pay36]
    simp only [B_r_12]
    all_goals rfl
  · refine piece 2 _ (C0 x4 x6 (k0_pay7 x5) x7) (fun p s => ?_) x t s (h1) h2
    pointwise [k0_pay35]
    all_goals rfl
  · refine piece 1 _ (C0 x4 x6 (k0_pay7 x5) x7) (fun p s => ?_) x t s (h1) h2
    pointwise [k0_pay34]
    simp only [B_r_11]
    all_goals rfl
  · refine piece 0 _ (C0 x4 x6 (k0_pay7 x5) x7) (fun p s => ?_) x t s (h1.trans (Nat.zero_add _).symm) h2
    pointwise [k0_pay32]
    rw [row_zero]
    rfl

theorem out0_A_11_apply (hc0) (t : Fin 2048) (s : Fin 256) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 (ix3 0 t s) = D0 x0 x8 (k0_pay6 x1) t s := by
  unfold out0_A_11
  rw [View.read_writes_junk_eq_canon]
  unfold kernelRun0_A
  dsimp only
  simp only [View.readAt_eq_ld, harg2.read_unread, harg3.read_unread, harg4.read_unread, harg5.read_unread, harg6.read_unread, harg7.read_unread, harg8.read_unread, harg9.read_unread, harg10.read_unread, harg17.read_unread, harg18.read_unread, A_v7, A_v23, A_v40, A_v57, A_v74, A_v91, A_v108, A_v125, A_r_17 (harg17 := harg17), A_r_24]
  canon_tiles x h
  · refine piece 7 _ (D0 x0 x8 (k0_pay6 x1)) (fun p s => ?_) x t s (h1) h2
    pointwise [k0_pay75, k0_pay76]
    all_goals rfl
  · refine piece 6 _ (D0 x0 x8 (k0_pay6 x1)) (fun p s => ?_) x t s (h1) h2
    pointwise [k0_pay70, k0_pay71]
    simp only [B_r_25]
    all_goals rfl
  · refine piece 5 _ (D0 x0 x8 (k0_pay6 x1)) (fun p s => ?_) x t s (h1) h2
    pointwise [k0_pay64, k0_pay65]
    all_goals rfl
  · refine piece 4 _ (D0 x0 x8 (k0_pay6 x1)) (fun p s => ?_) x t s (h1) h2
    pointwise [k0_pay60, k0_pay61]
    all_goals rfl
  · refine piece 3 _ (D0 x0 x8 (k0_pay6 x1)) (fun p s => ?_) x t s (h1) h2
    pointwise [k0_pay57]
    simp only [B_r_18]
    all_goals rfl
  · refine piece 2 _ (D0 x0 x8 (k0_pay6 x1)) (fun p s => ?_) x t s (h1) h2
    pointwise [k0_pay51, k0_pay52]
    all_goals rfl
  · refine piece 1 _ (D0 x0 x8 (k0_pay6 x1)) (fun p s => ?_) x t s (h1) h2
    pointwise [k0_pay46, k0_pay47]
    all_goals rfl
  · refine piece 0 _ (D0 x0 x8 (k0_pay6 x1)) (fun p s => ?_) x t s (h1.trans (Nat.zero_add _).symm) h2
    pointwise [k0_pay43, k0_pay44]
    rw [row_zero]
    rfl

theorem out0_A_12_apply (hc0) (s : Fin 256) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 (ix3 0 0 s) = (vmax fun t => L0 x0 x2 (k0_pay6 x1) x3 t s) := by
  unfold out0_A_12
  rw [View.read_writes_junk_eq_canon]
  unfold kernelRun0_A
  dsimp only
  rw [A_r_9 (harg17 := harg17)]
  refine (congrFun (View.canon_cons_unit_lit (S := S1x1x256) _ _ _ (by decide)) _).trans ?_
  pointwise [k0_pay3]
  simp only [B_r_10]

theorem out0_A_13_apply (hc0) (s : Fin 256) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 (ix3 0 0 s) = Ideal.div 1 (∑ t : Fin 2048, Ideal.exp (L0 x0 x2 (k0_pay6 x1) x3 t s - (vmax fun t => L0 x0 x2 (k0_pay6 x1) x3 t s))) := by
  unfold out0_A_13
  rw [View.read_writes_junk_eq_canon]
  unfold kernelRun0_A
  dsimp only
  rw [A_r_25 (harg17 := harg17), A_r_28 (harg17 := harg17), A_r_29 (harg17 := harg17)]
  refine (congrFun (View.canon_cons_unit_lit (S := S1x1x256) _ _ _ (by decide)) _).trans ?_
  pointwise [k0_pay1, k0_pay2, k0_pay4]
  simp only [B_r_26, B_r_29, B_r_30]
  exact congrArg (Ideal.div 1) (sum_rows fun t => Ideal.exp (L0 x0 x2 (k0_pay6 x1) x3 t s - (vmax fun t => L0 x0 x2 (k0_pay6 x1) x3 t s)))

theorem out0_A_14_apply (hc0) (s : Fin 256) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 (ix3 0 0 s) = (∑ t : Fin 2048, Ideal.exp (L0 x0 x2 (k0_pay6 x1) x3 t s - (vmax fun t => L0 x0 x2 (k0_pay6 x1) x3 t s)) * D0 x0 x8 (k0_pay6 x1) t s) * Ideal.div 1 (∑ t : Fin 2048, Ideal.exp (L0 x0 x2 (k0_pay6 x1) x3 t s - (vmax fun t => L0 x0 x2 (k0_pay6 x1) x3 t s))) := by
  unfold out0_A_14
  rw [View.read_writes_junk_eq_canon]
  unfold kernelRun0_A
  dsimp only
  rw [A_r_25 (harg17 := harg17), A_r_26 (harg17 := harg17), A_r_27 (harg17 := harg17), A_r_28 (harg17 := harg17), A_r_29 (harg17 := harg17)]
  refine (congrFun (View.canon_cons_unit_lit (S := S1x1x256) _ _ _ (by decide)) _).trans ?_
  pointwise [k0_pay1, k0_pay2, k0_pay5]
  simp only [B_r_26, B_r_27, B_r_28, B_r_29, B_r_30]
  exact congrArg₂ (fun a b : EReal => a * Ideal.div 1 b) (sum_rows fun t => Ideal.exp (L0 x0 x2 (k0_pay6 x1) x3 t s - (vmax fun t => L0 x0 x2 (k0_pay6 x1) x3 t s)) * D0 x0 x8 (k0_pay6 x1) t s)
    (sum_rows fun t => Ideal.exp (L0 x0 x2 (k0_pay6 x1) x3 t s - (vmax fun t => L0 x0 x2 (k0_pay6 x1) x3 t s)))

theorem sout0_A_0_eq (hc0) : sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 = k0_pay6 x1 := by
  unfold sout0_A_0
  rw [View.read_writes_junk_eq_canon]
  exact A_HS0_1 c arg3 harg3 x1

theorem sout0_A_1_eq (hc0) : sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 = k0_pay7 x5 := by
  unfold sout0_A_1
  rw [View.read_writes_junk_eq_canon]
  exact A_HS1_1 c arg7 harg7 x5
end
end Cert.KernelIdeal.Whole
end
-- ==== Proof.V.R0.lean ====
/- The first call (`scores`): the logits, the gradients of the two kinds of weights, and for each batch and slot the
   largest logit over the tokens, one over the sum of the exponentials, and the column sum of the backward pass. -/
module

public import proofs.«01_k».proof.Proof.V.Q0

@[expose] public section

noncomputable section

namespace Cert.KernelIdeal.Whole

open Idealize Idealize.ShloMosaic Idealize.ShloMosaic.TcCoe
open Cert.KernelIdeal Cert.KernelIdeal.Gen Cert.Spec

/-- What the call finds in its arrays. -/
structure In0 (V : (c : Dev nD) → (b : Ref sig .tc) → Buf (Elt Ideal) ((c : Thread nD τ).loc b)) (c : Dev nD) (A : Args) : Prop where
  x : (V c main_arg0 : Arr3 16 2048 2560) = A.x
  xs : (V c main_v0 : Arr3 16 1 2048) = arr3 fun b _ t => A.xs (ix2 b t)
  ph : (V c main_arg2 : Arr2 2560 2304) = A.ph
  ps : (V c main_v3 : Arr2 1 2304) = arr2 fun _ s => A.ps (ix1 s)
  dy : (V c main_arg6 : Arr3 16 2048 2560) = A.dy
  dys : (V c main_v1 : Arr3 16 1 2048) = arr3 fun b _ t => A.dys (ix2 b t)
  ys : (V c main_arg4 : Arr3 16 2304 2560) = A.ys
  yss : (V c main_v2 : Arr3 16 1 2304) = arr3 fun b _ s => A.yss (ix2 b s)
  ds : (V c main_arg8 : Arr3 16 2304 2560) = A.ds

variable (V : (c : Dev nD) → (b : Ref sig .tc) → Buf (Elt Ideal) ((c : Thread nD τ).loc b)) (c : Dev nD) (A : Args)
  (h : In0 V c A)

/-- The batch of a point. -/
def bat (t : Fin cfg0.N) : Fin 16 := ⟨t.val / 9, by have := lt0 t; omega⟩
/-- The slot of a column of a point's block. -/
def slot (t : Fin cfg0.N) (l : Fin 256) : Fin 2304 := ⟨t.val % 9 * 256 + l.val, by have := l.isLt; omega⟩

include h

theorem L0_eq (t : Fin cfg0.N) (X : Vec Ideal S2048x128 .f32) (hX : ∀ r : Fin 2048, X (ix2 r 0) = A.xs (ix2 (bat t) r))
    (r : Fin 2048) (l : Fin 256) : L0 (iblk0 V c 0 t) (iblk0 V c 2 t) X (iblk0 V c 3 t) r l = lg A (bat t) r (slot t l) := by
  unfold L0
  simp only [iblk0_0_apply, iblk0_2_apply, iblk0_3_apply, h.x, h.ph, h.ps, hX, arr2_apply]
  rfl

theorem C0_eq (t : Fin cfg0.N) (Y : Vec Ideal S2048x128 .f32) (hY : ∀ r : Fin 2048, Y (ix2 r 0) = A.dys (ix2 (bat t) r))
    (r : Fin 2048) (l : Fin 256) : C0 (iblk0 V c 4 t) (iblk0 V c 6 t) Y (iblk0 V c 7 t) r l = dc A (bat t) r (slot t l) := by
  unfold C0
  simp only [iblk0_4_apply, iblk0_6_apply, iblk0_7_apply, h.dy, h.ys, h.yss, hY, arr3_apply]
  rfl

theorem D0_eq (t : Fin cfg0.N) (X : Vec Ideal S2048x128 .f32) (hX : ∀ r : Fin 2048, X (ix2 r 0) = A.xs (ix2 (bat t) r))
    (r : Fin 2048) (l : Fin 256) : D0 (iblk0 V c 0 t) (iblk0 V c 8 t) X r l = dd A (bat t) r (slot t l) := by
  unfold D0
  simp only [iblk0_0_apply, iblk0_8_apply, h.x, h.ds, hX]
  rfl

theorem fresh_x (t : Fin cfg0.N) (r : Fin 2048) : k0_pay6 (F := Ideal) (iblk0 V c 1 t) (ix2 r 0) = A.xs (ix2 (bat t) r) := by
  rw [k0_pay6_apply, iblk0_1_apply, h.xs, arr3_apply]
  rfl

theorem fresh_y (t : Fin cfg0.N) (r : Fin 2048) : k0_pay7 (F := Ideal) (iblk0 V c 5 t) (ix2 r 0) = A.dys (ix2 (bat t) r) := by
  rw [k0_pay7_apply, iblk0_5_apply, h.dys, arr3_apply]
  rfl

/-- After a point the scratch columns hold the row scales of the point's batch. -/
theorem scr0 : ∀ (n : ℕ) (hn : n < cfg0.N) (r : Fin 2048),
    (outsAt0 V c n hn).2.2.2.2.2.2.1 (ix2 r 0) = A.xs (ix2 (bat ⟨n, hn⟩) r)
    ∧ (outsAt0 V c n hn).2.2.2.2.2.2.2 (ix2 r 0) = A.dys (ix2 (bat ⟨n, hn⟩) r) := by
  intro n
  induction n with
  | zero =>
    intro hn r
    rw [show outsAt0 V c 0 hn = outA0 V c ⟨0, hn⟩ (Nat.zero_mod 9) from rfl]
    unfold outA0
    dsimp only
    rw [sout0_A_0_eq, sout0_A_1_eq]
    exact ⟨fresh_x V c A h _ r, fresh_y V c A h _ r⟩
  | succ n ih =>
    intro hn r
    by_cases h0 : (n + 1) % 9 = 0
    · rw [show outsAt0 V c (n + 1) hn = _ from outsAt0_A V c ⟨n + 1, hn⟩ h0, outA0]
      dsimp only
      rw [sout0_A_0_eq, sout0_A_1_eq]
      exact ⟨fresh_x V c A h _ r, fresh_y V c A h _ r⟩
    · rw [show outsAt0 V c (n + 1) hn = _ from outsAt0_B V c ⟨n + 1, hn⟩ h0, outB0]
      dsimp only
      have e : bat ⟨n + 1, hn⟩ = bat ⟨n, by omega⟩ := Fin.ext (by show (n + 1) / 9 = n / 9; omega)
      rw [e]
      exact ih (by omega) r

/-- The columns a later point of a batch reads are those of its own batch. -/
theorem prev_x (t : Fin cfg0.N) (h0 : ¬ t.val % 9 = 0) (hn) (r : Fin 2048) :
    (outsAt0 V c (t.val - 1) hn).2.2.2.2.2.2.1 (ix2 r 0) = A.xs (ix2 (bat t) r) := by
  rw [(scr0 V c A h (t.val - 1) hn r).1]
  have e : bat ⟨t.val - 1, hn⟩ = bat t := Fin.ext (by show (t.val - 1) / 9 = t.val / 9; omega)
  rw [e]
theorem prev_y (t : Fin cfg0.N) (h0 : ¬ t.val % 9 = 0) (hn) (r : Fin 2048) :
    (outsAt0 V c (t.val - 1) hn).2.2.2.2.2.2.2 (ix2 r 0) = A.dys (ix2 (bat t) r) := by
  rw [(scr0 V c A h (t.val - 1) hn r).2]
  have e : bat ⟨t.val - 1, hn⟩ = bat t := Fin.ext (by show (t.val - 1) / 9 = t.val / 9; omega)
  rw [e]

/-- The call leaves the logits. -/
theorem value0_9 : (dat0 V c).arrAt 9 cfg0.N = arr3 (lg A) := by
  refine arr0_9 V c _ fun t _ r l => ?_
  rw [after0_9]
  by_cases h0 : t.val % 9 = 0
  · rw [outsAt0_A V c t h0, outA0]
    dsimp only
    exact (out0_A_9_apply ..).trans (L0_eq V c A h t _ (fresh_x V c A h t) r l)
  · rw [outsAt0_B V c t h0, outB0]
    dsimp only
    exact (out0_B_9_apply ..).trans (L0_eq V c A h t _ (prev_x V c A h t h0 _) r l)

/-- The call leaves the gradient of the combine weights. -/
theorem value0_10 : (dat0 V c).arrAt 10 cfg0.N = arr3 (dc A) := by
  refine arr0_10 V c _ fun t _ r l => ?_
  rw [after0_10]
  by_cases h0 : t.val % 9 = 0
  · rw [outsAt0_A V c t h0, outA0]
    dsimp only
    exact (out0_A_10_apply ..).trans (C0_eq V c A h t _ (fresh_y V c A h t) r l)
  · rw [outsAt0_B V c t h0, outB0]
    dsimp only
    exact (out0_B_10_apply ..).trans (C0_eq V c A h t _ (prev_y V c A h t h0 _) r l)

/-- The call leaves the gradient of the dispatch weights. -/
theorem value0_11 : (dat0 V c).arrAt 11 cfg0.N = arr3 (dd A) := by
  refine arr0_11 V c _ fun t _ r l => ?_
  rw [after0_11]
  by_cases h0 : t.val % 9 = 0
  · rw [outsAt0_A V c t h0, outA0]
    dsimp only
    exact (out0_A_11_apply ..).trans (D0_eq V c A h t _ (fresh_x V c A h t) r l)
  · rw [outsAt0_B V c t h0, outB0]
    dsimp only
    exact (out0_B_11_apply ..).trans (D0_eq V c A h t _ (prev_x V c A h t h0 _) r l)

/-- The call leaves the largest logit over the tokens. -/
theorem value0_12 : (dat0 V c).arrAt 12 cfg0.N = arr3 fun b _ s => vmax fun t => lg A b t s := by
  refine arr0_12 V c _ fun t _ l => ?_
  rw [after0_12]
  by_cases h0 : t.val % 9 = 0
  · rw [outsAt0_A V c t h0, outA0]
    dsimp only
    refine (out0_A_12_apply ..).trans ?_
    simp only [L0_eq V c A h t _ (fresh_x V c A h t)]
    rfl
  · rw [outsAt0_B V c t h0, outB0]
    dsimp only
    refine (out0_B_12_apply ..).trans ?_
    simp only [L0_eq V c A h t _ (prev_x V c A h t h0 _)]
    rfl

/-- The call leaves one over the sum of the exponentials. -/
theorem value0_13 : (dat0 V c).arrAt 13 cfg0.N = arr3 fun b _ s => Ideal.div 1 (vz fun t => lg A b t s) := by
  refine arr0_13 V c _ fun t _ l => ?_
  rw [after0_13]
  by_cases h0 : t.val % 9 = 0
  · rw [outsAt0_A V c t h0, outA0]
    dsimp only
    refine (out0_A_13_apply ..).trans ?_
    simp only [L0_eq V c A h t _ (fresh_x V c A h t)]
    rfl
  · rw [outsAt0_B V c t h0, outB0]
    dsimp only
    refine (out0_B_13_apply ..).trans ?_
    simp only [L0_eq V c A h t _ (prev_x V c A h t h0 _)]
    rfl

/-- The call leaves the column sums of the backward pass. -/
theorem value0_14 : (dat0 V c).arrAt 14 cfg0.N = arr3 fun b _ s => q A b s := by
  refine arr0_14 V c _ fun t _ l => ?_
  rw [after0_14]
  have key := soft_sum (fun t' => lg A (bat t) t' (slot t l)) (fun t' => dd A (bat t) t' (slot t l))
  by_cases h0 : t.val % 9 = 0
  · rw [outsAt0_A V c t h0, outA0]
    dsimp only
    refine (out0_A_14_apply ..).trans ?_
    simp only [L0_eq V c A h t _ (fresh_x V c A h t), D0_eq V c A h t _ (fresh_x V c A h t)]
    exact key
  · rw [outsAt0_B V c t h0, outB0]
    dsimp only
    refine (out0_B_14_apply ..).trans ?_
    simp only [L0_eq V c A h t _ (prev_x V c A h t h0 _), D0_eq V c A h t _ (prev_x V c A h t h0 _)]
    exact key

end Cert.KernelIdeal.Whole

end
-- ==== Proof.V.W1.lean ====
/- The windows of the second call (`grads`): what a staged block holds of its array, and what the output arrays end
   holding when each point leaves its block of them. -/
module

public import proofs.«01_k».proof.Proof.V.Spec
public import proofs.«01_k».proof.Proof.KI.Region1
public import Idealize.ShloMosaic.Lib.Pipeline.Value
public import Idealize.ShloMosaic.Lib.Pipeline.ValueKit

@[expose] public section

noncomputable section

namespace Cert.KernelIdeal.Whole

open Idealize Idealize.ShloMosaic Idealize.ShloMosaic.TcCoe
open Cert.KernelIdeal Cert.KernelIdeal.Gen Cert.Spec

theorem lt1 (t : Fin cfg1.N) : t.val < 128 := lt_of_lt_of_eq t.isLt (show cfg1.N = 128 from N_1)

/-- The index maps over the grid. -/
theorem idx1_0 : ∀ t : Fin cfg1.N, win1_0.index t = ![t.val / 8, t.val % 8, 0] :=
  (by decide +kernel : ∀ t : Fin grid1.N, _)
theorem idx1_1 : ∀ t : Fin cfg1.N, win1_1.index t = ![t.val / 8, t.val % 8, 0] :=
  (by decide +kernel : ∀ t : Fin grid1.N, _)
theorem idx1_2 : ∀ t : Fin cfg1.N, win1_2.index t = ![t.val / 8, t.val % 8, 0] :=
  (by decide +kernel : ∀ t : Fin grid1.N, _)
theorem idx1_3 : ∀ t : Fin cfg1.N, win1_3.index t = ![t.val / 8, 0, t.val % 8] :=
  (by decide +kernel : ∀ t : Fin grid1.N, _)
theorem idx1_4 : ∀ t : Fin cfg1.N, win1_4.index t = ![t.val / 8, 0, 0] :=
  (by decide +kernel : ∀ t : Fin grid1.N, _)
theorem idx1_5 : ∀ t : Fin cfg1.N, win1_5.index t = ![t.val / 8, 0, 0] :=
  (by decide +kernel : ∀ t : Fin grid1.N, _)
theorem idx1_6 : ∀ t : Fin cfg1.N, win1_6.index t = ![t.val / 8, 0, 0] :=
  (by decide +kernel : ∀ t : Fin grid1.N, _)
theorem idx1_7 : ∀ t : Fin cfg1.N, win1_7.index t = ![t.val / 8, t.val % 8, 0] :=
  (by decide +kernel : ∀ t : Fin grid1.N, _)
theorem idx1_8 : ∀ t : Fin cfg1.N, win1_8.index t = ![t.val / 8, t.val % 8, 0] :=
  (by decide +kernel : ∀ t : Fin grid1.N, _)
theorem idx1_9 : ∀ t : Fin cfg1.N, win1_9.index t = ![t.val / 8, t.val % 8, 0] :=
  (by decide +kernel : ∀ t : Fin grid1.N, _)
theorem idx1_10 : ∀ t : Fin cfg1.N, win1_10.index t = ![t.val / 8, t.val % 8, 0] :=
  (by decide +kernel : ∀ t : Fin grid1.N, _)

section
variable (V : (c : Dev nD) → (b : Ref sig .tc) → Buf (Elt Ideal) ((c : Thread nD τ).loc b))

theorem iblk1_0_apply (c : Dev nD) (t : Fin cfg1.N) (r : Fin 256) (l : Fin 2304) :
    (iblk1 V c 0 t : Vec Ideal S1x256x2304 .f32) (ix3 0 r l)
      = (V c main_v4_0 : Arr3 16 2048 2304) (ix3 ⟨t.val / 8, by have := lt1 t; omega⟩ ⟨t.val % 8 * 256 + r.val, by have := lt1 t; have := r.isLt; omega⟩ l) := by
  have h0 : win1_0.index t 0 = t.val / 8 := congrFun (idx1_0 t) 0
  have h1 : win1_0.index t 1 = t.val % 8 := congrFun (idx1_0 t) 1
  have h2 : win1_0.index t 2 = 0 := congrFun (idx1_0 t) 2
  refine congrArg (V c main_v4_0 : Arr3 16 2048 2304) (funext fun a => Fin.ext ?_)
  match a with
  | ⟨0, _⟩ => show win1_0.index t 0 * 1 + 1 * 0 = t.val / 8; omega
  | ⟨1, _⟩ => show win1_0.index t 1 * 256 + 1 * r.val = t.val % 8 * 256 + r.val; omega
  | ⟨2, _⟩ => show win1_0.index t 2 * 2304 + 1 * l.val = l.val; omega

theorem iblk1_1_apply (c : Dev nD) (t : Fin cfg1.N) (r : Fin 256) (l : Fin 2304) :
    (iblk1 V c 1 t : Vec Ideal S1x256x2304 .f32) (ix3 0 r l)
      = (V c main_v4_1 : Arr3 16 2048 2304) (ix3 ⟨t.val / 8, by have := lt1 t; omega⟩ ⟨t.val % 8 * 256 + r.val, by have := lt1 t; have := r.isLt; omega⟩ l) := by
  have h0 : win1_1.index t 0 = t.val / 8 := congrFun (idx1_1 t) 0
  have h1 : win1_1.index t 1 = t.val % 8 := congrFun (idx1_1 t) 1
  have h2 : win1_1.index t 2 = 0 := congrFun (idx1_1 t) 2
  refine congrArg (V c main_v4_1 : Arr3 16 2048 2304) (funext fun a => Fin.ext ?_)
  match a with
  | ⟨0, _⟩ => show win1_1.index t 0 * 1 + 1 * 0 = t.val / 8; omega
  | ⟨1, _⟩ => show win1_1.index t 1 * 256 + 1 * r.val = t.val % 8 * 256 + r.val; omega
  | ⟨2, _⟩ => show win1_1.index t 2 * 2304 + 1 * l.val = l.val; omega

theorem iblk1_2_apply (c : Dev nD) (t : Fin cfg1.N) (r : Fin 256) (l : Fin 2304) :
    (iblk1 V c 2 t : Vec Ideal S1x256x2304 .f32) (ix3 0 r l)
      = (V c main_v4_2 : Arr3 16 2048 2304) (ix3 ⟨t.val / 8, by have := lt1 t; omega⟩ ⟨t.val % 8 * 256 + r.val, by have := lt1 t; have := r.isLt; omega⟩ l) := by
  have h0 : win1_2.index t 0 = t.val / 8 := congrFun (idx1_2 t) 0
  have h1 : win1_2.index t 1 = t.val % 8 := congrFun (idx1_2 t) 1
  have h2 : win1_2.index t 2 = 0 := congrFun (idx1_2 t) 2
  refine congrArg (V c main_v4_2 : Arr3 16 2048 2304) (funext fun a => Fin.ext ?_)
  match a with
  | ⟨0, _⟩ => show win1_2.index t 0 * 1 + 1 * 0 = t.val / 8; omega
  | ⟨1, _⟩ => show win1_2.index t 1 * 256 + 1 * r.val = t.val % 8 * 256 + r.val; omega
  | ⟨2, _⟩ => show win1_2.index t 2 * 2304 + 1 * l.val = l.val; omega

theorem iblk1_3_apply (c : Dev nD) (t : Fin cfg1.N) (l : Fin 256) :
    (iblk1 V c 3 t : Vec Ideal S1x1x256 .f32) (ix3 0 0 l)
      = (V c main_v1 : Arr3 16 1 2048) (ix3 ⟨t.val / 8, by have := lt1 t; omega⟩ 0 ⟨t.val % 8 * 256 + l.val, by have := lt1 t; have := l.isLt; omega⟩) := by
  have h0 : win1_3.index t 0 = t.val / 8 := congrFun (idx1_3 t) 0
  have h1 : win1_3.index t 1 = 0 := congrFun (idx1_3 t) 1
  have h2 : win1_3.index t 2 = t.val % 8 := congrFun (idx1_3 t) 2
  refine congrArg (V c main_v1 : Arr3 16 1 2048) (funext fun a => Fin.ext ?_)
  match a with
  | ⟨0, _⟩ => show win1_3.index t 0 * 1 + 1 * 0 = t.val / 8; omega
  | ⟨1, _⟩ => show win1_3.index t 1 * 1 + 1 * 0 = 0; omega
  | ⟨2, _⟩ => show win1_3.index t 2 * 256 + 1 * l.val = t.val % 8 * 256 + l.val; omega

theorem iblk1_4_apply (c : Dev nD) (t : Fin cfg1.N) (l : Fin 2304) :
    (iblk1 V c 4 t : Vec Ideal S1x1x2304 .f32) (ix3 0 0 l)
      = (V c main_v4_3 : Arr3 16 1 2304) (ix3 ⟨t.val / 8, by have := lt1 t; omega⟩ 0 l) := by
  have h0 : win1_4.index t 0 = t.val / 8 := congrFun (idx1_4 t) 0
  have h1 : win1_4.index t 1 = 0 := congrFun (idx1_4 t) 1
  have h2 : win1_4.index t 2 = 0 := congrFun (idx1_4 t) 2
  refine congrArg (V c main_v4_3 : Arr3 16 1 2304) (funext fun a => Fin.ext ?_)
  match a with
  | ⟨0, _⟩ => show win1_4.index t 0 * 1 + 1 * 0 = t.val / 8; omega
  | ⟨1, _⟩ => show win1_4.index t 1 * 1 + 1 * 0 = 0; omega
  | ⟨2, _⟩ => show win1_4.index t 2 * 2304 + 1 * l.val = l.val; omega

theorem iblk1_5_apply (c : Dev nD) (t : Fin cfg1.N) (l : Fin 2304) :
    (iblk1 V c 5 t : Vec Ideal S1x1x2304 .f32) (ix3 0 0 l)
      = (V c main_v4_4 : Arr3 16 1 2304) (ix3 ⟨t.val / 8, by have := lt1 t; omega⟩ 0 l) := by
  have h0 : win1_5.index t 0 = t.val / 8 := congrFun (idx1_5 t) 0
  have h1 : win1_5.index t 1 = 0 := congrFun (idx1_5 t) 1
  have h2 : win1_5.index t 2 = 0 := congrFun (idx1_5 t) 2
  refine congrArg (V c main_v4_4 : Arr3 16 1 2304) (funext fun a => Fin.ext ?_)
  match a with
  | ⟨0, _⟩ => show win1_5.index t 0 * 1 + 1 * 0 = t.val / 8; omega
  | ⟨1, _⟩ => show win1_5.index t 1 * 1 + 1 * 0 = 0; omega
  | ⟨2, _⟩ => show win1_5.index t 2 * 2304 + 1 * l.val = l.val; omega

theorem iblk1_6_apply (c : Dev nD) (t : Fin cfg1.N) (l : Fin 2304) :
    (iblk1 V c 6 t : Vec Ideal S1x1x2304 .f32) (ix3 0 0 l)
      = (V c main_v4_5 : Arr3 16 1 2304) (ix3 ⟨t.val / 8, by have := lt1 t; omega⟩ 0 l) := by
  have h0 : win1_6.index t 0 = t.val / 8 := congrFun (idx1_6 t) 0
  have h1 : win1_6.index t 1 = 0 := congrFun (idx1_6 t) 1
  have h2 : win1_6.index t 2 = 0 := congrFun (idx1_6 t) 2
  refine congrArg (V c main_v4_5 : Arr3 16 1 2304) (funext fun a => Fin.ext ?_)
  match a with
  | ⟨0, _⟩ => show win1_6.index t 0 * 1 + 1 * 0 = t.val / 8; omega
  | ⟨1, _⟩ => show win1_6.index t 1 * 1 + 1 * 0 = 0; omega
  | ⟨2, _⟩ => show win1_6.index t 2 * 2304 + 1 * l.val = l.val; omega

/-- Output 7 ends holding `G` when every point that writes it back leaves its block of `G`. -/
theorem arr1_7 (c : Dev nD) (G : Arr3 16 2048 2304)
    (h : ∀ t : Fin cfg1.N, (cfg1.win 7).flush t = true → ∀ (r : Fin 256) (l : Fin 2304),
      ((dat1 V c).after 7 t : Vec Ideal S1x256x2304 .f32) (ix3 0 r l)
        = G (ix3 ⟨t.val / 8, by have := lt1 t; omega⟩ ⟨t.val % 8 * 256 + r.val, by have := lt1 t; have := r.isLt; omega⟩ l)) :
    (dat1 V c).arrAt 7 cfg1.N = G := by
  refine (dat1 V c).arrAt_eq_of_cover 7 G (fun t hf => funext fun y => ?_) (fun i => ?_)
  · have h0 : win1_7.index t 0 = t.val / 8 := congrFun (idx1_7 t) 0
    have h1 : win1_7.index t 1 = t.val % 8 := congrFun (idx1_7 t) 1
    have h2 : win1_7.index t 2 = 0 := congrFun (idx1_7 t) 2
    have y0 : (y 0).val < 1 := (y 0).isLt
    have y1 : (y 1).val < 256 := (y 1).isLt
    have y2 : (y 2).val < 2304 := (y 2).isLt
    refine Eq.trans ?_ ((h t hf ⟨(y 1).val, y1⟩ ⟨(y 2).val, y2⟩).trans ?_)
    · refine congrArg ((dat1 V c).after 7 t : Vec Ideal S1x256x2304 .f32) (funext fun a => Fin.ext ?_)
      match a with
      | ⟨0, _⟩ => show (y 0).val = 0; omega
      | ⟨1, _⟩ => show (y 1).val = (y 1).val; omega
      | ⟨2, _⟩ => show (y 2).val = (y 2).val; omega
    · refine congrArg G (funext fun a => Fin.ext ?_)
      match a with
      | ⟨0, _⟩ => show t.val / 8 = win1_7.index t 0 * 1 + 1 * (y 0).val; omega
      | ⟨1, _⟩ => show t.val % 8 * 256 + (y 1).val = win1_7.index t 1 * 256 + 1 * (y 1).val; omega
      | ⟨2, _⟩ => show (y 2).val = win1_7.index t 2 * 2304 + 1 * (y 2).val; omega
  · have i0 : (i 0).val < 16 := (i 0).isLt
    have i1 : (i 1).val < 2048 := (i 1).isLt
    have i2 : (i 2).val < 2304 := (i 2).isLt
    obtain ⟨t, ht⟩ : ∃ t : Fin cfg1.N, t.val = (i 0).val * 8 + (i 1).val / 256 := ⟨⟨(i 0).val * 8 + (i 1).val / 256, lt_of_lt_of_eq (by omega) (show 128 = cfg1.N from N_1.symm)⟩, rfl⟩
    have h0 : win1_7.index t 0 = t.val / 8 := congrFun (idx1_7 t) 0
    have h1 : win1_7.index t 1 = t.val % 8 := congrFun (idx1_7 t) 1
    have h2 : win1_7.index t 2 = 0 := congrFun (idx1_7 t) 2
    refine ⟨t, flush1_7 t, ?_⟩
    show i ∈ ((View.whole (Pipeline.arrRef spec1 7)).slice (win1_7.rect t)).set
    rw [View.set_slice_whole, Rect.mem_set_unit]
    intro a
    match a with
    | ⟨0, _⟩ => show win1_7.index t 0 * 1 ≤ (i 0).val ∧ (i 0).val < win1_7.index t 0 * 1 + 1; omega
    | ⟨1, _⟩ => show win1_7.index t 1 * 256 ≤ (i 1).val ∧ (i 1).val < win1_7.index t 1 * 256 + 256; omega
    | ⟨2, _⟩ => show win1_7.index t 2 * 2304 ≤ (i 2).val ∧ (i 2).val < win1_7.index t 2 * 2304 + 2304; omega

/-- Output 8 ends holding `G` when every point that writes it back leaves its block of `G`. -/
theorem arr1_8 (c : Dev nD) (G : Arr3 16 2048 2304)
    (h : ∀ t : Fin cfg1.N, (cfg1.win 8).flush t = true → ∀ (r : Fin 256) (l : Fin 2304),
      ((dat1 V c).after 8 t : Vec Ideal S1x256x2304 .bf16) (ix3 0 r l)
        = G (ix3 ⟨t.val / 8, by have := lt1 t; omega⟩ ⟨t.val % 8 * 256 + r.val, by have := lt1 t; have := r.isLt; omega⟩ l)) :
    (dat1 V c).arrAt 8 cfg1.N = G := by
  refine (dat1 V c).arrAt_eq_of_cover 8 G (fun t hf => funext fun y => ?_) (fun i => ?_)
  · have h0 : win1_8.index t 0 = t.val / 8 := congrFun (idx1_8 t) 0
    have h1 : win1_8.index t 1 = t.val % 8 := congrFun (idx1_8 t) 1
    have h2 : win1_8.index t 2 = 0 := congrFun (idx1_8 t) 2
    have y0 : (y 0).val < 1 := (y 0).isLt
    have y1 : (y 1).val < 256 := (y 1).isLt
    have y2 : (y 2).val < 2304 := (y 2).isLt
    refine Eq.trans ?_ ((h t hf ⟨(y 1).val, y1⟩ ⟨(y 2).val, y2⟩).trans ?_)
    · refine congrArg ((dat1 V c).after 8 t : Vec Ideal S1x256x2304 .bf16) (funext fun a => Fin.ext ?_)
      match a with
      | ⟨0, _⟩ => show (y 0).val = 0; omega
      | ⟨1, _⟩ => show (y 1).val = (y 1).val; omega
      | ⟨2, _⟩ => show (y 2).val = (y 2).val; omega
    · refine congrArg G (funext fun a => Fin.ext ?_)
      match a with
      | ⟨0, _⟩ => show t.val / 8 = win1_8.index t 0 * 1 + 1 * (y 0).val; omega
      | ⟨1, _⟩ => show t.val % 8 * 256 + (y 1).val = win1_8.index t 1 * 256 + 1 * (y 1).val; omega
      | ⟨2, _⟩ => show (y 2).val = win1_8.index t 2 * 2304 + 1 * (y 2).val; omega
  · have i0 : (i 0).val < 16 := (i 0).isLt
    have i1 : (i 1).val < 2048 := (i 1).isLt
    have i2 : (i 2).val < 2304 := (i 2).isLt
    obtain ⟨t, ht⟩ : ∃ t : Fin cfg1.N, t.val = (i 0).val * 8 + (i 1).val / 256 := ⟨⟨(i 0).val * 8 + (i 1).val / 256, lt_of_lt_of_eq (by omega) (show 128 = cfg1.N from N_1.symm)⟩, rfl⟩
    have h0 : win1_8.index t 0 = t.val / 8 := congrFun (idx1_8 t) 0
    have h1 : win1_8.index t 1 = t.val % 8 := congrFun (idx1_8 t) 1
    have h2 : win1_8.index t 2 = 0 := congrFun (idx1_8 t) 2
    refine ⟨t, flush1_8 t, ?_⟩
    show i ∈ ((View.whole (Pipeline.arrRef spec1 8)).slice (win1_8.rect t)).set
    rw [View.set_slice_whole, Rect.mem_set_unit]
    intro a
    match a with
    | ⟨0, _⟩ => show win1_8.index t 0 * 1 ≤ (i 0).val ∧ (i 0).val < win1_8.index t 0 * 1 + 1; omega
    | ⟨1, _⟩ => show win1_8.index t 1 * 256 ≤ (i 1).val ∧ (i 1).val < win1_8.index t 1 * 256 + 256; omega
    | ⟨2, _⟩ => show win1_8.index t 2 * 2304 ≤ (i 2).val ∧ (i 2).val < win1_8.index t 2 * 2304 + 2304; omega

/-- Output 9 ends holding `G` when every point that writes it back leaves its block of `G`. -/
theorem arr1_9 (c : Dev nD) (G : Arr3 16 2048 2304)
    (h : ∀ t : Fin cfg1.N, (cfg1.win 9).flush t = true → ∀ (r : Fin 256) (l : Fin 2304),
      ((dat1 V c).after 9 t : Vec Ideal S1x256x2304 .bf16) (ix3 0 r l)
        = G (ix3 ⟨t.val / 8, by have := lt1 t; omega⟩ ⟨t.val % 8 * 256 + r.val, by have := lt1 t; have := r.isLt; omega⟩ l)) :
    (dat1 V c).arrAt 9 cfg1.N = G := by
  refine (dat1 V c).arrAt_eq_of_cover 9 G (fun t hf => funext fun y => ?_) (fun i => ?_)
  · have h0 : win1_9.index t 0 = t.val / 8 := congrFun (idx1_9 t) 0
    have h1 : win1_9.index t 1 = t.val % 8 := congrFun (idx1_9 t) 1
    have h2 : win1_9.index t 2 = 0 := congrFun (idx1_9 t) 2
    have y0 : (y 0).val < 1 := (y 0).isLt
    have y1 : (y 1).val < 256 := (y 1).isLt
    have y2 : (y 2).val < 2304 := (y 2).isLt
    refine Eq.trans ?_ ((h t hf ⟨(y 1).val, y1⟩ ⟨(y 2).val, y2⟩).trans ?_)
    · refine congrArg ((dat1 V c).after 9 t : Vec Ideal S1x256x2304 .bf16) (funext fun a => Fin.ext ?_)
      match a with
      | ⟨0, _⟩ => show (y 0).val = 0; omega
      | ⟨1, _⟩ => show (y 1).val = (y 1).val; omega
      | ⟨2, _⟩ => show (y 2).val = (y 2).val; omega
    · refine congrArg G (funext fun a => Fin.ext ?_)
      match a with
      | ⟨0, _⟩ => show t.val / 8 = win1_9.index t 0 * 1 + 1 * (y 0).val; omega
      | ⟨1, _⟩ => show t.val % 8 * 256 + (y 1).val = win1_9.index t 1 * 256 + 1 * (y 1).val; omega
      | ⟨2, _⟩ => show (y 2).val = win1_9.index t 2 * 2304 + 1 * (y 2).val; omega
  · have i0 : (i 0).val < 16 := (i 0).isLt
    have i1 : (i 1).val < 2048 := (i 1).isLt
    have i2 : (i 2).val < 2304 := (i 2).isLt
    obtain ⟨t, ht⟩ : ∃ t : Fin cfg1.N, t.val = (i 0).val * 8 + (i 1).val / 256 := ⟨⟨(i 0).val * 8 + (i 1).val / 256, lt_of_lt_of_eq (by omega) (show 128 = cfg1.N from N_1.symm)⟩, rfl⟩
    have h0 : win1_9.index t 0 = t.val / 8 := congrFun (idx1_9 t) 0
    have h1 : win1_9.index t 1 = t.val % 8 := congrFun (idx1_9 t) 1
    have h2 : win1_9.index t 2 = 0 := congrFun (idx1_9 t) 2
    refine ⟨t, flush1_9 t, ?_⟩
    show i ∈ ((View.whole (Pipeline.arrRef spec1 9)).slice (win1_9.rect t)).set
    rw [View.set_slice_whole, Rect.mem_set_unit]
    intro a
    match a with
    | ⟨0, _⟩ => show win1_9.index t 0 * 1 ≤ (i 0).val ∧ (i 0).val < win1_9.index t 0 * 1 + 1; omega
    | ⟨1, _⟩ => show win1_9.index t 1 * 256 ≤ (i 1).val ∧ (i 1).val < win1_9.index t 1 * 256 + 256; omega
    | ⟨2, _⟩ => show win1_9.index t 2 * 2304 ≤ (i 2).val ∧ (i 2).val < win1_9.index t 2 * 2304 + 2304; omega

/-- Output 10 ends holding `G` when every point that writes it back leaves its block of `G`. -/
theorem arr1_10 (c : Dev nD) (G : Arr3 16 2048 2304)
    (h : ∀ t : Fin cfg1.N, (cfg1.win 10).flush t = true → ∀ (r : Fin 256) (l : Fin 2304),
      ((dat1 V c).after 10 t : Vec Ideal S1x256x2304 .bf16) (ix3 0 r l)
        = G (ix3 ⟨t.val / 8, by have := lt1 t; omega⟩ ⟨t.val % 8 * 256 + r.val, by have := lt1 t; have := r.isLt; omega⟩ l)) :
    (dat1 V c).arrAt 10 cfg1.N = G := by
  refine (dat1 V c).arrAt_eq_of_cover 10 G (fun t hf => funext fun y => ?_) (fun i => ?_)
  · have h0 : win1_10.index t 0 = t.val / 8 := congrFun (idx1_10 t) 0
    have h1 : win1_10.index t 1 = t.val % 8 := congrFun (idx1_10 t) 1
    have h2 : win1_10.index t 2 = 0 := congrFun (idx1_10 t) 2
    have y0 : (y 0).val < 1 := (y 0).isLt
    have y1 : (y 1).val < 256 := (y 1).isLt
    have y2 : (y 2).val < 2304 := (y 2).isLt
    refine Eq.trans ?_ ((h t hf ⟨(y 1).val, y1⟩ ⟨(y 2).val, y2⟩).trans ?_)
    · refine congrArg ((dat1 V c).after 10 t : Vec Ideal S1x256x2304 .bf16) (funext fun a => Fin.ext ?_)
      match a with
      | ⟨0, _⟩ => show (y 0).val = 0; omega
      | ⟨1, _⟩ => show (y 1).val = (y 1).val; omega
      | ⟨2, _⟩ => show (y 2).val = (y 2).val; omega
    · refine congrArg G (funext fun a => Fin.ext ?_)
      match a with
      | ⟨0, _⟩ => show t.val / 8 = win1_10.index t 0 * 1 + 1 * (y 0).val; omega
      | ⟨1, _⟩ => show t.val % 8 * 256 + (y 1).val = win1_10.index t 1 * 256 + 1 * (y 1).val; omega
      | ⟨2, _⟩ => show (y 2).val = win1_10.index t 2 * 2304 + 1 * (y 2).val; omega
  · have i0 : (i 0).val < 16 := (i 0).isLt
    have i1 : (i 1).val < 2048 := (i 1).isLt
    have i2 : (i 2).val < 2304 := (i 2).isLt
    obtain ⟨t, ht⟩ : ∃ t : Fin cfg1.N, t.val = (i 0).val * 8 + (i 1).val / 256 := ⟨⟨(i 0).val * 8 + (i 1).val / 256, lt_of_lt_of_eq (by omega) (show 128 = cfg1.N from N_1.symm)⟩, rfl⟩
    have h0 : win1_10.index t 0 = t.val / 8 := congrFun (idx1_10 t) 0
    have h1 : win1_10.index t 1 = t.val % 8 := congrFun (idx1_10 t) 1
    have h2 : win1_10.index t 2 = 0 := congrFun (idx1_10 t) 2
    refine ⟨t, flush1_10 t, ?_⟩
    show i ∈ ((View.whole (Pipeline.arrRef spec1 10)).slice (win1_10.rect t)).set
    rw [View.set_slice_whole, Rect.mem_set_unit]
    intro a
    match a with
    | ⟨0, _⟩ => show win1_10.index t 0 * 1 ≤ (i 0).val ∧ (i 0).val < win1_10.index t 0 * 1 + 1; omega
    | ⟨1, _⟩ => show win1_10.index t 1 * 256 ≤ (i 1).val ∧ (i 1).val < win1_10.index t 1 * 256 + 256; omega
    | ⟨2, _⟩ => show win1_10.index t 2 * 2304 ≤ (i 2).val ∧ (i 2).val < win1_10.index t 2 * 2304 + 2304; omega

end

end Cert.KernelIdeal.Whole

end
-- ==== Proof.V.R1.lean ====
/- The second call (`grads`): the gradient of the logits, the dispatch weights and the scaled combine weights. -/
module

public import proofs.«01_k».proof.Proof.V.W1

@[expose] public section

noncomputable section

namespace Cert.KernelIdeal.Whole

open Idealize Idealize.ShloMosaic Idealize.ShloMosaic.TcCoe
open Cert.KernelIdeal Cert.KernelIdeal.Gen Cert.Spec

theorem k1_pay7_apply (x0 : Vec Ideal S1x256x2304 .f32) (r : Fin 256) (l : Fin 2304) :
    k1_pay7 x0 (ix2 r l) = soft (fun k => x0 (ix3 0 r k)) l := by
  rw [← soft_eq]
  unfold ve vz ve vmax
  pointwise [k1_pay7, k1_pay6]
  rfl

theorem k1_pay8_apply (x0 : Vec Ideal S1x256x2304 .f32) (x4 x5 : Vec Ideal S1x1x2304 .f32) (r : Fin 256) (l : Fin 2304) :
    k1_pay8 x0 x4 x5 (ix2 r l) = Ideal.exp (x0 (ix3 0 r l) - x4 (ix3 0 0 l)) * x5 (ix3 0 0 l) := by
  pointwise [k1_pay8, k1_pay6]

theorem k1_pay9_apply (x0 x1 : Vec Ideal S1x256x2304 .f32) (r : Fin 256) (l : Fin 2304) :
    k1_pay9 x0 x1 (ix2 r l) = soft (fun k => x0 (ix3 0 r k)) l * (x1 (ix3 0 r l) - ∑ k, soft (fun k => x0 (ix3 0 r k)) k * x1 (ix3 0 r k)) := by
  pointwise [k1_pay9]
  simp only [k1_pay7_apply]

theorem k1_pay10_apply (x2 : Vec Ideal S1x256x2304 .f32) (x6 : Vec Ideal S1x1x2304 .f32) (r : Fin 256) (l : Fin 2304) :
    k1_pay10 x2 x6 (ix2 r l) = x2 (ix3 0 r l) - x6 (ix3 0 0 l) := by
  pointwise [k1_pay10]

theorem k1_pay2_apply (a b d : FVec Ideal S256x2304 .f32) (u : Fin 1) (r : Fin 256) (l : Fin 2304) :
    k1_pay2 a b d (ix3 u r l) = b (ix2 r l) + a (ix2 r l) * d (ix2 r l) := by
  pointwise [k1_pay2, k1_pay1]

theorem k1_pay3_apply (a b d : FVec Ideal S256x2304 .f32) (u : Fin 1) (r : Fin 256) (l : Fin 2304) :
    k1_pay3 a b d (ix3 u r l) = b (ix2 r l) + a (ix2 r l) * d (ix2 r l) := by
  pointwise [k1_pay3, k1_pay1]

theorem k1_pay4_apply (a : FVec Ideal S256x2304 .f32) (u : Fin 1) (r : Fin 256) (l : Fin 2304) : k1_pay4 a (ix3 u r l) = a (ix2 r l) := by
  pointwise [k1_pay4]

theorem k1_pay5_apply (a : FVec Ideal S256x2304 .f32) (x3 : Vec Ideal S1x1x256 .f32) (u : Fin 1) (r : Fin 256) (l : Fin 2304) :
    k1_pay5 a x3 (ix3 u r l) = a (ix2 r l) * x3 (ix3 0 0 r) := by
  pointwise [k1_pay5]

theorem out1_7_apply (x0 x1 x2 : Vec Ideal S1x256x2304 .f32) (x3 : Vec Ideal S1x1x256 .f32) (x4 x5 x6 : Vec Ideal S1x1x2304 .f32) (u : Fin 1) (r : Fin 256) (l : Fin 2304) :
    out1_7 x0 x1 x2 x3 x4 x5 x6 (ix3 u r l)
      = soft (fun k => x0 (ix3 0 r k)) l * (x1 (ix3 0 r l) - ∑ k, soft (fun k => x0 (ix3 0 r k)) k * x1 (ix3 0 r k))
        + (Ideal.exp (x0 (ix3 0 r l) - x4 (ix3 0 0 l)) * x5 (ix3 0 0 l)) * (x2 (ix3 0 r l) - x6 (ix3 0 0 l)) := by
  unfold out1_7 k1_pay11 k1_pay12 k1_pay13
  rw [View.canon_cons_unit_lit _ _ _ (by decide), k1_pay2_apply, k1_pay8_apply, k1_pay9_apply, k1_pay10_apply]
  rw [View.ld_unit_lit _ _ (by decide), View.ld_unit_lit _ _ (by decide), View.ld_unit_lit _ _ (by decide), View.ld_unit_lit _ _ (by decide), View.ld_unit_lit _ _ (by decide), View.ld_unit_lit _ _ (by decide)]

theorem out1_8_apply (x0 x1 x2 : Vec Ideal S1x256x2304 .f32) (x3 : Vec Ideal S1x1x256 .f32) (x4 x5 x6 : Vec Ideal S1x1x2304 .f32) (u : Fin 1) (r : Fin 256) (l : Fin 2304) :
    out1_8 x0 x1 x2 x3 x4 x5 x6 (ix3 u r l)
      = soft (fun k => x0 (ix3 0 r k)) l * (x1 (ix3 0 r l) - ∑ k, soft (fun k => x0 (ix3 0 r k)) k * x1 (ix3 0 r k))
        + (Ideal.exp (x0 (ix3 0 r l) - x4 (ix3 0 0 l)) * x5 (ix3 0 0 l)) * (x2 (ix3 0 r l) - x6 (ix3 0 0 l)) := by
  unfold out1_8 k1_pay11 k1_pay12 k1_pay13
  rw [View.canon_cons_unit_lit _ _ _ (by decide), k1_pay3_apply, k1_pay8_apply, k1_pay9_apply, k1_pay10_apply]
  rw [View.ld_unit_lit _ _ (by decide), View.ld_unit_lit _ _ (by decide), View.ld_unit_lit _ _ (by decide), View.ld_unit_lit _ _ (by decide), View.ld_unit_lit _ _ (by decide), View.ld_unit_lit _ _ (by decide)]

theorem out1_9_apply (x0 x1 x2 : Vec Ideal S1x256x2304 .f32) (x3 : Vec Ideal S1x1x256 .f32) (x4 x5 x6 : Vec Ideal S1x1x2304 .f32) (u : Fin 1) (r : Fin 256) (l : Fin 2304) :
    out1_9 x0 x1 x2 x3 x4 x5 x6 (ix3 u r l) = (Ideal.exp (x0 (ix3 0 r l) - x4 (ix3 0 0 l)) * x5 (ix3 0 0 l)) := by
  unfold out1_9 k1_pay11
  rw [View.canon_cons_unit_lit _ _ _ (by decide), k1_pay4_apply, k1_pay8_apply]
  rw [View.ld_unit_lit _ _ (by decide), View.ld_unit_lit _ _ (by decide), View.ld_unit_lit _ _ (by decide)]

theorem out1_10_apply (x0 x1 x2 : Vec Ideal S1x256x2304 .f32) (x3 : Vec Ideal S1x1x256 .f32) (x4 x5 x6 : Vec Ideal S1x1x2304 .f32) (u : Fin 1) (r : Fin 256) (l : Fin 2304) :
    out1_10 x0 x1 x2 x3 x4 x5 x6 (ix3 u r l) = soft (fun k => x0 (ix3 0 r k)) l * x3 (ix3 0 0 r) := by
  unfold out1_10
  rw [View.canon_cons_unit_lit _ _ _ (by decide), k1_pay5_apply, k1_pay7_apply]
  rw [View.ld_unit_lit _ _ (by decide), View.ld_unit_lit _ _ (by decide)]

/-- What the call reads: the logits, the gradients of both weights, the scale of the output gradient, and the column
    statistics of the dispatch softmax. -/
structure In1 (V : (c : Dev nD) → (b : Ref sig .tc) → Buf (Elt Ideal) ((c : Thread nD τ).loc b)) (c : Dev nD) (A : Args) : Prop where
  l : (V c main_v4_0 : Arr3 16 2048 2304) = arr3 (lg A)
  dc : (V c main_v4_1 : Arr3 16 2048 2304) = arr3 (dc A)
  dd : (V c main_v4_2 : Arr3 16 2048 2304) = arr3 (dd A)
  dys : (V c main_v1 : Arr3 16 1 2048) = arr3 fun b _ t => A.dys (ix2 b t)
  m : (V c main_v4_3 : Arr3 16 1 2304) = arr3 fun b _ s => vmax fun t => lg A b t s
  iz : (V c main_v4_4 : Arr3 16 1 2304) = arr3 fun b _ s => Ideal.div 1 (vz fun t => lg A b t s)
  q : (V c main_v4_5 : Arr3 16 1 2304) = arr3 fun b _ s => q A b s

/-- The dispatch weight is the exponential over the column's sum. -/
theorem disp_eq (A : Args) (b : Fin 16) (t : Fin 2048) (s : Fin 2304) :
    Ideal.exp (lg A b t s - vmax fun t => lg A b t s) * Ideal.div 1 (vz fun t => lg A b t s) = disp A b t s :=
  soft_eq (fun t => lg A b t s) t

section
variable (V : (c : Dev nD) → (b : Ref sig .tc) → Buf (Elt Ideal) ((c : Thread nD τ).loc b)) (c : Dev nD) (A : Args)
  (h : In1 V c A)
include h

theorem value1_7 : (dat1 V c).arrAt 7 cfg1.N = arr3 (dl A) := by
  refine arr1_7 V c _ fun t _ r l => ?_
  rw [after1_7, out1_7_apply]
  simp only [iblk1_0_apply, iblk1_1_apply, iblk1_2_apply, iblk1_4_apply, iblk1_5_apply, iblk1_6_apply, h.l, h.dc, h.dd, h.m, h.iz, h.q, arr3_apply, disp_eq]
  rfl

theorem value1_8 : (dat1 V c).arrAt 8 cfg1.N = arr3 (dl A) := by
  refine arr1_8 V c _ fun t _ r l => ?_
  rw [after1_8, out1_8_apply]
  simp only [iblk1_0_apply, iblk1_1_apply, iblk1_2_apply, iblk1_4_apply, iblk1_5_apply, iblk1_6_apply, h.l, h.dc, h.dd, h.m, h.iz, h.q, arr3_apply, disp_eq]
  rfl

theorem value1_9 : (dat1 V c).arrAt 9 cfg1.N = arr3 (disp A) := by
  refine arr1_9 V c _ fun t _ r l => ?_
  rw [after1_9, out1_9_apply]
  simp only [iblk1_0_apply, iblk1_4_apply, iblk1_5_apply, h.l, h.m, h.iz, arr3_apply, disp_eq]

theorem value1_10 : (dat1 V c).arrAt 10 cfg1.N = arr3 (cdy A) := by
  refine arr1_10 V c _ fun t _ r l => ?_
  rw [after1_10, out1_10_apply]
  simp only [iblk1_0_apply, iblk1_3_apply, h.l, h.dys, arr3_apply]
  rfl

end

end Cert.KernelIdeal.Whole

end
-- ==== Proof.V.W2.lean ====
/- The windows of the third call (`dx`): what a staged block holds of its array, and what the output arrays end
   holding when each point leaves its block of them. -/
module

public import proofs.«01_k».proof.Proof.V.Spec
public import proofs.«01_k».proof.Proof.KI.Region2
public import Idealize.ShloMosaic.Lib.Pipeline.Value
public import Idealize.ShloMosaic.Lib.Pipeline.ValueKit

@[expose] public section

noncomputable section

namespace Cert.KernelIdeal.Whole

open Idealize Idealize.ShloMosaic Idealize.ShloMosaic.TcCoe
open Cert.KernelIdeal Cert.KernelIdeal.Gen Cert.Spec

theorem lt2 (t : Fin cfg2.N) : t.val < 128 := lt_of_lt_of_eq t.isLt (show cfg2.N = 128 from N_2)

/-- The index maps over the grid. -/
theorem idx2_0 : ∀ t : Fin cfg2.N, win2_0.index t = ![t.val / 8, t.val % 4, 0] :=
  (by decide +kernel : ∀ t : Fin grid2.N, _)
theorem idx2_1 : ∀ t : Fin cfg2.N, win2_1.index t = ![t.val / 8, t.val % 4, 0] :=
  (by decide +kernel : ∀ t : Fin grid2.N, _)
theorem idx2_2 : ∀ t : Fin cfg2.N, win2_2.index t = ![t.val / 8, 0, t.val / 4 % 2] :=
  (by decide +kernel : ∀ t : Fin grid2.N, _)
theorem idx2_3 : ∀ t : Fin cfg2.N, win2_3.index t = ![t.val / 4 % 2, 0] :=
  (by decide +kernel : ∀ t : Fin grid2.N, _)
theorem idx2_4 : ∀ t : Fin cfg2.N, win2_4.index t = ![0, 0] :=
  (by decide +kernel : ∀ t : Fin grid2.N, _)
theorem idx2_5 : ∀ t : Fin cfg2.N, win2_5.index t = ![t.val / 8, t.val % 4, t.val / 4 % 2] :=
  (by decide +kernel : ∀ t : Fin grid2.N, _)

section
variable (V : (c : Dev nD) → (b : Ref sig .tc) → Buf (Elt Ideal) ((c : Thread nD τ).loc b))

theorem iblk2_0_apply (c : Dev nD) (t : Fin cfg2.N) (r : Fin 512) (l : Fin 2304) :
    (iblk2 V c 0 t : Vec Ideal S1x512x2304 .bf16) (ix3 0 r l)
      = (V c main_v5_2 : Arr3 16 2048 2304) (ix3 ⟨t.val / 8, by have := lt2 t; omega⟩ ⟨t.val % 4 * 512 + r.val, by have := lt2 t; have := r.isLt; omega⟩ l) := by
  have h0 : win2_0.index t 0 = t.val / 8 := congrFun (idx2_0 t) 0
  have h1 : win2_0.index t 1 = t.val % 4 := congrFun (idx2_0 t) 1
  have h2 : win2_0.index t 2 = 0 := congrFun (idx2_0 t) 2
  refine congrArg (V c main_v5_2 : Arr3 16 2048 2304) (funext fun a => Fin.ext ?_)
  match a with
  | ⟨0, _⟩ => show win2_0.index t 0 * 1 + 1 * 0 = t.val / 8; omega
  | ⟨1, _⟩ => show win2_0.index t 1 * 512 + 1 * r.val = t.val % 4 * 512 + r.val; omega
  | ⟨2, _⟩ => show win2_0.index t 2 * 2304 + 1 * l.val = l.val; omega

theorem iblk2_1_apply (c : Dev nD) (t : Fin cfg2.N) (r : Fin 512) (l : Fin 2304) :
    (iblk2 V c 1 t : Vec Ideal S1x512x2304 .bf16) (ix3 0 r l)
      = (V c main_v5_1 : Arr3 16 2048 2304) (ix3 ⟨t.val / 8, by have := lt2 t; omega⟩ ⟨t.val % 4 * 512 + r.val, by have := lt2 t; have := r.isLt; omega⟩ l) := by
  have h0 : win2_1.index t 0 = t.val / 8 := congrFun (idx2_1 t) 0
  have h1 : win2_1.index t 1 = t.val % 4 := congrFun (idx2_1 t) 1
  have h2 : win2_1.index t 2 = 0 := congrFun (idx2_1 t) 2
  refine congrArg (V c main_v5_1 : Arr3 16 2048 2304) (funext fun a => Fin.ext ?_)
  match a with
  | ⟨0, _⟩ => show win2_1.index t 0 * 1 + 1 * 0 = t.val / 8; omega
  | ⟨1, _⟩ => show win2_1.index t 1 * 512 + 1 * r.val = t.val % 4 * 512 + r.val; omega
  | ⟨2, _⟩ => show win2_1.index t 2 * 2304 + 1 * l.val = l.val; omega

theorem iblk2_2_apply (c : Dev nD) (t : Fin cfg2.N) (r : Fin 2304) (l : Fin 1280) :
    (iblk2 V c 2 t : Vec Ideal S1x2304x1280 .bf16) (ix3 0 r l)
      = (V c main_arg8 : Arr3 16 2304 2560) (ix3 ⟨t.val / 8, by have := lt2 t; omega⟩ r ⟨t.val / 4 % 2 * 1280 + l.val, by have := lt2 t; have := l.isLt; omega⟩) := by
  have h0 : win2_2.index t 0 = t.val / 8 := congrFun (idx2_2 t) 0
  have h1 : win2_2.index t 1 = 0 := congrFun (idx2_2 t) 1
  have h2 : win2_2.index t 2 = t.val / 4 % 2 := congrFun (idx2_2 t) 2
  refine congrArg (V c main_arg8 : Arr3 16 2304 2560) (funext fun a => Fin.ext ?_)
  match a with
  | ⟨0, _⟩ => show win2_2.index t 0 * 1 + 1 * 0 = t.val / 8; omega
  | ⟨1, _⟩ => show win2_2.index t 1 * 2304 + 1 * r.val = r.val; omega
  | ⟨2, _⟩ => show win2_2.index t 2 * 1280 + 1 * l.val = t.val / 4 % 2 * 1280 + l.val; omega

theorem iblk2_3_apply (c : Dev nD) (t : Fin cfg2.N) (p : Fin 1280) (r : Fin 2304) :
    (iblk2 V c 3 t : Vec Ideal S1280x2304 .fp8e4m3) (ix2 p r)
      = (V c main_arg2 : Arr2 2560 2304) (ix2 ⟨t.val / 4 % 2 * 1280 + p.val, by have := lt2 t; have := p.isLt; omega⟩ r) := by
  have h0 : win2_3.index t 0 = t.val / 4 % 2 := congrFun (idx2_3 t) 0
  have h1 : win2_3.index t 1 = 0 := congrFun (idx2_3 t) 1
  refine congrArg (V c main_arg2 : Arr2 2560 2304) (funext fun a => Fin.ext ?_)
  match a with
  | ⟨0, _⟩ => show win2_3.index t 0 * 1280 + 1 * p.val = t.val / 4 % 2 * 1280 + p.val; omega
  | ⟨1, _⟩ => show win2_3.index t 1 * 2304 + 1 * r.val = r.val; omega

theorem iblk2_4_apply (c : Dev nD) (t : Fin cfg2.N) (r : Fin 2304) :
    (iblk2 V c 4 t : Vec Ideal S1x2304 .f32) (ix2 0 r)
      = (V c main_v3 : Arr2 1 2304) (ix2 0 r) := by
  have h0 : win2_4.index t 0 = 0 := congrFun (idx2_4 t) 0
  have h1 : win2_4.index t 1 = 0 := congrFun (idx2_4 t) 1
  refine congrArg (V c main_v3 : Arr2 1 2304) (funext fun a => Fin.ext ?_)
  match a with
  | ⟨0, _⟩ => show win2_4.index t 0 * 1 + 1 * 0 = 0; omega
  | ⟨1, _⟩ => show win2_4.index t 1 * 2304 + 1 * r.val = r.val; omega

/-- Output 5 ends holding `G` when every point that writes it back leaves its block of `G`. -/
theorem arr2_5 (c : Dev nD) (G : Arr3 16 2048 2560)
    (h : ∀ t : Fin cfg2.N, (cfg2.win 5).flush t = true → ∀ (r : Fin 512) (l : Fin 1280),
      ((dat2 V c).after 5 t : Vec Ideal S1x512x1280 .bf16) (ix3 0 r l)
        = G (ix3 ⟨t.val / 8, by have := lt2 t; omega⟩ ⟨t.val % 4 * 512 + r.val, by have := lt2 t; have := r.isLt; omega⟩ ⟨t.val / 4 % 2 * 1280 + l.val, by have := lt2 t; have := l.isLt; omega⟩)) :
    (dat2 V c).arrAt 5 cfg2.N = G := by
  refine (dat2 V c).arrAt_eq_of_cover 5 G (fun t hf => funext fun y => ?_) (fun i => ?_)
  · have h0 : win2_5.index t 0 = t.val / 8 := congrFun (idx2_5 t) 0
    have h1 : win2_5.index t 1 = t.val % 4 := congrFun (idx2_5 t) 1
    have h2 : win2_5.index t 2 = t.val / 4 % 2 := congrFun (idx2_5 t) 2
    have y0 : (y 0).val < 1 := (y 0).isLt
    have y1 : (y 1).val < 512 := (y 1).isLt
    have y2 : (y 2).val < 1280 := (y 2).isLt
    refine Eq.trans ?_ ((h t hf ⟨(y 1).val, y1⟩ ⟨(y 2).val, y2⟩).trans ?_)
    · refine congrArg ((dat2 V c).after 5 t : Vec Ideal S1x512x1280 .bf16) (funext fun a => Fin.ext ?_)
      match a with
      | ⟨0, _⟩ => show (y 0).val = 0; omega
      | ⟨1, _⟩ => show (y 1).val = (y 1).val; omega
      | ⟨2, _⟩ => show (y 2).val = (y 2).val; omega
    · refine congrArg G (funext fun a => Fin.ext ?_)
      match a with
      | ⟨0, _⟩ => show t.val / 8 = win2_5.index t 0 * 1 + 1 * (y 0).val; omega
      | ⟨1, _⟩ => show t.val % 4 * 512 + (y 1).val = win2_5.index t 1 * 512 + 1 * (y 1).val; omega
      | ⟨2, _⟩ => show t.val / 4 % 2 * 1280 + (y 2).val = win2_5.index t 2 * 1280 + 1 * (y 2).val; omega
  · have i0 : (i 0).val < 16 := (i 0).isLt
    have i1 : (i 1).val < 2048 := (i 1).isLt
    have i2 : (i 2).val < 2560 := (i 2).isLt
    obtain ⟨t, ht⟩ : ∃ t : Fin cfg2.N, t.val = (i 0).val * 8 + (i 2).val / 1280 * 4 + (i 1).val / 512 := ⟨⟨(i 0).val * 8 + (i 2).val / 1280 * 4 + (i 1).val / 512, lt_of_lt_of_eq (by omega) (show 128 = cfg2.N from N_2.symm)⟩, rfl⟩
    have h0 : win2_5.index t 0 = t.val / 8 := congrFun (idx2_5 t) 0
    have h1 : win2_5.index t 1 = t.val % 4 := congrFun (idx2_5 t) 1
    have h2 : win2_5.index t 2 = t.val / 4 % 2 := congrFun (idx2_5 t) 2
    refine ⟨t, flush2_5 t, ?_⟩
    show i ∈ ((View.whole (Pipeline.arrRef spec2 5)).slice (win2_5.rect t)).set
    rw [View.set_slice_whole, Rect.mem_set_unit]
    intro a
    match a with
    | ⟨0, _⟩ => show win2_5.index t 0 * 1 ≤ (i 0).val ∧ (i 0).val < win2_5.index t 0 * 1 + 1; omega
    | ⟨1, _⟩ => show win2_5.index t 1 * 512 ≤ (i 1).val ∧ (i 1).val < win2_5.index t 1 * 512 + 512; omega
    | ⟨2, _⟩ => show win2_5.index t 2 * 1280 ≤ (i 2).val ∧ (i 2).val < win2_5.index t 2 * 1280 + 1280; omega

end

end Cert.KernelIdeal.Whole

end
-- ==== Proof.V.R2.lean ====
/- The third call (`dx`): from the dispatch weights and the gradient of the logits it leaves the gradient of the tokens. -/
module

public import proofs.«01_k».proof.Proof.V.W2

@[expose] public section

noncomputable section

namespace Cert.KernelIdeal.Whole

open Idealize Idealize.ShloMosaic Idealize.ShloMosaic.TcCoe
open Cert.KernelIdeal Cert.KernelIdeal.Gen Cert.Spec

/-- The body's payload, element by element. -/
theorem k2_pay1_apply (x3 : Vec Ideal S1280x2304 .fp8e4m3) (x4 : Vec Ideal S1x2304 .f32) (x0 : Vec Ideal S1x512x2304 .bf16)
    (x2 : Vec Ideal S1x2304x1280 .bf16) (x1 : Vec Ideal S1x512x2304 .bf16) (u : Fin 1) (r : Fin 512) (l : Fin 1280) :
    k2_pay1 x3 x4 x0 x2 x1 (ix3 u r l)
      = (∑ k : Fin 2304, x0 (ix3 0 r k) * x2 (ix3 0 k l)) + ∑ k : Fin 2304, x1 (ix3 0 r k) * (x3 (ix2 l k) * x4 (ix2 0 k)) := by
  pointwise [k2_pay1]

theorem out2_5_apply (x0 : Vec Ideal S1x512x2304 .bf16) (x1 : Vec Ideal S1x512x2304 .bf16) (x2 : Vec Ideal S1x2304x1280 .bf16)
    (x3 : Vec Ideal S1280x2304 .fp8e4m3) (x4 : Vec Ideal S1x2304 .f32) (u : Fin 1) (r : Fin 512) (l : Fin 1280) :
    out2_5 x0 x1 x2 x3 x4 (ix3 u r l)
      = (∑ k : Fin 2304, x0 (ix3 0 r k) * x2 (ix3 0 k l)) + ∑ k : Fin 2304, x1 (ix3 0 r k) * (x3 (ix2 l k) * x4 (ix2 0 k)) := by
  unfold out2_5
  rw [View.canon_cons_unit_lit _ _ _ (by decide)]
  rw [k2_pay1_apply]
  rw [View.ld_unit_lit _ _ (by decide), View.ld_unit_lit _ _ (by decide), View.ld_unit_lit _ _ (by decide), View.ld_unit_lit _ _ (by decide), View.ld_unit_lit _ _ (by decide)]

/-- The call leaves the gradient of the tokens. -/
theorem value2 (V : (c : Dev nD) → (b : Ref sig .tc) → Buf (Elt Ideal) ((c : Thread nD τ).loc b)) (c : Dev nD) (A : Args)
    (hdisp : (V c main_v5_2 : Arr3 16 2048 2304) = arr3 (disp A)) (hdl : (V c main_v5_1 : Arr3 16 2048 2304) = arr3 (dl A))
    (hds : (V c main_arg8 : Arr3 16 2304 2560) = A.ds) (hph : (V c main_arg2 : Arr2 2560 2304) = A.ph)
    (hps : (V c main_v3 : Arr2 1 2304) = arr2 fun _ s => A.ps (ix1 s)) :
    (dat2 V c).arrAt 5 cfg2.N = arr3 (dx A) := by
  refine arr2_5 V c _ fun t _ r l => ?_
  rw [after2_5, out2_5_apply]
  simp only [iblk2_0_apply, iblk2_1_apply, iblk2_2_apply, iblk2_3_apply, iblk2_4_apply, hdisp, hdl, hds, hph, hps, arr3_apply, arr2_apply]
  rfl

end Cert.KernelIdeal.Whole

end
-- ==== Proof.V.W3.lean ====
/- The windows of the fourth call (`dslot`): what a staged block holds of its array, and what the output arrays end
   holding when each point leaves its block of them. -/
module

public import proofs.«01_k».proof.Proof.V.Spec
public import proofs.«01_k».proof.Proof.KI.Region3
public import Idealize.ShloMosaic.Lib.Pipeline.Value
public import Idealize.ShloMosaic.Lib.Pipeline.ValueKit

@[expose] public section

noncomputable section

namespace Cert.KernelIdeal.Whole

open Idealize Idealize.ShloMosaic Idealize.ShloMosaic.TcCoe
open Cert.KernelIdeal Cert.KernelIdeal.Gen Cert.Spec

theorem lt3 (t : Fin cfg3.N) : t.val < 48 := lt_of_lt_of_eq t.isLt (show cfg3.N = 48 from N_3)

/-- The index maps over the grid. -/
theorem idx3_0 : ∀ t : Fin cfg3.N, win3_0.index t = ![t.val / 3, 0, t.val % 3] :=
  (by decide +kernel : ∀ t : Fin grid3.N, _)
theorem idx3_1 : ∀ t : Fin cfg3.N, win3_1.index t = ![t.val / 3, 0, 0] :=
  (by decide +kernel : ∀ t : Fin grid3.N, _)
theorem idx3_2 : ∀ t : Fin cfg3.N, win3_2.index t = ![t.val / 3, t.val % 3, 0] :=
  (by decide +kernel : ∀ t : Fin grid3.N, _)

section
variable (V : (c : Dev nD) → (b : Ref sig .tc) → Buf (Elt Ideal) ((c : Thread nD τ).loc b))

theorem iblk3_0_apply (c : Dev nD) (t : Fin cfg3.N) (r : Fin 2048) (l : Fin 768) :
    (iblk3 V c 0 t : Vec Ideal S1x2048x768 .bf16) (ix3 0 r l)
      = (V c main_v5_3 : Arr3 16 2048 2304) (ix3 ⟨t.val / 3, by have := lt3 t; omega⟩ r ⟨t.val % 3 * 768 + l.val, by have := lt3 t; have := l.isLt; omega⟩) := by
  have h0 : win3_0.index t 0 = t.val / 3 := congrFun (idx3_0 t) 0
  have h1 : win3_0.index t 1 = 0 := congrFun (idx3_0 t) 1
  have h2 : win3_0.index t 2 = t.val % 3 := congrFun (idx3_0 t) 2
  refine congrArg (V c main_v5_3 : Arr3 16 2048 2304) (funext fun a => Fin.ext ?_)
  match a with
  | ⟨0, _⟩ => show win3_0.index t 0 * 1 + 1 * 0 = t.val / 3; omega
  | ⟨1, _⟩ => show win3_0.index t 1 * 2048 + 1 * r.val = r.val; omega
  | ⟨2, _⟩ => show win3_0.index t 2 * 768 + 1 * l.val = t.val % 3 * 768 + l.val; omega

theorem iblk3_1_apply (c : Dev nD) (t : Fin cfg3.N) (r : Fin 2048) (l : Fin 2560) :
    (iblk3 V c 1 t : Vec Ideal S1x2048x2560 .fp8e5m2) (ix3 0 r l)
      = (V c main_arg6 : Arr3 16 2048 2560) (ix3 ⟨t.val / 3, by have := lt3 t; omega⟩ r l) := by
  have h0 : win3_1.index t 0 = t.val / 3 := congrFun (idx3_1 t) 0
  have h1 : win3_1.index t 1 = 0 := congrFun (idx3_1 t) 1
  have h2 : win3_1.index t 2 = 0 := congrFun (idx3_1 t) 2
  refine congrArg (V c main_arg6 : Arr3 16 2048 2560) (funext fun a => Fin.ext ?_)
  match a with
  | ⟨0, _⟩ => show win3_1.index t 0 * 1 + 1 * 0 = t.val / 3; omega
  | ⟨1, _⟩ => show win3_1.index t 1 * 2048 + 1 * r.val = r.val; omega
  | ⟨2, _⟩ => show win3_1.index t 2 * 2560 + 1 * l.val = l.val; omega

/-- Output 2 ends holding `G` when every point that writes it back leaves its block of `G`. -/
theorem arr3_2 (c : Dev nD) (G : Arr3 16 2304 2560)
    (h : ∀ t : Fin cfg3.N, (cfg3.win 2).flush t = true → ∀ (r : Fin 768) (l : Fin 2560),
      ((dat3 V c).after 2 t : Vec Ideal S1x768x2560 .bf16) (ix3 0 r l)
        = G (ix3 ⟨t.val / 3, by have := lt3 t; omega⟩ ⟨t.val % 3 * 768 + r.val, by have := lt3 t; have := r.isLt; omega⟩ l)) :
    (dat3 V c).arrAt 2 cfg3.N = G := by
  refine (dat3 V c).arrAt_eq_of_cover 2 G (fun t hf => funext fun y => ?_) (fun i => ?_)
  · have h0 : win3_2.index t 0 = t.val / 3 := congrFun (idx3_2 t) 0
    have h1 : win3_2.index t 1 = t.val % 3 := congrFun (idx3_2 t) 1
    have h2 : win3_2.index t 2 = 0 := congrFun (idx3_2 t) 2
    have y0 : (y 0).val < 1 := (y 0).isLt
    have y1 : (y 1).val < 768 := (y 1).isLt
    have y2 : (y 2).val < 2560 := (y 2).isLt
    refine Eq.trans ?_ ((h t hf ⟨(y 1).val, y1⟩ ⟨(y 2).val, y2⟩).trans ?_)
    · refine congrArg ((dat3 V c).after 2 t : Vec Ideal S1x768x2560 .bf16) (funext fun a => Fin.ext ?_)
      match a with
      | ⟨0, _⟩ => show (y 0).val = 0; omega
      | ⟨1, _⟩ => show (y 1).val = (y 1).val; omega
      | ⟨2, _⟩ => show (y 2).val = (y 2).val; omega
    · refine congrArg G (funext fun a => Fin.ext ?_)
      match a with
      | ⟨0, _⟩ => show t.val / 3 = win3_2.index t 0 * 1 + 1 * (y 0).val; omega
      | ⟨1, _⟩ => show t.val % 3 * 768 + (y 1).val = win3_2.index t 1 * 768 + 1 * (y 1).val; omega
      | ⟨2, _⟩ => show (y 2).val = win3_2.index t 2 * 2560 + 1 * (y 2).val; omega
  · have i0 : (i 0).val < 16 := (i 0).isLt
    have i1 : (i 1).val < 2304 := (i 1).isLt
    have i2 : (i 2).val < 2560 := (i 2).isLt
    obtain ⟨t, ht⟩ : ∃ t : Fin cfg3.N, t.val = (i 0).val * 3 + (i 1).val / 768 := ⟨⟨(i 0).val * 3 + (i 1).val / 768, lt_of_lt_of_eq (by omega) (show 48 = cfg3.N from N_3.symm)⟩, rfl⟩
    have h0 : win3_2.index t 0 = t.val / 3 := congrFun (idx3_2 t) 0
    have h1 : win3_2.index t 1 = t.val % 3 := congrFun (idx3_2 t) 1
    have h2 : win3_2.index t 2 = 0 := congrFun (idx3_2 t) 2
    refine ⟨t, flush3_2 t, ?_⟩
    show i ∈ ((View.whole (Pipeline.arrRef spec3 2)).slice (win3_2.rect t)).set
    rw [View.set_slice_whole, Rect.mem_set_unit]
    intro a
    match a with
    | ⟨0, _⟩ => show win3_2.index t 0 * 1 ≤ (i 0).val ∧ (i 0).val < win3_2.index t 0 * 1 + 1; omega
    | ⟨1, _⟩ => show win3_2.index t 1 * 768 ≤ (i 1).val ∧ (i 1).val < win3_2.index t 1 * 768 + 768; omega
    | ⟨2, _⟩ => show win3_2.index t 2 * 2560 ≤ (i 2).val ∧ (i 2).val < win3_2.index t 2 * 2560 + 2560; omega

end

end Cert.KernelIdeal.Whole

end
-- ==== Proof.V.R3.lean ====
/- The fourth call (`dslot`): from the combine weights it leaves the gradient of the slots. -/
module

public import proofs.«01_k».proof.Proof.V.W3

@[expose] public section

noncomputable section

namespace Cert.KernelIdeal.Whole

open Idealize Idealize.ShloMosaic Idealize.ShloMosaic.TcCoe
open Cert.KernelIdeal Cert.KernelIdeal.Gen Cert.Spec

theorem k3_pay1_apply (x0 : Vec Ideal S1x2048x768 .bf16) (x1 : Vec Ideal S1x2048x2560 .fp8e5m2) (u : Fin 1) (r : Fin 768) (l : Fin 2560) :
    k3_pay1 x0 x1 (ix3 u r l) = ∑ t : Fin 2048, x0 (ix3 0 t r) * x1 (ix3 0 t l) := by
  pointwise [k3_pay1]

theorem out3_2_apply (x0 : Vec Ideal S1x2048x768 .bf16) (x1 : Vec Ideal S1x2048x2560 .fp8e5m2) (u : Fin 1) (r : Fin 768) (l : Fin 2560) :
    out3_2 x0 x1 (ix3 u r l) = ∑ t : Fin 2048, x0 (ix3 0 t r) * x1 (ix3 0 t l) := by
  unfold out3_2
  rw [View.canon_cons_unit_lit _ _ _ (by decide), k3_pay1_apply, View.ld_unit_lit _ _ (by decide), View.ld_unit_lit _ _ (by decide)]

/-- The call leaves the gradient of the slots. -/
theorem value3 (V : (c : Dev nD) → (b : Ref sig .tc) → Buf (Elt Ideal) ((c : Thread nD τ).loc b)) (c : Dev nD) (A : Args)
    (hcdy : (V c main_v5_3 : Arr3 16 2048 2304) = arr3 (cdy A)) (hdy : (V c main_arg6 : Arr3 16 2048 2560) = A.dy) :
    (dat3 V c).arrAt 2 cfg3.N = arr3 (dslot A) := by
  refine arr3_2 V c _ fun t _ r l => ?_
  rw [after3_2, out3_2_apply]
  simp only [iblk3_0_apply, iblk3_1_apply, hcdy, hdy, arr3_apply]
  rfl

end Cert.KernelIdeal.Whole

end
-- ==== Proof.V.W4.lean ====
/- The windows of the fifth call (`dphi`): what a staged block holds of its array, and what the output arrays end
   holding when each point leaves its block of them. -/
module

public import proofs.«01_k».proof.Proof.V.Spec
public import proofs.«01_k».proof.Proof.KI.Region4
public import Idealize.ShloMosaic.Lib.Pipeline.Value
public import Idealize.ShloMosaic.Lib.Pipeline.ValueKit

@[expose] public section

noncomputable section

namespace Cert.KernelIdeal.Whole

open Idealize Idealize.ShloMosaic Idealize.ShloMosaic.TcCoe
open Cert.KernelIdeal Cert.KernelIdeal.Gen Cert.Spec

theorem lt4 (t : Fin cfg4.N) : t.val < 80 := lt_of_lt_of_eq t.isLt (show cfg4.N = 80 from N_4)

/-- The index maps over the grid. -/
theorem idx4_0 : ∀ t : Fin cfg4.N, win4_0.index t = ![t.val % 16, 0, t.val / 16] :=
  (by decide +kernel : ∀ t : Fin grid4.N, _)
theorem idx4_1 : ∀ t : Fin cfg4.N, win4_1.index t = ![t.val % 16, 0, 0] :=
  (by decide +kernel : ∀ t : Fin grid4.N, _)
theorem idx4_2 : ∀ t : Fin cfg4.N, win4_2.index t = ![t.val % 16, 0, 0] :=
  (by decide +kernel : ∀ t : Fin grid4.N, _)
theorem idx4_3 : ∀ t : Fin cfg4.N, win4_3.index t = ![t.val / 16, 0] :=
  (by decide +kernel : ∀ t : Fin grid4.N, _)

section
variable (V : (c : Dev nD) → (b : Ref sig .tc) → Buf (Elt Ideal) ((c : Thread nD τ).loc b))

theorem iblk4_0_apply (c : Dev nD) (t : Fin cfg4.N) (r : Fin 2048) (l : Fin 512) :
    (iblk4 V c 0 t : Vec Ideal S1x2048x512 .fp8e4m3) (ix3 0 r l)
      = (V c main_arg0 : Arr3 16 2048 2560) (ix3 ⟨t.val % 16, by have := lt4 t; omega⟩ r ⟨t.val / 16 * 512 + l.val, by have := lt4 t; have := l.isLt; omega⟩) := by
  have h0 : win4_0.index t 0 = t.val % 16 := congrFun (idx4_0 t) 0
  have h1 : win4_0.index t 1 = 0 := congrFun (idx4_0 t) 1
  have h2 : win4_0.index t 2 = t.val / 16 := congrFun (idx4_0 t) 2
  refine congrArg (V c main_arg0 : Arr3 16 2048 2560) (funext fun a => Fin.ext ?_)
  match a with
  | ⟨0, _⟩ => show win4_0.index t 0 * 1 + 1 * 0 = t.val % 16; omega
  | ⟨1, _⟩ => show win4_0.index t 1 * 2048 + 1 * r.val = r.val; omega
  | ⟨2, _⟩ => show win4_0.index t 2 * 512 + 1 * l.val = t.val / 16 * 512 + l.val; omega

theorem iblk4_1_apply (c : Dev nD) (t : Fin cfg4.N) (l : Fin 2048) :
    (iblk4 V c 1 t : Vec Ideal S1x1x2048 .f32) (ix3 0 0 l)
      = (V c main_v0 : Arr3 16 1 2048) (ix3 ⟨t.val % 16, by have := lt4 t; omega⟩ 0 l) := by
  have h0 : win4_1.index t 0 = t.val % 16 := congrFun (idx4_1 t) 0
  have h1 : win4_1.index t 1 = 0 := congrFun (idx4_1 t) 1
  have h2 : win4_1.index t 2 = 0 := congrFun (idx4_1 t) 2
  refine congrArg (V c main_v0 : Arr3 16 1 2048) (funext fun a => Fin.ext ?_)
  match a with
  | ⟨0, _⟩ => show win4_1.index t 0 * 1 + 1 * 0 = t.val % 16; omega
  | ⟨1, _⟩ => show win4_1.index t 1 * 1 + 1 * 0 = 0; omega
  | ⟨2, _⟩ => show win4_1.index t 2 * 2048 + 1 * l.val = l.val; omega

theorem iblk4_2_apply (c : Dev nD) (t : Fin cfg4.N) (r : Fin 2048) (l : Fin 2304) :
    (iblk4 V c 2 t : Vec Ideal S1x2048x2304 .bf16) (ix3 0 r l)
      = (V c main_v5_1 : Arr3 16 2048 2304) (ix3 ⟨t.val % 16, by have := lt4 t; omega⟩ r l) := by
  have h0 : win4_2.index t 0 = t.val % 16 := congrFun (idx4_2 t) 0
  have h1 : win4_2.index t 1 = 0 := congrFun (idx4_2 t) 1
  have h2 : win4_2.index t 2 = 0 := congrFun (idx4_2 t) 2
  refine congrArg (V c main_v5_1 : Arr3 16 2048 2304) (funext fun a => Fin.ext ?_)
  match a with
  | ⟨0, _⟩ => show win4_2.index t 0 * 1 + 1 * 0 = t.val % 16; omega
  | ⟨1, _⟩ => show win4_2.index t 1 * 2048 + 1 * r.val = r.val; omega
  | ⟨2, _⟩ => show win4_2.index t 2 * 2304 + 1 * l.val = l.val; omega

/-- Output 3 ends holding `G` when every point that writes it back leaves its block of `G`. -/
theorem arr4_3 (c : Dev nD) (G : Arr2 2560 2304)
    (h : ∀ t : Fin cfg4.N, (cfg4.win 3).flush t = true → ∀ (p : Fin 512) (r : Fin 2304),
      ((dat4 V c).after 3 t : Vec Ideal S512x2304 .bf16) (ix2 p r)
        = G (ix2 ⟨t.val / 16 * 512 + p.val, by have := lt4 t; have := p.isLt; omega⟩ r)) :
    (dat4 V c).arrAt 3 cfg4.N = G := by
  refine (dat4 V c).arrAt_eq_of_cover 3 G (fun t hf => funext fun y => ?_) (fun i => ?_)
  · have h0 : win4_3.index t 0 = t.val / 16 := congrFun (idx4_3 t) 0
    have h1 : win4_3.index t 1 = 0 := congrFun (idx4_3 t) 1
    have y0 : (y 0).val < 512 := (y 0).isLt
    have y1 : (y 1).val < 2304 := (y 1).isLt
    refine Eq.trans ?_ ((h t hf ⟨(y 0).val, y0⟩ ⟨(y 1).val, y1⟩).trans ?_)
    · refine congrArg ((dat4 V c).after 3 t : Vec Ideal S512x2304 .bf16) (funext fun a => Fin.ext ?_)
      match a with
      | ⟨0, _⟩ => show (y 0).val = (y 0).val; omega
      | ⟨1, _⟩ => show (y 1).val = (y 1).val; omega
    · refine congrArg G (funext fun a => Fin.ext ?_)
      match a with
      | ⟨0, _⟩ => show t.val / 16 * 512 + (y 0).val = win4_3.index t 0 * 512 + 1 * (y 0).val; omega
      | ⟨1, _⟩ => show (y 1).val = win4_3.index t 1 * 2304 + 1 * (y 1).val; omega
  · have i0 : (i 0).val < 2560 := (i 0).isLt
    have i1 : (i 1).val < 2304 := (i 1).isLt
    obtain ⟨t, ht⟩ : ∃ t : Fin cfg4.N, t.val = (i 0).val / 512 * 16 + 15 := ⟨⟨(i 0).val / 512 * 16 + 15, lt_of_lt_of_eq (by omega) (show 80 = cfg4.N from N_4.symm)⟩, rfl⟩
    have h0 : win4_3.index t 0 = t.val / 16 := congrFun (idx4_3 t) 0
    have h1 : win4_3.index t 1 = 0 := congrFun (idx4_3 t) 1
    refine ⟨t, (flush4_3 t).mpr (by omega), ?_⟩
    show i ∈ ((View.whole (Pipeline.arrRef spec4 3)).slice (win4_3.rect t)).set
    rw [View.set_slice_whole, Rect.mem_set_unit]
    intro a
    match a with
    | ⟨0, _⟩ => show win4_3.index t 0 * 512 ≤ (i 0).val ∧ (i 0).val < win4_3.index t 0 * 512 + 512; omega
    | ⟨1, _⟩ => show win4_3.index t 1 * 2304 ≤ (i 1).val ∧ (i 1).val < win4_3.index t 1 * 2304 + 2304; omega

end

end Cert.KernelIdeal.Whole

end
-- ==== Proof.V.R4.lean ====
/- The fifth call (`dphi`): the gradient of the routing matrix, summed over the batches in a scratch buffer. -/
module

public import proofs.«01_k».proof.Proof.V.W4

@[expose] public section

noncomputable section

namespace Cert.KernelIdeal.Whole

open Idealize Idealize.ShloMosaic Idealize.ShloMosaic.TcCoe
open Cert.KernelIdeal Cert.KernelIdeal.Gen Cert.Spec

theorem k4_pay1_apply (r : Fin 512) (l : Fin 2304) : k4_pay1 (F := Ideal) (ix2 r l) = 0 := by
  pointwise [k4_pay1]

theorem k4_pay2_apply (x0 : Vec Ideal S1x2048x512 .fp8e4m3) (x1 : Vec Ideal S1x1x2048 .f32) (acc : Vec Ideal S512x2304 .f32)
    (x2 : Vec Ideal S1x2048x2304 .bf16) (r : Fin 512) (l : Fin 2304) :
    k4_pay2 x0 x1 acc x2 (ix2 r l) = acc (ix2 r l) + ∑ t : Fin 2048, (x0 (ix3 0 t r) * x1 (ix3 0 0 t)) * x2 (ix3 0 t l) := by
  pointwise [k4_pay2]

theorem k4_pay3_apply (acc : Vec Ideal S512x2304 .f32) (r : Fin 512) (l : Fin 2304) : k4_pay3 acc (ix2 r l) = acc (ix2 r l) := by
  pointwise [k4_pay3]

section
variable (c : Dev nD) (i : grid4.Coords) (arg2 : Memref sig .tc .vmem S1x2048x512 .fp8e4m3) (harg2 : arg2.IsWhole) (arg3 : Memref sig .tc .vmem S1x1x2048 .f32) (harg3 : arg3.IsWhole)
  (arg4 : Memref sig .tc .vmem S1x2048x2304 .bf16) (harg4 : arg4.IsWhole) (arg5 : Memref sig .tc .vmem S512x2304 .bf16) (harg5 : arg5.IsWhole) (arg6 : Memref sig .tc .vmem S512x2304 .f32) (harg6 : arg6.IsWhole)
  (x0 : Vec Ideal S1x2048x512 .fp8e4m3) (x1 : Vec Ideal S1x1x2048 .f32) (x2 : Vec Ideal S1x2048x2304 .bf16) (xs0 : Vec Ideal S512x2304 .f32)

/-- The first point of a row of the grid starts the sum at zero. -/
theorem sout4_A_0_eq (hc0) (hc1) : sout4_A_0 (F := Ideal) c i arg2 harg2 arg3 harg3 arg4 harg4 arg5 harg5 arg6 harg6 hc0 hc1 x0 x1 x2 = k4_pay2 x0 x1 (k4_pay1 (F := Ideal)) x2 := by
  unfold sout4_A_0
  rw [View.read_writes_junk_eq_canon]
  refine (View.canon_cons_unit_lit (S := S512x2304) _ _ _ (by decide)).trans ?_
  unfold kernelRun4_A.sl.v15 kernelRun4_A.sl.HS0_1
  rw [View.readCov_unit_lit _ _ _ (by decide), View.readAt_eq_ld, View.readAt_eq_ld, View.readAt_eq_ld, harg2.read_unread, harg3.read_unread, harg4.read_unread, View.ld_unit_lit _ _ (by decide), View.ld_unit_lit _ _ (by decide), View.ld_unit_lit _ _ (by decide)]

/-- A later point adds to it. -/
theorem sout4_B_0_eq (hc0) (hc1) : sout4_B_0 (F := Ideal) c i arg2 harg2 arg3 harg3 arg4 harg4 arg5 harg5 arg6 harg6 hc0 hc1 x0 x1 x2 xs0 = k4_pay2 x0 x1 xs0 x2 := by
  unfold sout4_B_0
  rw [View.read_writes_junk_eq_canon]
  refine (View.canon_cons_unit_lit (S := S512x2304) _ _ _ (by decide)).trans ?_
  rw [View.readAt_eq_ld, View.readAt_eq_ld, View.readAt_eq_ld, View.readAt_eq_ld, harg2.read_unread, harg3.read_unread, harg4.read_unread, harg6.read_unread, View.ld_unit_lit _ _ (by decide), View.ld_unit_lit _ _ (by decide), View.ld_unit_lit _ _ (by decide), View.ld_unit_lit _ _ (by decide)]

/-- The last point adds to it and writes it out. -/
theorem out4_C_3_eq (hc0) (hc1) : out4_C_3 (F := Ideal) c i arg2 harg2 arg3 harg3 arg4 harg4 arg5 harg5 arg6 harg6 hc0 hc1 x0 x1 x2 xs0 = k4_pay3 (k4_pay2 x0 x1 xs0 x2) := by
  unfold out4_C_3
  rw [View.read_writes_junk_eq_canon]
  refine (View.canon_cons_unit_lit (S := S512x2304) _ _ _ (by decide)).trans ?_
  unfold kernelRun4_C.sl.v26 kernelRun4_C.sl.HS0_1
  rw [View.readCov_unit_lit _ _ _ (by decide), View.readAt_eq_ld, View.readAt_eq_ld, View.readAt_eq_ld, View.readAt_eq_ld, harg2.read_unread, harg3.read_unread, harg4.read_unread, harg6.read_unread, View.ld_unit_lit _ _ (by decide), View.ld_unit_lit _ _ (by decide), View.ld_unit_lit _ _ (by decide), View.ld_unit_lit _ _ (by decide)]

end

section
variable (V : (c : Dev nD) → (b : Ref sig .tc) → Buf (Elt Ideal) ((c : Thread nD τ).loc b)) (c : Dev nD) (A : Args)
  (hx : (V c main_arg0 : Arr3 16 2048 2560) = A.x) (hxs : (V c main_v0 : Arr3 16 1 2048) = arr3 fun b _ t => A.xs (ix2 b t))
  (hdl : (V c main_v5_1 : Arr3 16 2048 2304) = arr3 (dl A))
include hx hxs hdl

/-- One batch's part at row `d`, by the number of the batch. -/
def part (A : Args) (d : Fin 2560) (l : Fin 2304) (b : ℕ) : EReal := if h : b < 16 then dphiB A d l ⟨b, h⟩ else 0

/-- What a point adds. -/
theorem step4 (t : Fin cfg4.N) (acc : Vec Ideal S512x2304 .f32) (r : Fin 512) (l : Fin 2304) (d : Fin 2560)
    (hd : d.val = t.val / 16 * 512 + r.val) :
    k4_pay2 (iblk4 V c 0 t) (iblk4 V c 1 t) acc (iblk4 V c 2 t) (ix2 r l) = acc (ix2 r l) + part A d l (t.val % 16) := by
  rw [k4_pay2_apply]
  simp only [iblk4_0_apply, iblk4_1_apply, iblk4_2_apply, hx, hxs, hdl, arr3_apply]
  rw [part, dif_pos (Nat.mod_lt _ (by decide)), dphiB]
  have e : d = ⟨t.val / 16 * 512 + r.val, hd ▸ d.isLt⟩ := Fin.ext hd
  rw [e]

/-- After a point that is not the last of its row the scratch holds the sum over the batches so far. -/
theorem acc4 : ∀ (n : ℕ) (hn : n < cfg4.N), n % 16 ≠ 15 → ∀ (r : Fin 512) (l : Fin 2304) (d : Fin 2560),
    d.val = n / 16 * 512 + r.val →
    (outsAt4 V c n hn).2 (ix2 r l) = ∑ b ∈ Finset.range (n % 16 + 1), part A d l b := by
  intro n
  induction n with
  | zero =>
    intro hn _ r l d hd
    rw [show outsAt4 V c 0 hn = _ from outsAt4_A V c ⟨0, hn⟩ rfl (by show ¬ 0 % 16 = 15; decide)]
    dsimp only
    rw [sout4_A_0_eq, step4 V c A hx hxs hdl ⟨0, hn⟩ _ r l d hd, k4_pay1_apply, zero_add]
    simp
  | succ n ih =>
    intro hn h15 r l d hd
    have hN : n + 1 < 80 := lt_of_lt_of_eq hn (show cfg4.N = 80 from N_4)
    by_cases h0 : (n + 1) % 16 = 0
    · rw [show outsAt4 V c (n + 1) hn = _ from outsAt4_A V c ⟨n + 1, hn⟩ h0 h15]
      dsimp only
      rw [sout4_A_0_eq, step4 V c A hx hxs hdl ⟨n + 1, hn⟩ _ r l d hd, k4_pay1_apply, zero_add]
      simp [h0]
    · rw [show outsAt4 V c (n + 1) hn = _ from outsAt4_B V c ⟨n + 1, hn⟩ h0 h15]
      dsimp only
      rw [sout4_B_0_eq, step4 V c A hx hxs hdl ⟨n + 1, hn⟩ _ r l d hd]
      have hm : (n + 1) % 16 = n % 16 + 1 := by omega
      rw [show (outsAt4 V c (n + 1 - 1) _).2 (ix2 r l) = _ from ih (by omega) (by omega) r l d (by omega)]
      dsimp only
      rw [hm, Finset.sum_range_succ _ (n % 16 + 1)]

/-- The call leaves the gradient of the routing matrix. -/
theorem value4 : (dat4 V c).arrAt 3 cfg4.N = arr2 (dphi A) := by
  refine arr4_3 V c _ fun t hf r l => ?_
  have h15 : t.val % 16 = 15 := by have := (flush4_3 t).mp hf; omega
  have h0 : ¬ t.val % 16 = 0 := by omega
  have hN := lt4 t
  rw [after4_3, outsAt4_C V c t h0 h15]
  dsimp only
  have hd : t.val / 16 * 512 + r.val < 2560 := by have := r.isLt; omega
  have h : k4_pay3 (F := Ideal) (k4_pay2 (iblk4 V c 0 t) (iblk4 V c 1 t) (outsAt4 V c (t.val - 1) (Nat.lt_of_le_of_lt (Nat.sub_le _ _) t.isLt)).2 (iblk4 V c 2 t)) (ix2 r l)
      = dphi A ⟨t.val / 16 * 512 + r.val, hd⟩ l := by
    rw [k4_pay3_apply, step4 V c A hx hxs hdl t _ r l ⟨_, hd⟩ rfl,
      acc4 V c A hx hxs hdl (t.val - 1) _ (by omega) r l ⟨_, hd⟩ (by show t.val / 16 * 512 + r.val = _; omega),
      show (t.val - 1) % 16 + 1 = 15 by omega, h15, ← Finset.sum_range_succ, dphi, Finset.sum_range]
    exact Finset.sum_congr rfl fun b _ => dif_pos b.isLt
  rw [out4_C_3_eq]
  exact h

end

end Cert.KernelIdeal.Whole

end
-- ==== Proof.V.Chain.lean ====
/- The five calls in a row: what each finds is what the host and the calls before it left, so the four results are
   the mathematics of `V/Spec.lean` at the arguments. -/
module

public import proofs.«01_k».proof.Proof.KI.Main
public import proofs.«01_k».proof.Proof.V.R0
public import proofs.«01_k».proof.Proof.V.R1
public import proofs.«01_k».proof.Proof.V.R2
public import proofs.«01_k».proof.Proof.V.R3
public import proofs.«01_k».proof.Proof.V.R4

@[expose] public section

noncomputable section

namespace Cert.KernelIdeal.Whole

open Idealize Idealize.ShloMosaic Idealize.ShloMosaic.TcCoe
open Cert.KernelIdeal Cert.KernelIdeal.Gen Cert.Spec

variable (m : (ℓ : Loc nD τ sig) → Buf (Elt Ideal) ℓ) (ρ : Dev nD → PrngReg) (c : Dev nD)

/-- The nine arguments of a device as launched. -/
def argsOf : Args where
  x := m ((c : Thread nD τ).loc main_arg0)
  xs := m ((c : Thread nD τ).loc main_arg1)
  ph := m ((c : Thread nD τ).loc main_arg2)
  ps := m ((c : Thread nD τ).loc main_arg3)
  ys := m ((c : Thread nD τ).loc main_arg4)
  yss := m ((c : Thread nD τ).loc main_arg5)
  dy := m ((c : Thread nD τ).loc main_arg6)
  dys := m ((c : Thread nD τ).loc main_arg7)
  ds := m ((c : Thread nD τ).loc main_arg8)

/-! ## The reshapes on the host -/

theorem V1_v0 : (V1 m ρ c main_v0 : Arr3 16 1 2048) = arr3 fun b _ t => (argsOf m c).xs (ix2 b t) := by
  have e : (V1 m ρ c main_v0 : Arr3 16 1 2048) = shapeCast S16x1x2048 (argsOf m c).xs shapeCasts_S16x2048_S16x1x2048 := by
    show W1 m ρ c (Proc.devRef .tc main_v0) = _
    unfold W1
    after_results_simp
    rfl
  rw [e]
  funext j
  suffices h : ∀ (b : Fin 16) (u : Fin 1) (t : Fin 2048), (shapeCast S16x1x2048 (argsOf m c).xs shapeCasts_S16x2048_S16x1x2048) (ix3 b u t) = (argsOf m c).xs (ix2 b t) by
    rw [eq_ix3 j]; exact h _ _ _
  intro b u t
  pointwise []
theorem V1_v1 : (V1 m ρ c main_v1 : Arr3 16 1 2048) = arr3 fun b _ t => (argsOf m c).dys (ix2 b t) := by
  have e : (V1 m ρ c main_v1 : Arr3 16 1 2048) = shapeCast S16x1x2048 (argsOf m c).dys shapeCasts_S16x2048_S16x1x2048 := by
    show W1 m ρ c (Proc.devRef .tc main_v1) = _
    unfold W1
    after_results_simp
    rfl
  rw [e]
  funext j
  suffices h : ∀ (b : Fin 16) (u : Fin 1) (t : Fin 2048), (shapeCast S16x1x2048 (argsOf m c).dys shapeCasts_S16x2048_S16x1x2048) (ix3 b u t) = (argsOf m c).dys (ix2 b t) by
    rw [eq_ix3 j]; exact h _ _ _
  intro b u t
  pointwise []
theorem V1_v2 : (V1 m ρ c main_v2 : Arr3 16 1 2304) = arr3 fun b _ t => (argsOf m c).yss (ix2 b t) := by
  have e : (V1 m ρ c main_v2 : Arr3 16 1 2304) = shapeCast S16x1x2304 (argsOf m c).yss shapeCasts_S16x2304_S16x1x2304 := by
    show W1 m ρ c (Proc.devRef .tc main_v2) = _
    unfold W1
    after_results_simp
    rfl
  rw [e]
  funext j
  suffices h : ∀ (b : Fin 16) (u : Fin 1) (t : Fin 2304), (shapeCast S16x1x2304 (argsOf m c).yss shapeCasts_S16x2304_S16x1x2304) (ix3 b u t) = (argsOf m c).yss (ix2 b t) by
    rw [eq_ix3 j]; exact h _ _ _
  intro b u t
  pointwise []
theorem V1_v3 : (V1 m ρ c main_v3 : Arr2 1 2304) = arr2 fun _ s => (argsOf m c).ps (ix1 s) := by
  have e : (V1 m ρ c main_v3 : Arr2 1 2304) = shapeCast S1x2304 (argsOf m c).ps shapeCasts_S2304_S1x2304 := by
    show W1 m ρ c (Proc.devRef .tc main_v3) = _
    unfold W1
    after_results_simp
    rfl
  rw [e]
  funext j
  suffices h : ∀ (u : Fin 1) (s : Fin 2304), (shapeCast S1x2304 (argsOf m c).ps shapeCasts_S2304_S1x2304) (ix2 u s) = (argsOf m c).ps (ix1 s) by
    rw [eq_ix2 j]; exact h _ _
  intro u s
  pointwise []

/-! ## The calls -/

theorem in0 : In0 (V1 m ρ) c (argsOf m c) where
  x := W1_args m ρ c main_arg0 (by decide)
  xs := V1_v0 m ρ c
  ph := W1_args m ρ c main_arg2 (by decide)
  ps := V1_v3 m ρ c
  dy := W1_args m ρ c main_arg6 (by decide)
  dys := V1_v1 m ρ c
  ys := W1_args m ρ c main_arg4 (by decide)
  yss := V1_v2 m ρ c
  ds := W1_args m ρ c main_arg8 (by decide)

theorem in1 : In1 (V2 m ρ) c (argsOf m c) where
  l := (W2_arr m ρ c 9).trans (value0_9 _ _ _ (in0 m ρ c))
  dc := (W2_arr m ρ c 10).trans (value0_10 _ _ _ (in0 m ρ c))
  dd := (W2_arr m ρ c 11).trans (value0_11 _ _ _ (in0 m ρ c))
  m := (W2_arr m ρ c 12).trans (value0_12 _ _ _ (in0 m ρ c))
  iz := (W2_arr m ρ c 13).trans (value0_13 _ _ _ (in0 m ρ c))
  q := (W2_arr m ρ c 14).trans (value0_14 _ _ _ (in0 m ρ c))
  dys := (W2_of m ρ c main_v1 (by decide +kernel)).trans (V1_v1 m ρ c)

theorem V3_dl : (V3 m ρ c main_v5_1 : Arr3 16 2048 2304) = arr3 (dl (argsOf m c)) :=
  (W3_arr m ρ c 8).trans (value1_8 _ _ _ (in1 m ρ c))
theorem V3_disp : (V3 m ρ c main_v5_2 : Arr3 16 2048 2304) = arr3 (disp (argsOf m c)) :=
  (W3_arr m ρ c 9).trans (value1_9 _ _ _ (in1 m ρ c))
theorem V3_cdy : (V3 m ρ c main_v5_3 : Arr3 16 2048 2304) = arr3 (cdy (argsOf m c)) :=
  (W3_arr m ρ c 10).trans (value1_10 _ _ _ (in1 m ρ c))
theorem V3_ps : (V3 m ρ c main_v3 : Arr2 1 2304) = arr2 fun _ s => (argsOf m c).ps (ix1 s) :=
  (W3_of m ρ c main_v3 (by decide +kernel)).trans ((W2_of m ρ c main_v3 (by decide +kernel)).trans (V1_v3 m ρ c))
theorem V5_xs : (V5 m ρ c main_v0 : Arr3 16 1 2048) = arr3 fun b _ t => (argsOf m c).xs (ix2 b t) :=
  (W5_of m ρ c main_v0 (by decide +kernel)).trans ((W4_of m ρ c main_v0 (by decide +kernel)).trans
    ((W3_of m ρ c main_v0 (by decide +kernel)).trans ((W2_of m ρ c main_v0 (by decide +kernel)).trans (V1_v0 m ρ c))))

/-! ## The results -/

/-- The gradient of the tokens. -/
theorem W6_dx : (W6 m ρ c (Proc.devRef .tc main_v6) : Arr3 16 2048 2560) = arr3 (dx (argsOf m c)) :=
  (W6_of m ρ c main_v6 (by decide +kernel)).trans ((W5_of m ρ c main_v6 (by decide +kernel)).trans ((W4_arr m ρ c 5).trans
    (value2 _ _ _ (V3_disp m ρ c) (V3_dl m ρ c) (W3_args m ρ c main_arg8 (by decide)) (W3_args m ρ c main_arg2 (by decide)) (V3_ps m ρ c))))
/-- The gradient of the slots. -/
theorem W6_dslot : (W6 m ρ c (Proc.devRef .tc main_v7) : Arr3 16 2304 2560) = arr3 (dslot (argsOf m c)) :=
  (W6_of m ρ c main_v7 (by decide +kernel)).trans ((W5_arr m ρ c 2).trans
    (value3 _ _ _ ((W4_of m ρ c main_v5_3 (by decide +kernel)).trans (V3_cdy m ρ c)) (W4_args m ρ c main_arg6 (by decide))))
/-- The gradient of the routing matrix. -/
theorem W6_dphi : (W6 m ρ c (Proc.devRef .tc main_v8) : Arr2 2560 2304) = arr2 (dphi (argsOf m c)) :=
  (W6_arr m ρ c 3).trans (value4 _ _ _ (W5_args m ρ c main_arg0 (by decide)) (V5_xs m ρ c)
    ((W5_of m ρ c main_v5_1 (by decide +kernel)).trans ((W4_of m ρ c main_v5_1 (by decide +kernel)).trans (V3_dl m ρ c))))
/-- The gradient of the logits. -/
theorem W6_dl : (W6 m ρ c (Proc.devRef .tc main_v5_0) : Arr3 16 2048 2304) = arr3 (dl (argsOf m c)) :=
  (W6_of m ρ c main_v5_0 (by decide +kernel)).trans ((W5_of m ρ c main_v5_0 (by decide +kernel)).trans
    ((W4_of m ρ c main_v5_0 (by decide +kernel)).trans ((W3_arr m ρ c 7).trans (value1_7 _ _ _ (in1 m ρ c)))))

/-- The kernel's run: its four results, and its arguments as they were. -/
theorem values : θ_run defs (onTc (τ := τ) main) ⟨m, fun _ => 0, ρ⟩ fun r => ∀ c : Dev nD,
    (r.2.mem ((c.tc : Thread nD τ).loc main_v6) : Arr3 16 2048 2560) = arr3 (dx (argsOf m c))
    ∧ (r.2.mem ((c.tc : Thread nD τ).loc main_v8) : Arr2 2560 2304) = arr2 (dphi (argsOf m c))
    ∧ (r.2.mem ((c.tc : Thread nD τ).loc main_v7) : Arr3 16 2304 2560) = arr3 (dslot (argsOf m c))
    ∧ (r.2.mem ((c.tc : Thread nD τ).loc main_v5_0) : Arr3 16 2048 2304) = arr3 (dl (argsOf m c))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) :=
  (θ_run defs _ _).mono (fun _ h c => ⟨
    (h.1 c _ (mem_uc main_v6 (by decide))).trans (W6_dx m ρ c),
    (h.1 c _ (mem_uc main_v8 (by decide))).trans (W6_dphi m ρ c),
    (h.1 c _ (mem_uc main_v7 (by decide))).trans (W6_dslot m ρ c),
    (h.1 c _ (mem_uc main_v5_0 (by decide))).trans (W6_dl m ρ c),
    (h.1 c _ (mem_uc main_arg0 (by decide))).trans (W6_main_arg0 m ρ c),
    (h.1 c _ (mem_uc main_arg1 (by decide))).trans (W6_main_arg1 m ρ c),
    (h.1 c _ (mem_uc main_arg2 (by decide))).trans (W6_main_arg2 m ρ c),
    (h.1 c _ (mem_uc main_arg3 (by decide))).trans (W6_main_arg3 m ρ c),
    (h.1 c _ (mem_uc main_arg4 (by decide))).trans (W6_main_arg4 m ρ c),
    (h.1 c _ (mem_uc main_arg5 (by decide))).trans (W6_main_arg5 m ρ c),
    (h.1 c _ (mem_uc main_arg6 (by decide))).trans (W6_main_arg6 m ρ c),
    (h.1 c _ (mem_uc main_arg7 (by decide))).trans (W6_main_arg7 m ρ c),
    (h.1 c _ (mem_uc main_arg8 (by decide))).trans (W6_main_arg8 m ρ c)⟩) (state m ρ)

end Cert.KernelIdeal.Whole

end
-- ==== Proof.V.Ref.lean ====
/- The reference program's four results are the mathematics of `V/Spec.lean`. -/
module

public import proofs.«01_k».proof.Proof.V.Spec
public import proofs.«01_k».proof.Proof.Gen.ReferenceIdeal.Read

@[expose] public section

noncomputable section

namespace Cert.ReferenceIdeal.Spec

open Idealize Idealize.ShloMosaic Cert.ReferenceIdeal Cert.ReferenceIdeal.Read
open Cert.Spec

variable (A : Args)

theorem v7 (b : Fin 16) (t : Fin 2048) (s : Fin 2304) :
    val_main_v7 (F := Ideal) A.xs A.ps A.x A.ph (ix3 b t s) = lg A b t s := by
  pointwise [val_main_v7, val_main_v6, val_main_v5, val_main_v4, val_main_v3, val_main_v2, val_main_v1]
  rfl

theorem v8 (b : Fin 16) (s : Fin 2304) :
    val_main_v8 (F := Ideal) A.xs A.ps A.x A.ph (ix2 b s) = vmax fun t => lg A b t s := by
  pointwise [val_main_v8, val_main_cst, v7]
  rfl

theorem v12 (b : Fin 16) (t : Fin 2048) (s : Fin 2304) :
    val_main_v12 (F := Ideal) A.xs A.ps A.x A.ph (ix3 b t s) = ve (fun t => lg A b t s) t := by
  pointwise [val_main_v12, val_main_v11, val_main_v10, val_main_v9, v7, v8]
  rfl

theorem v18 (b : Fin 16) (t : Fin 2048) (s : Fin 2304) :
    val_main_v18 (F := Ideal) A.xs A.ps A.x A.ph (ix3 b t s) = disp A b t s := by
  pointwise [val_main_v18, val_main_v17, val_main_v16, val_main_v15, val_main_v14, val_main_v13, val_main_cst_0, val_main_cst_1, v12]
  rfl

theorem v19 (b : Fin 16) (t : Fin 2048) :
    val_main_v19 (F := Ideal) A.xs A.ps A.x A.ph (ix2 b t) = vmax fun s => lg A b t s := by
  pointwise [val_main_v19, val_main_cst_2, v7]
  rfl

theorem v23 (b : Fin 16) (t : Fin 2048) (s : Fin 2304) :
    val_main_v23 (F := Ideal) A.xs A.ps A.x A.ph (ix3 b t s) = ve (fun s => lg A b t s) s := by
  pointwise [val_main_v23, val_main_v22, val_main_v21, val_main_v20, v7, v19]
  rfl

theorem v29 (b : Fin 16) (t : Fin 2048) (s : Fin 2304) :
    val_main_v29 (F := Ideal) A.xs A.ps A.x A.ph (ix3 b t s) = comb A b t s := by
  pointwise [val_main_v29, val_main_v28, val_main_v27, val_main_v26, val_main_v25, val_main_v24, val_main_cst_3, val_main_cst_4, v23]
  rfl

theorem v36 (b : Fin 16) (t : Fin 2048) (s : Fin 2304) :
    val_main_v36 (F := Ideal) A.yss A.dys A.ys A.dy (ix3 b t s) = dc A b t s := by
  pointwise [val_main_v36, val_main_v35, val_main_v34, val_main_v33, val_main_v32, val_main_v31, val_main_v30]
  rfl

theorem v52 (b : Fin 16) (t : Fin 2048) (s : Fin 2304) :
    val_main_v52 (F := Ideal) A.xs A.ds A.x (ix3 b t s) = dd A b t s := by
  pointwise [val_main_v52, val_main_v51, val_main_v50, val_main_v49]
  rfl

theorem v42 (b : Fin 16) (t : Fin 2048) (s : Fin 2304) :
    val_main_v42 (F := Ideal) A.xs A.ps A.yss A.dys A.x A.ph A.ys A.dy (ix3 b t s)
      = comb A b t s * (dc A b t s - ∑ s' : Fin 2304, comb A b t s' * dc A b t s') := by
  pointwise [val_main_v42, val_main_v41, val_main_v40, val_main_v39, val_main_v38, val_main_v37, val_main_cst_5, v29, v36]

theorem v58 (b : Fin 16) (t : Fin 2048) (s : Fin 2304) :
    val_main_v58 (F := Ideal) A.xs A.ps A.ds A.x A.ph (ix3 b t s) = disp A b t s * (dd A b t s - q A b s) := by
  pointwise [val_main_v58, val_main_v57, val_main_v56, val_main_v55, val_main_v54, val_main_v53, val_main_cst_6, v18, v52]
  rfl

theorem v61 (b : Fin 16) (t : Fin 2048) (s : Fin 2304) :
    val_main_v61 (F := Ideal) A.xs A.ps A.yss A.dys A.ds A.x A.ph A.ys A.dy (ix3 b t s) = dl A b t s := by
  pointwise [val_main_v61, v42, v58]
  rfl

theorem v48 (b : Fin 16) (s : Fin 2304) (d : Fin 2560) :
    val_main_v48 (F := Ideal) A.xs A.ps A.dys A.x A.ph A.dy (ix3 b s d) = dslot A b s d := by
  pointwise [val_main_v48, val_main_v47, val_main_v46, val_main_v45, val_main_v44, val_main_v43, v29]
  rfl

theorem v60 (b : Fin 16) (t : Fin 2048) (d : Fin 2560) :
    val_main_v60 (F := Ideal) A.xs A.ps A.ds A.x A.ph (ix3 b t d) = ∑ s : Fin 2304, disp A b t s * A.ds (ix3 b s d) := by
  pointwise [val_main_v60, val_main_v59, v18]

theorem v67 (b : Fin 16) (t : Fin 2048) (d : Fin 2560) :
    val_main_v67 (F := Ideal) A.xs A.ps A.yss A.dys A.ds A.x A.ph A.ys A.dy (ix3 b t d)
      = ∑ s : Fin 2304, dl A b t s * (A.ph (ix2 d s) * A.ps (ix1 s)) := by
  pointwise [val_main_v67, val_main_v66, val_main_v65, val_main_v64, val_main_v63, val_main_v62, v61]

theorem v75 (b : Fin 16) (t : Fin 2048) (d : Fin 2560) :
    val_main_v75 (F := Ideal) A.xs A.ps A.yss A.dys A.ds A.x A.ph A.ys A.dy (ix3 b t d) = dx A b t d := by
  pointwise [val_main_v75, val_main_v74, v60, v67]
  rfl

theorem v73 (d : Fin 2560) (s : Fin 2304) :
    val_main_v73 (F := Ideal) A.xs A.ps A.yss A.dys A.ds A.x A.ph A.ys A.dy (ix2 d s) = dphi A d s := by
  pointwise [val_main_v73, val_main_v72, val_main_v71, val_main_v70, val_main_v69, val_main_v68, val_main_v62, v61]
  rfl

end Cert.ReferenceIdeal.Spec

end
-- ==== Proof.V.RefRegion.lean ====
/- The reference's one kernel call, without a grid: it casts the four code arrays to bf16, and over the extended reals
   that leaves them as they are. -/
module

public import proofs.«01_k».proof.Proof.V.Ref
public import proofs.«01_k».proof.Proof.Gen.ReferenceIdeal.Run
public import Idealize.ShloMosaic.Lib.Pipeline.Value
public import Idealize.ShloMosaic.Lib.Pipeline.ValueKit

@[expose] public section

noncomputable section

namespace Cert.ReferenceIdeal.Spec

open Idealize Idealize.ShloMosaic Idealize.ShloMosaic.TcCoe
open Cert.ReferenceIdeal Cert.ReferenceIdeal.Gen Cert.Spec

variable (m : (ℓ : Loc nD τ sig) → Buf (Elt Ideal) ℓ) (c : Dev nD)

theorem idx_0 : ∀ t : Fin cfg0.N, win0_0.index t = ![0, 0, 0] := (by decide +kernel : ∀ t : Fin grid0.N, _)
theorem idx_4 : ∀ t : Fin cfg0.N, win0_4.index t = ![0, 0, 0] := (by decide +kernel : ∀ t : Fin grid0.N, _)

theorem iblk_0 (t : Fin cfg0.N) : (iblk m c 0 t : Arr3 16 2048 2560) = m ((c.tc : Thread nD τ).loc main_arg0) := by
  have h0 : win0_0.index t 0 = 0 := congrFun (idx_0 t) 0
  have h1 : win0_0.index t 1 = 0 := congrFun (idx_0 t) 1
  have h2 : win0_0.index t 2 = 0 := congrFun (idx_0 t) 2
  funext y
  refine congrArg (m ((c.tc : Thread nD τ).loc main_arg0) : Arr3 16 2048 2560) (funext fun a => Fin.ext ?_)
  match a with
  | ⟨0, _⟩ => show win0_0.index t 0 * 16 + 1 * (y 0).val = (y 0).val; rw [h0, Nat.zero_mul, Nat.one_mul, Nat.zero_add]
  | ⟨1, _⟩ => show win0_0.index t 1 * 2048 + 1 * (y 1).val = (y 1).val; rw [h1, Nat.zero_mul, Nat.one_mul, Nat.zero_add]
  | ⟨2, _⟩ => show win0_0.index t 2 * 2560 + 1 * (y 2).val = (y 2).val; rw [h2, Nat.zero_mul, Nat.one_mul, Nat.zero_add]

theorem pay_0 (x : Vec Ideal S16x2048x2560 .fp8e4m3) : k0_pay1 x = x := by
  funext j
  rw [eq_ix3 (n0 := 16) (n1 := 2048) (n2 := 2560) j]
  generalize (j 0 : Fin 16) = i0
  generalize (j 1 : Fin 2048) = i1
  generalize (j 2 : Fin 2560) = i2
  pointwise [k0_pay1]

theorem reg_0 : (Value.reg_main_v0_0 m c : Arr3 16 2048 2560) = m ((c.tc : Thread nD τ).loc main_arg0) := by
  unfold Value.reg_main_v0_0
  refine (dats m 0 c).arrAt_eq_of_cover 4 (m ((c.tc : Thread nD τ).loc main_arg0) : Arr3 16 2048 2560) (fun t _ => ?_) (fun i => ?_)
  · have e : ((dats m 0 c).after 4 t : Arr3 16 2048 2560) = m ((c.tc : Thread nD τ).loc main_arg0) := by
      rw [after0_4]
      unfold out0_4
      refine (View.canon_cons_unit_lit (S := S16x2048x2560) _ _ _ (by decide)).trans ?_
      rw [View.ld_unit_lit _ _ (by decide), pay_0, iblk_0]
    have h0 : win0_4.index t 0 = 0 := congrFun (idx_4 t) 0
    have h1 : win0_4.index t 1 = 0 := congrFun (idx_4 t) 1
    have h2 : win0_4.index t 2 = 0 := congrFun (idx_4 t) 2
    funext y
    refine Eq.trans (?_ : _ = ((dats m 0 c).after 4 t) y) ((congrFun e y).trans ?_)
    · rfl
    refine congrArg (m ((c.tc : Thread nD τ).loc main_arg0) : Arr3 16 2048 2560) (funext fun a => Fin.ext (Eq.symm ?_))
    match a with
    | ⟨0, _⟩ => show win0_4.index t 0 * 16 + 1 * (y 0).val = (y 0).val; rw [h0, Nat.zero_mul, Nat.one_mul, Nat.zero_add]
    | ⟨1, _⟩ => show win0_4.index t 1 * 2048 + 1 * (y 1).val = (y 1).val; rw [h1, Nat.zero_mul, Nat.one_mul, Nat.zero_add]
    | ⟨2, _⟩ => show win0_4.index t 2 * 2560 + 1 * (y 2).val = (y 2).val; rw [h2, Nat.zero_mul, Nat.one_mul, Nat.zero_add]
  · obtain ⟨t⟩ : Nonempty (Fin cfg0.N) := ⟨⟨0, by decide⟩⟩
    have h0 : win0_4.index t 0 = 0 := congrFun (idx_4 t) 0
    have h1 : win0_4.index t 1 = 0 := congrFun (idx_4 t) 1
    have h2 : win0_4.index t 2 = 0 := congrFun (idx_4 t) 2
    refine ⟨t, (by decide +kernel : ∀ t : Fin cfg0.N, (cfg0.win 4).flush t = true) t, ?_⟩
    show i ∈ ((View.whole (Pipeline.arrRef spec0 4)).slice (win0_4.rect t)).set
    rw [View.set_slice_whole, Rect.mem_set_unit]
    intro a
    match a with
    | ⟨0, _⟩ => have := (i 0).isLt; show win0_4.index t 0 * 16 ≤ (i 0).val ∧ (i 0).val < win0_4.index t 0 * 16 + 16; rw [h0, Nat.zero_mul, Nat.zero_add]; exact ⟨Nat.zero_le _, this⟩
    | ⟨1, _⟩ => have := (i 1).isLt; show win0_4.index t 1 * 2048 ≤ (i 1).val ∧ (i 1).val < win0_4.index t 1 * 2048 + 2048; rw [h1, Nat.zero_mul, Nat.zero_add]; exact ⟨Nat.zero_le _, this⟩
    | ⟨2, _⟩ => have := (i 2).isLt; show win0_4.index t 2 * 2560 ≤ (i 2).val ∧ (i 2).val < win0_4.index t 2 * 2560 + 2560; rw [h2, Nat.zero_mul, Nat.zero_add]; exact ⟨Nat.zero_le _, this⟩

theorem idx_1 : ∀ t : Fin cfg0.N, win0_1.index t = ![0, 0] := (by decide +kernel : ∀ t : Fin grid0.N, _)
theorem idx_5 : ∀ t : Fin cfg0.N, win0_5.index t = ![0, 0] := (by decide +kernel : ∀ t : Fin grid0.N, _)

theorem iblk_1 (t : Fin cfg0.N) : (iblk m c 1 t : Arr2 2560 2304) = m ((c.tc : Thread nD τ).loc main_arg2) := by
  have h0 : win0_1.index t 0 = 0 := congrFun (idx_1 t) 0
  have h1 : win0_1.index t 1 = 0 := congrFun (idx_1 t) 1
  funext y
  refine congrArg (m ((c.tc : Thread nD τ).loc main_arg2) : Arr2 2560 2304) (funext fun a => Fin.ext ?_)
  match a with
  | ⟨0, _⟩ => show win0_1.index t 0 * 2560 + 1 * (y 0).val = (y 0).val; rw [h0, Nat.zero_mul, Nat.one_mul, Nat.zero_add]
  | ⟨1, _⟩ => show win0_1.index t 1 * 2304 + 1 * (y 1).val = (y 1).val; rw [h1, Nat.zero_mul, Nat.one_mul, Nat.zero_add]

theorem pay_1 (x : Vec Ideal S2560x2304 .fp8e4m3) : k0_pay2 x = x := by
  funext j
  rw [eq_ix2 (n0 := 2560) (n1 := 2304) j]
  generalize (j 0 : Fin 2560) = i0
  generalize (j 1 : Fin 2304) = i1
  pointwise [k0_pay2]

theorem reg_1 : (Value.reg_main_v0_1 m c : Arr2 2560 2304) = m ((c.tc : Thread nD τ).loc main_arg2) := by
  unfold Value.reg_main_v0_1
  refine (dats m 0 c).arrAt_eq_of_cover 5 (m ((c.tc : Thread nD τ).loc main_arg2) : Arr2 2560 2304) (fun t _ => ?_) (fun i => ?_)
  · have e : ((dats m 0 c).after 5 t : Arr2 2560 2304) = m ((c.tc : Thread nD τ).loc main_arg2) := by
      rw [after0_5]
      unfold out0_5
      refine (View.canon_cons_unit_lit (S := S2560x2304) _ _ _ (by decide)).trans ?_
      rw [View.ld_unit_lit _ _ (by decide), pay_1, iblk_1]
    have h0 : win0_5.index t 0 = 0 := congrFun (idx_5 t) 0
    have h1 : win0_5.index t 1 = 0 := congrFun (idx_5 t) 1
    funext y
    refine Eq.trans (?_ : _ = ((dats m 0 c).after 5 t) y) ((congrFun e y).trans ?_)
    · rfl
    refine congrArg (m ((c.tc : Thread nD τ).loc main_arg2) : Arr2 2560 2304) (funext fun a => Fin.ext (Eq.symm ?_))
    match a with
    | ⟨0, _⟩ => show win0_5.index t 0 * 2560 + 1 * (y 0).val = (y 0).val; rw [h0, Nat.zero_mul, Nat.one_mul, Nat.zero_add]
    | ⟨1, _⟩ => show win0_5.index t 1 * 2304 + 1 * (y 1).val = (y 1).val; rw [h1, Nat.zero_mul, Nat.one_mul, Nat.zero_add]
  · obtain ⟨t⟩ : Nonempty (Fin cfg0.N) := ⟨⟨0, by decide⟩⟩
    have h0 : win0_5.index t 0 = 0 := congrFun (idx_5 t) 0
    have h1 : win0_5.index t 1 = 0 := congrFun (idx_5 t) 1
    refine ⟨t, (by decide +kernel : ∀ t : Fin cfg0.N, (cfg0.win 5).flush t = true) t, ?_⟩
    show i ∈ ((View.whole (Pipeline.arrRef spec0 5)).slice (win0_5.rect t)).set
    rw [View.set_slice_whole, Rect.mem_set_unit]
    intro a
    match a with
    | ⟨0, _⟩ => have := (i 0).isLt; show win0_5.index t 0 * 2560 ≤ (i 0).val ∧ (i 0).val < win0_5.index t 0 * 2560 + 2560; rw [h0, Nat.zero_mul, Nat.zero_add]; exact ⟨Nat.zero_le _, this⟩
    | ⟨1, _⟩ => have := (i 1).isLt; show win0_5.index t 1 * 2304 ≤ (i 1).val ∧ (i 1).val < win0_5.index t 1 * 2304 + 2304; rw [h1, Nat.zero_mul, Nat.zero_add]; exact ⟨Nat.zero_le _, this⟩

theorem idx_2 : ∀ t : Fin cfg0.N, win0_2.index t = ![0, 0, 0] := (by decide +kernel : ∀ t : Fin grid0.N, _)
theorem idx_6 : ∀ t : Fin cfg0.N, win0_6.index t = ![0, 0, 0] := (by decide +kernel : ∀ t : Fin grid0.N, _)

theorem iblk_2 (t : Fin cfg0.N) : (iblk m c 2 t : Arr3 16 2304 2560) = m ((c.tc : Thread nD τ).loc main_arg4) := by
  have h0 : win0_2.index t 0 = 0 := congrFun (idx_2 t) 0
  have h1 : win0_2.index t 1 = 0 := congrFun (idx_2 t) 1
  have h2 : win0_2.index t 2 = 0 := congrFun (idx_2 t) 2
  funext y
  refine congrArg (m ((c.tc : Thread nD τ).loc main_arg4) : Arr3 16 2304 2560) (funext fun a => Fin.ext ?_)
  match a with
  | ⟨0, _⟩ => show win0_2.index t 0 * 16 + 1 * (y 0).val = (y 0).val; rw [h0, Nat.zero_mul, Nat.one_mul, Nat.zero_add]
  | ⟨1, _⟩ => show win0_2.index t 1 * 2304 + 1 * (y 1).val = (y 1).val; rw [h1, Nat.zero_mul, Nat.one_mul, Nat.zero_add]
  | ⟨2, _⟩ => show win0_2.index t 2 * 2560 + 1 * (y 2).val = (y 2).val; rw [h2, Nat.zero_mul, Nat.one_mul, Nat.zero_add]

theorem pay_2 (x : Vec Ideal S16x2304x2560 .fp8e4m3) : k0_pay3 x = x := by
  funext j
  rw [eq_ix3 (n0 := 16) (n1 := 2304) (n2 := 2560) j]
  generalize (j 0 : Fin 16) = i0
  generalize (j 1 : Fin 2304) = i1
  generalize (j 2 : Fin 2560) = i2
  pointwise [k0_pay3]

theorem reg_2 : (Value.reg_main_v0_2 m c : Arr3 16 2304 2560) = m ((c.tc : Thread nD τ).loc main_arg4) := by
  unfold Value.reg_main_v0_2
  refine (dats m 0 c).arrAt_eq_of_cover 6 (m ((c.tc : Thread nD τ).loc main_arg4) : Arr3 16 2304 2560) (fun t _ => ?_) (fun i => ?_)
  · have e : ((dats m 0 c).after 6 t : Arr3 16 2304 2560) = m ((c.tc : Thread nD τ).loc main_arg4) := by
      rw [after0_6]
      unfold out0_6
      refine (View.canon_cons_unit_lit (S := S16x2304x2560) _ _ _ (by decide)).trans ?_
      rw [View.ld_unit_lit _ _ (by decide), pay_2, iblk_2]
    have h0 : win0_6.index t 0 = 0 := congrFun (idx_6 t) 0
    have h1 : win0_6.index t 1 = 0 := congrFun (idx_6 t) 1
    have h2 : win0_6.index t 2 = 0 := congrFun (idx_6 t) 2
    funext y
    refine Eq.trans (?_ : _ = ((dats m 0 c).after 6 t) y) ((congrFun e y).trans ?_)
    · rfl
    refine congrArg (m ((c.tc : Thread nD τ).loc main_arg4) : Arr3 16 2304 2560) (funext fun a => Fin.ext (Eq.symm ?_))
    match a with
    | ⟨0, _⟩ => show win0_6.index t 0 * 16 + 1 * (y 0).val = (y 0).val; rw [h0, Nat.zero_mul, Nat.one_mul, Nat.zero_add]
    | ⟨1, _⟩ => show win0_6.index t 1 * 2304 + 1 * (y 1).val = (y 1).val; rw [h1, Nat.zero_mul, Nat.one_mul, Nat.zero_add]
    | ⟨2, _⟩ => show win0_6.index t 2 * 2560 + 1 * (y 2).val = (y 2).val; rw [h2, Nat.zero_mul, Nat.one_mul, Nat.zero_add]
  · obtain ⟨t⟩ : Nonempty (Fin cfg0.N) := ⟨⟨0, by decide⟩⟩
    have h0 : win0_6.index t 0 = 0 := congrFun (idx_6 t) 0
    have h1 : win0_6.index t 1 = 0 := congrFun (idx_6 t) 1
    have h2 : win0_6.index t 2 = 0 := congrFun (idx_6 t) 2
    refine ⟨t, (by decide +kernel : ∀ t : Fin cfg0.N, (cfg0.win 6).flush t = true) t, ?_⟩
    show i ∈ ((View.whole (Pipeline.arrRef spec0 6)).slice (win0_6.rect t)).set
    rw [View.set_slice_whole, Rect.mem_set_unit]
    intro a
    match a with
    | ⟨0, _⟩ => have := (i 0).isLt; show win0_6.index t 0 * 16 ≤ (i 0).val ∧ (i 0).val < win0_6.index t 0 * 16 + 16; rw [h0, Nat.zero_mul, Nat.zero_add]; exact ⟨Nat.zero_le _, this⟩
    | ⟨1, _⟩ => have := (i 1).isLt; show win0_6.index t 1 * 2304 ≤ (i 1).val ∧ (i 1).val < win0_6.index t 1 * 2304 + 2304; rw [h1, Nat.zero_mul, Nat.zero_add]; exact ⟨Nat.zero_le _, this⟩
    | ⟨2, _⟩ => have := (i 2).isLt; show win0_6.index t 2 * 2560 ≤ (i 2).val ∧ (i 2).val < win0_6.index t 2 * 2560 + 2560; rw [h2, Nat.zero_mul, Nat.zero_add]; exact ⟨Nat.zero_le _, this⟩

theorem idx_3 : ∀ t : Fin cfg0.N, win0_3.index t = ![0, 0, 0] := (by decide +kernel : ∀ t : Fin grid0.N, _)
theorem idx_7 : ∀ t : Fin cfg0.N, win0_7.index t = ![0, 0, 0] := (by decide +kernel : ∀ t : Fin grid0.N, _)

theorem iblk_3 (t : Fin cfg0.N) : (iblk m c 3 t : Arr3 16 2048 2560) = m ((c.tc : Thread nD τ).loc main_arg6) := by
  have h0 : win0_3.index t 0 = 0 := congrFun (idx_3 t) 0
  have h1 : win0_3.index t 1 = 0 := congrFun (idx_3 t) 1
  have h2 : win0_3.index t 2 = 0 := congrFun (idx_3 t) 2
  funext y
  refine congrArg (m ((c.tc : Thread nD τ).loc main_arg6) : Arr3 16 2048 2560) (funext fun a => Fin.ext ?_)
  match a with
  | ⟨0, _⟩ => show win0_3.index t 0 * 16 + 1 * (y 0).val = (y 0).val; rw [h0, Nat.zero_mul, Nat.one_mul, Nat.zero_add]
  | ⟨1, _⟩ => show win0_3.index t 1 * 2048 + 1 * (y 1).val = (y 1).val; rw [h1, Nat.zero_mul, Nat.one_mul, Nat.zero_add]
  | ⟨2, _⟩ => show win0_3.index t 2 * 2560 + 1 * (y 2).val = (y 2).val; rw [h2, Nat.zero_mul, Nat.one_mul, Nat.zero_add]

theorem pay_3 (x : Vec Ideal S16x2048x2560 .fp8e5m2) : k0_pay4 x = x := by
  funext j
  rw [eq_ix3 (n0 := 16) (n1 := 2048) (n2 := 2560) j]
  generalize (j 0 : Fin 16) = i0
  generalize (j 1 : Fin 2048) = i1
  generalize (j 2 : Fin 2560) = i2
  pointwise [k0_pay4]

theorem reg_3 : (Value.reg_main_v0_3 m c : Arr3 16 2048 2560) = m ((c.tc : Thread nD τ).loc main_arg6) := by
  unfold Value.reg_main_v0_3
  refine (dats m 0 c).arrAt_eq_of_cover 7 (m ((c.tc : Thread nD τ).loc main_arg6) : Arr3 16 2048 2560) (fun t _ => ?_) (fun i => ?_)
  · have e : ((dats m 0 c).after 7 t : Arr3 16 2048 2560) = m ((c.tc : Thread nD τ).loc main_arg6) := by
      rw [after0_7]
      unfold out0_7
      refine (View.canon_cons_unit_lit (S := S16x2048x2560) _ _ _ (by decide)).trans ?_
      rw [View.ld_unit_lit _ _ (by decide), pay_3, iblk_3]
    have h0 : win0_7.index t 0 = 0 := congrFun (idx_7 t) 0
    have h1 : win0_7.index t 1 = 0 := congrFun (idx_7 t) 1
    have h2 : win0_7.index t 2 = 0 := congrFun (idx_7 t) 2
    funext y
    refine Eq.trans (?_ : _ = ((dats m 0 c).after 7 t) y) ((congrFun e y).trans ?_)
    · rfl
    refine congrArg (m ((c.tc : Thread nD τ).loc main_arg6) : Arr3 16 2048 2560) (funext fun a => Fin.ext (Eq.symm ?_))
    match a with
    | ⟨0, _⟩ => show win0_7.index t 0 * 16 + 1 * (y 0).val = (y 0).val; rw [h0, Nat.zero_mul, Nat.one_mul, Nat.zero_add]
    | ⟨1, _⟩ => show win0_7.index t 1 * 2048 + 1 * (y 1).val = (y 1).val; rw [h1, Nat.zero_mul, Nat.one_mul, Nat.zero_add]
    | ⟨2, _⟩ => show win0_7.index t 2 * 2560 + 1 * (y 2).val = (y 2).val; rw [h2, Nat.zero_mul, Nat.one_mul, Nat.zero_add]
  · obtain ⟨t⟩ : Nonempty (Fin cfg0.N) := ⟨⟨0, by decide⟩⟩
    have h0 : win0_7.index t 0 = 0 := congrFun (idx_7 t) 0
    have h1 : win0_7.index t 1 = 0 := congrFun (idx_7 t) 1
    have h2 : win0_7.index t 2 = 0 := congrFun (idx_7 t) 2
    refine ⟨t, (by decide +kernel : ∀ t : Fin cfg0.N, (cfg0.win 7).flush t = true) t, ?_⟩
    show i ∈ ((View.whole (Pipeline.arrRef spec0 7)).slice (win0_7.rect t)).set
    rw [View.set_slice_whole, Rect.mem_set_unit]
    intro a
    match a with
    | ⟨0, _⟩ => have := (i 0).isLt; show win0_7.index t 0 * 16 ≤ (i 0).val ∧ (i 0).val < win0_7.index t 0 * 16 + 16; rw [h0, Nat.zero_mul, Nat.zero_add]; exact ⟨Nat.zero_le _, this⟩
    | ⟨1, _⟩ => have := (i 1).isLt; show win0_7.index t 1 * 2048 ≤ (i 1).val ∧ (i 1).val < win0_7.index t 1 * 2048 + 2048; rw [h1, Nat.zero_mul, Nat.zero_add]; exact ⟨Nat.zero_le _, this⟩
    | ⟨2, _⟩ => have := (i 2).isLt; show win0_7.index t 2 * 2560 ≤ (i 2).val ∧ (i 2).val < win0_7.index t 2 * 2560 + 2560; rw [h2, Nat.zero_mul, Nat.zero_add]; exact ⟨Nat.zero_le _, this⟩

end Cert.ReferenceIdeal.Spec

end
-- ==== Proof.V.RefRun.lean ====
/- What the reference computes: each of its four results is the plain arithmetic of `Spec` on the arrays it was given. -/
module

public import proofs.«01_k».proof.Proof.V.RefRegion

@[expose] public section

noncomputable section

namespace Cert.ReferenceIdeal.Spec

open Idealize Idealize.ShloMosaic Idealize.ShloMosaic.TcCoe
open Cert.ReferenceIdeal Cert.ReferenceIdeal.Gen Cert.ReferenceIdeal.Read Cert.Spec

variable (m : (ℓ : Loc nD τ sig) → Buf (Elt Ideal) ℓ) (ρ : Dev nD → PrngReg) (c : Dev nD)

/-- The nine arrays the reference is given. -/
def argsOf : Args where
  x := m ((c.tc : Thread nD τ).loc main_arg0)
  xs := m ((c.tc : Thread nD τ).loc main_arg1)
  ph := m ((c.tc : Thread nD τ).loc main_arg2)
  ps := m ((c.tc : Thread nD τ).loc main_arg3)
  ys := m ((c.tc : Thread nD τ).loc main_arg4)
  yss := m ((c.tc : Thread nD τ).loc main_arg5)
  dy := m ((c.tc : Thread nD τ).loc main_arg6)
  dys := m ((c.tc : Thread nD τ).loc main_arg7)
  ds := m ((c.tc : Thread nD τ).loc main_arg8)

/-- The gradient of the tokens. -/
theorem res_v75 : (val_main_v75 (F := Ideal) (Value.exitV m c (Proc.devRef .tc main_arg1)) (Value.exitV m c (Proc.devRef .tc main_arg3)) (Value.exitV m c (Proc.devRef .tc main_arg5)) (Value.exitV m c (Proc.devRef .tc main_arg7)) (Value.exitV m c (Proc.devRef .tc main_arg8)) (Value.exitV m c (Proc.devRef .tc main_v0_0)) (Value.exitV m c (Proc.devRef .tc main_v0_1)) (Value.exitV m c (Proc.devRef .tc main_v0_2)) (Value.exitV m c (Proc.devRef .tc main_v0_3)) : Arr3 16 2048 2560) = arr3 (dx (argsOf m c)) := by
  have e_arg1 : Value.exitV m c (Proc.devRef .tc main_arg1) = (argsOf m c).xs := Value.exit_main_arg1 m c
  have e_arg3 : Value.exitV m c (Proc.devRef .tc main_arg3) = (argsOf m c).ps := Value.exit_main_arg3 m c
  have e_arg5 : Value.exitV m c (Proc.devRef .tc main_arg5) = (argsOf m c).yss := Value.exit_main_arg5 m c
  have e_arg7 : Value.exitV m c (Proc.devRef .tc main_arg7) = (argsOf m c).dys := Value.exit_main_arg7 m c
  have e_arg8 : Value.exitV m c (Proc.devRef .tc main_arg8) = (argsOf m c).ds := Value.exit_main_arg8 m c
  have e_v0_0 : Value.exitV m c (Proc.devRef .tc main_v0_0) = (argsOf m c).x := (Value.exit_main_v0_0 m c).trans (reg_0 m c)
  have e_v0_1 : Value.exitV m c (Proc.devRef .tc main_v0_1) = (argsOf m c).ph := (Value.exit_main_v0_1 m c).trans (reg_1 m c)
  have e_v0_2 : Value.exitV m c (Proc.devRef .tc main_v0_2) = (argsOf m c).ys := (Value.exit_main_v0_2 m c).trans (reg_2 m c)
  have e_v0_3 : Value.exitV m c (Proc.devRef .tc main_v0_3) = (argsOf m c).dy := (Value.exit_main_v0_3 m c).trans (reg_3 m c)
  rw [e_arg1, e_arg3, e_arg5, e_arg7, e_arg8, e_v0_0, e_v0_1, e_v0_2, e_v0_3]
  funext j
  rw [eq_ix3 j]
  exact v75 (argsOf m c) _ _ _

/-- The gradient of the routing matrix. -/
theorem res_v73 : (val_main_v73 (F := Ideal) (Value.exitV m c (Proc.devRef .tc main_arg1)) (Value.exitV m c (Proc.devRef .tc main_arg3)) (Value.exitV m c (Proc.devRef .tc main_arg5)) (Value.exitV m c (Proc.devRef .tc main_arg7)) (Value.exitV m c (Proc.devRef .tc main_arg8)) (Value.exitV m c (Proc.devRef .tc main_v0_0)) (Value.exitV m c (Proc.devRef .tc main_v0_1)) (Value.exitV m c (Proc.devRef .tc main_v0_2)) (Value.exitV m c (Proc.devRef .tc main_v0_3)) : Arr2 2560 2304) = arr2 (dphi (argsOf m c)) := by
  have e_arg1 : Value.exitV m c (Proc.devRef .tc main_arg1) = (argsOf m c).xs := Value.exit_main_arg1 m c
  have e_arg3 : Value.exitV m c (Proc.devRef .tc main_arg3) = (argsOf m c).ps := Value.exit_main_arg3 m c
  have e_arg5 : Value.exitV m c (Proc.devRef .tc main_arg5) = (argsOf m c).yss := Value.exit_main_arg5 m c
  have e_arg7 : Value.exitV m c (Proc.devRef .tc main_arg7) = (argsOf m c).dys := Value.exit_main_arg7 m c
  have e_arg8 : Value.exitV m c (Proc.devRef .tc main_arg8) = (argsOf m c).ds := Value.exit_main_arg8 m c
  have e_v0_0 : Value.exitV m c (Proc.devRef .tc main_v0_0) = (argsOf m c).x := (Value.exit_main_v0_0 m c).trans (reg_0 m c)
  have e_v0_1 : Value.exitV m c (Proc.devRef .tc main_v0_1) = (argsOf m c).ph := (Value.exit_main_v0_1 m c).trans (reg_1 m c)
  have e_v0_2 : Value.exitV m c (Proc.devRef .tc main_v0_2) = (argsOf m c).ys := (Value.exit_main_v0_2 m c).trans (reg_2 m c)
  have e_v0_3 : Value.exitV m c (Proc.devRef .tc main_v0_3) = (argsOf m c).dy := (Value.exit_main_v0_3 m c).trans (reg_3 m c)
  rw [e_arg1, e_arg3, e_arg5, e_arg7, e_arg8, e_v0_0, e_v0_1, e_v0_2, e_v0_3]
  funext j
  rw [eq_ix2 j]
  exact v73 (argsOf m c) _ _

/-- The gradient of the slots. -/
theorem res_v48 : (val_main_v48 (F := Ideal) (Value.exitV m c (Proc.devRef .tc main_arg1)) (Value.exitV m c (Proc.devRef .tc main_arg3)) (Value.exitV m c (Proc.devRef .tc main_arg7)) (Value.exitV m c (Proc.devRef .tc main_v0_0)) (Value.exitV m c (Proc.devRef .tc main_v0_1)) (Value.exitV m c (Proc.devRef .tc main_v0_3)) : Arr3 16 2304 2560) = arr3 (dslot (argsOf m c)) := by
  have e_arg1 : Value.exitV m c (Proc.devRef .tc main_arg1) = (argsOf m c).xs := Value.exit_main_arg1 m c
  have e_arg3 : Value.exitV m c (Proc.devRef .tc main_arg3) = (argsOf m c).ps := Value.exit_main_arg3 m c
  have e_arg7 : Value.exitV m c (Proc.devRef .tc main_arg7) = (argsOf m c).dys := Value.exit_main_arg7 m c
  have e_v0_0 : Value.exitV m c (Proc.devRef .tc main_v0_0) = (argsOf m c).x := (Value.exit_main_v0_0 m c).trans (reg_0 m c)
  have e_v0_1 : Value.exitV m c (Proc.devRef .tc main_v0_1) = (argsOf m c).ph := (Value.exit_main_v0_1 m c).trans (reg_1 m c)
  have e_v0_3 : Value.exitV m c (Proc.devRef .tc main_v0_3) = (argsOf m c).dy := (Value.exit_main_v0_3 m c).trans (reg_3 m c)
  rw [e_arg1, e_arg3, e_arg7, e_v0_0, e_v0_1, e_v0_3]
  funext j
  rw [eq_ix3 j]
  exact v48 (argsOf m c) _ _ _

/-- The gradient of the logits. -/
theorem res_v61 : (val_main_v61 (F := Ideal) (Value.exitV m c (Proc.devRef .tc main_arg1)) (Value.exitV m c (Proc.devRef .tc main_arg3)) (Value.exitV m c (Proc.devRef .tc main_arg5)) (Value.exitV m c (Proc.devRef .tc main_arg7)) (Value.exitV m c (Proc.devRef .tc main_arg8)) (Value.exitV m c (Proc.devRef .tc main_v0_0)) (Value.exitV m c (Proc.devRef .tc main_v0_1)) (Value.exitV m c (Proc.devRef .tc main_v0_2)) (Value.exitV m c (Proc.devRef .tc main_v0_3)) : Arr3 16 2048 2304) = arr3 (dl (argsOf m c)) := by
  have e_arg1 : Value.exitV m c (Proc.devRef .tc main_arg1) = (argsOf m c).xs := Value.exit_main_arg1 m c
  have e_arg3 : Value.exitV m c (Proc.devRef .tc main_arg3) = (argsOf m c).ps := Value.exit_main_arg3 m c
  have e_arg5 : Value.exitV m c (Proc.devRef .tc main_arg5) = (argsOf m c).yss := Value.exit_main_arg5 m c
  have e_arg7 : Value.exitV m c (Proc.devRef .tc main_arg7) = (argsOf m c).dys := Value.exit_main_arg7 m c
  have e_arg8 : Value.exitV m c (Proc.devRef .tc main_arg8) = (argsOf m c).ds := Value.exit_main_arg8 m c
  have e_v0_0 : Value.exitV m c (Proc.devRef .tc main_v0_0) = (argsOf m c).x := (Value.exit_main_v0_0 m c).trans (reg_0 m c)
  have e_v0_1 : Value.exitV m c (Proc.devRef .tc main_v0_1) = (argsOf m c).ph := (Value.exit_main_v0_1 m c).trans (reg_1 m c)
  have e_v0_2 : Value.exitV m c (Proc.devRef .tc main_v0_2) = (argsOf m c).ys := (Value.exit_main_v0_2 m c).trans (reg_2 m c)
  have e_v0_3 : Value.exitV m c (Proc.devRef .tc main_v0_3) = (argsOf m c).dy := (Value.exit_main_v0_3 m c).trans (reg_3 m c)
  rw [e_arg1, e_arg3, e_arg5, e_arg7, e_arg8, e_v0_0, e_v0_1, e_v0_2, e_v0_3]
  funext j
  rw [eq_ix3 j]
  exact v61 (argsOf m c) _ _ _

/-- The reference's run: its four results, and its arguments as they were. -/
theorem values : θ_run defs (onTc (τ := τ) main) ⟨m, fun _ => 0, ρ⟩ fun r => ∀ c : Dev nD,
    (r.2.mem ((c.tc : Thread nD τ).loc main_v75) : Arr3 16 2048 2560) = arr3 (dx (argsOf m c))
    ∧ (r.2.mem ((c.tc : Thread nD τ).loc main_v73) : Arr2 2560 2304) = arr2 (dphi (argsOf m c))
    ∧ (r.2.mem ((c.tc : Thread nD τ).loc main_v48) : Arr3 16 2304 2560) = arr3 (dslot (argsOf m c))
    ∧ (r.2.mem ((c.tc : Thread nD τ).loc main_v61) : Arr3 16 2048 2304) = arr3 (dl (argsOf m c))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) :=
  (θ_run defs _ _).mono (fun _ h c => ⟨(h c).1.trans ((Read.val_main_v75_eq (Value.exitV m c)).symm.trans (res_v75 m c)),
    (h c).2.1.trans ((Read.val_main_v73_eq (Value.exitV m c)).symm.trans (res_v73 m c)),
    (h c).2.2.1.trans ((Read.val_main_v48_eq (Value.exitV m c)).symm.trans (res_v48 m c)),
    (h c).2.2.2.1.trans ((Read.val_main_v61_eq (Value.exitV m c)).symm.trans (res_v61 m c)),
    (h c).2.2.2.2⟩) (Value.run m ρ)

end Cert.ReferenceIdeal.Spec

end
-- ==== Proof.lean ====
/- The proof of the certificate: the three programs run and leave their arguments and the machine as they were, and over
   the extended reals the kernel's four results are the reference's. -/
module

public import proofs.«01_k».proof.Defs
public import proofs.«01_k».proof.Proof.Gen.ReferenceIdeal.Frame
public import proofs.«01_k».proof.Proof.K.Main
public import proofs.«01_k».proof.Proof.V.Chain
public import proofs.«01_k».proof.Proof.V.RefRun

@[expose] public section

noncomputable section

namespace Cert.Proof

open Idealize Idealize.ShloMosaic Idealize.ShloMosaic.TcCoe

/-- Memories that agree on the arguments give both programs the same nine arrays. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Spec.argsOf m' c = Cert.KernelIdeal.Whole.argsOf m c := by
  unfold Cert.ReferenceIdeal.Spec.argsOf Cert.KernelIdeal.Whole.argsOf
  congr 1

/-- The two programs' results are equal as extended reals. -/
theorem algebraic : Cert.algebraic_KernelIdeal_ReferenceIdeal (hKernelIdeal := Cert.KernelIdeal.Gen.facts) (hReferenceIdeal := Cert.ReferenceIdeal.Gen.facts) := by
  intro m g m' g' _ hargs
  have e : ∀ c, Cert.ReferenceIdeal.Spec.argsOf m' c = Cert.KernelIdeal.Whole.argsOf m c := fun c => by
    obtain ⟨h0, h1, h2, h3, h4, h5, h6, h7, h8⟩ := hargs c
    exact args_eq m m' c h0 h1 h2 h3 h4 h5 h6 h7 h8
  have hR := Cert.ReferenceIdeal.Spec.values m' g'
  simp only [e] at hR
  exact ⟨fun c => Cert.Spec.arr3 (Cert.Spec.dx (Cert.KernelIdeal.Whole.argsOf m c)),
    fun c => Cert.Spec.arr2 (Cert.Spec.dphi (Cert.KernelIdeal.Whole.argsOf m c)),
    fun c => Cert.Spec.arr3 (Cert.Spec.dslot (Cert.KernelIdeal.Whole.argsOf m c)),
    fun c => Cert.Spec.arr3 (Cert.Spec.dl (Cert.KernelIdeal.Whole.argsOf m c)),
    Cert.KernelIdeal.Whole.values m g, hR⟩

theorem claim : Cert.Claim :=
  ⟨Cert.Kernel.Gen.facts, Cert.KernelIdeal.Gen.facts, Cert.ReferenceIdeal.Gen.facts,
    fun m g _ => Cert.Kernel.Whole.frame m g,
    fun m g _ => Cert.KernelIdeal.Whole.frame m g,
    fun m g _ => Cert.ReferenceIdeal.Gen.frame m g,
    trivial, algebraic⟩

end Cert.Proof

end
